-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_settled [hPre_settled : Cert.Pre_settled.Facts] (m : (ℓ : Loc Cert.KernelIdeal.nD Cert.KernelIdeal.τ Cert.KernelIdeal.sig) → Buf (Elt Ideal) ℓ) : Prop :=
  ∀ c : Dev Cert.KernelIdeal.nD,
    (Cert.Pre_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_settled [hPre_settled : Cert.Pre_settled.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_settled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_settled [hKernelIdeal : Cert.KernelIdeal.Facts] [hPre_settled : Cert.Pre_settled.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_settled m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_settled [hReferenceIdeal : Cert.ReferenceIdeal.Facts] [hPre_settled : Cert.Pre_settled.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_settled m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_settled [hKernelIdeal : Cert.KernelIdeal.Facts] [hReferenceIdeal : Cert.ReferenceIdeal.Facts] [hPre_settled : Cert.Pre_settled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_settled m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v11)) (v3 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_v14) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_v114) = v1 c
          ∧ r.2.mem ((c.tc : Thread Cert.ReferenceIdeal.nD Cert.ReferenceIdeal.τ).loc Cert.ReferenceIdeal.main_v123) = v2 c
          ∧ r.2.mem ((c.tc : Thread Cert.ReferenceIdeal.nD Cert.ReferenceIdeal.τ).loc Cert.ReferenceIdeal.main_v125) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_settled : Cert.Pre_settled.Facts),
    quiescent_Kernel (hKernel := hKernel)
    ∧ quiescent_KernelIdeal (hKernelIdeal := hKernelIdeal)
    ∧ quiescent_KernelIdeal_pre_settled (hKernelIdeal := hKernelIdeal) (hPre_settled := hPre_settled)
    ∧ quiescent_ReferenceIdeal (hReferenceIdeal := hReferenceIdeal)
    ∧ quiescent_ReferenceIdeal_pre_settled (hReferenceIdeal := hReferenceIdeal) (hPre_settled := hPre_settled)
    ∧ preserves_Kernel_KernelIdeal
    ∧ algebraic_KernelIdeal_ReferenceIdeal_pre_settled (hKernelIdeal := hKernelIdeal) (hReferenceIdeal := hReferenceIdeal) (hPre_settled := hPre_settled)
-- ==== Pre_settled.lean ====
abbrev S2x512x512x3 : Shape := ⟨4, ![2, 512, 512, 3]⟩
abbrev S2x49104x84 : Shape := ⟨3, ![2, 49104, 84]⟩
abbrev S49104x4 : Shape := ⟨2, ![49104, 4]⟩
abbrev S2x49104x80 : Shape := ⟨3, ![2, 49104, 80]⟩
abbrev S_ : Shape := ⟨0, ![]⟩
abbrev S2x80x49104 : Shape := ⟨3, ![2, 80, 49104]⟩
abbrev S2x80x1001 : Shape := ⟨3, ![2, 80, 1001]⟩
abbrev S2x80x1 : Shape := ⟨3, ![2, 80, 1]⟩
abbrev S2x80 : Shape := ⟨2, ![2, 80]⟩

class Facts : Prop where
  slices_S2x49104x84_S2x49104x80_0_0_4 : S2x49104x84.Slices ![0, 0, 4] S2x49104x80
  bcast_S_S2x49104x80 : S_.BroadcastsInDim S2x49104x80 (![] : Fin 0 → Fin S2x49104x80.rank)
  transposes_S2x49104x80_S2x80x49104_0_2_1 : S2x49104x80.Transposes [0, 2, 1] S2x80x49104
  sliceFits_S2x80x49104_S2x80x1001 : S2x80x49104.Slices (fun _ => 0) S2x80x1001
  slices_S2x80x1001_S2x80x1_0_0_999 : S2x80x1001.Slices ![0, 0, 999] S2x80x1
  shapeCasts_S2x80x1_S2x80 : S2x80x1.ShapeCasts S2x80
  slices_S2x80x1001_S2x80x1_0_0_1000 : S2x80x1001.Slices ![0, 0, 1000] S2x80x1
  bcast_S_S2x80 : S_.BroadcastsInDim S2x80 (![] : Fin 0 → Fin S2x80.rank)
  reducesTo_S2x80_S_d0_1 : S2x80.ReducesTo [0, 1] S_
  h_S_ : 0 < S_.numel

variable [Facts]

def fn_part1 {F : FTy → Type} [FloatOps F] (main_v9 : FVec F S2x80 .f32) (main_v11 : FVec F S2x80 .f32) (main_v17 : IVec S2x80 1) : IVec S_ 1 :=
  let main_v18 : FVec F S2x80 .f32 := subf main_v9 main_v11
  let main_cst_3 : FVec F S_ .f32 := constant S_ .f32 0x34000000#32
  let main_v19 : FVec F S2x80 .f32 := broadcastInDim S2x80 ![] bcast_S_S2x80 main_cst_3
  let main_v20 : FVec F S2x80 .f32 := mulf main_v9 main_v19
  let main_v21 : IVec S2x80 1 := cmpf .ogt main_v18 main_v20
  let main_cst_4 : FVec F S_ .f32 := constant S_ .f32 0x00800000#32
  let main_v22 : FVec F S2x80 .f32 := broadcastInDim S2x80 ![] bcast_S_S2x80 main_cst_4
  let main_v23 : IVec S2x80 1 := cmpf .oge main_v9 main_v22
  let main_v24 : IVec S2x80 1 := andi main_v21 main_v23
  let main_v25 : IVec S2x80 1 := ori main_v17 main_v24
  let main_c : IVec S_ 1 := constantI S_ 1 1#1
  let main_v26 : IVec S_ 1 := (fun x v => Host.reduce IntOp.andi x v reducesTo_S2x80_S_d0_1 h_S_) main_v25 main_c
  main_v26

def fn {F : FTy → Type} [FloatOps F] (main_arg0 : FVec F S2x512x512x3 .f32) (main_arg1 : FVec F S2x49104x84 .f32) (main_arg2 : FVec F S49104x4 .f32) : IVec S_ 1 :=
  let main_v0 : FVec F S2x49104x80 .f32 := (extractStridedSlice S2x49104x80 ![0, 0, 4] · slices_S2x49104x84_S2x49104x80_0_0_4) main_arg1
  let main_v1 : FVec F S2x49104x80 .f32 := Host.negf main_v0
  let main_v2 : FVec F S2x49104x80 .f32 := Host.exp main_v1
  let main_cst : FVec F S_ .f32 := constant S_ .f32 0x3F800000#32
  let main_v3 : FVec F S2x49104x80 .f32 := broadcastInDim S2x49104x80 ![] bcast_S_S2x49104x80 main_cst
  let main_v4 : FVec F S2x49104x80 .f32 := addf main_v3 main_v2
  let main_cst_0 : FVec F S_ .f32 := constant S_ .f32 0x3F800000#32
  let main_v5 : FVec F S2x49104x80 .f32 := broadcastInDim S2x49104x80 ![] bcast_S_S2x49104x80 main_cst_0
  let main_v6 : FVec F S2x49104x80 .f32 := Host.divf main_v5 main_v4
  let main_v7 : FVec F S2x80x49104 .f32 := (transpose S2x80x49104 [0, 2, 1] · transposes_S2x49104x80_S2x80x49104_0_2_1) main_v6
  let main_values : FVec F S2x80x1001 .f32 := (fun x => (Host.topK S2x80x1001 2 (FloatOps.cmpfTotal .gt) x sliceFits_S2x80x49104_S2x80x1001).1) main_v7
  let main_indices : IVec S2x80x1001 32 := (fun x => (Host.topK S2x80x1001 2 (FloatOps.cmpfTotal .gt) x sliceFits_S2x80x49104_S2x80x1001).2) main_v7
  let main_v8 : FVec F S2x80x1 .f32 := (extractStridedSlice S2x80x1 ![0, 0, 999] · slices_S2x80x1001_S2x80x1_0_0_999) main_values
  let main_v9 : FVec F S2x80 .f32 := shapeCast S2x80 main_v8 shapeCasts_S2x80x1_S2x80
  let main_v10 : FVec F S2x80x1 .f32 := (extractStridedSlice S2x80x1 ![0, 0, 1000] · slices_S2x80x1001_S2x80x1_0_0_1000) main_values
  let main_v11 : FVec F S2x80 .f32 := shapeCast S2x80 main_v10 shapeCasts_S2x80x1_S2x80
  let main_cst_1 : FVec F S_ .f32 := constant S_ .f32 0x4B800000#32
  let main_v12 : FVec F S2x80 .f32 := broadcastInDim S2x80 ![] bcast_S_S2x80 main_cst_1
  let main_v13 : FVec F S2x80 .f32 := mulf main_v9 main_v12
  let main_v14 : FVec F S2x80 .f32 := Host.floor main_v13
  let main_cst_2 : FVec F S_ .f32 := constant S_ .f32 0x4B800000#32
  let main_v15 : FVec F S2x80 .f32 := broadcastInDim S2x80 ![] bcast_S_S2x80 main_cst_2
  let main_v16 : FVec F S2x80 .f32 := mulf main_v9 main_v15
  let main_v17 : IVec S2x80 1 := cmpf .oeq main_v14 main_v16
  fn_part1 (F := F) main_v9 main_v11 main_v17
-- ==== Kernel.lean ====
abbrev S2x512x512x3 : Shape := ⟨4, ![2, 512, 512, 3]⟩
abbrev S2x49104x84 : Shape := ⟨3, ![2, 49104, 84]⟩
abbrev S49104x4 : Shape := ⟨2, ![49104, 4]⟩
abbrev S_ : Shape := ⟨0, ![]⟩
abbrev S49152x8 : Shape := ⟨2, ![49152, 8]⟩
abbrev S8x49152 : Shape := ⟨2, ![8, 49152]⟩
abbrev S1x8x49152 : Shape := ⟨3, ![1, 8, 49152]⟩
abbrev S2x49152x84 : Shape := ⟨3, ![2, 49152, 84]⟩
abbrev S2x84x49152 : Shape := ⟨3, ![2, 84, 49152]⟩
abbrev S8x2x80x6144 : Shape := ⟨4, ![8, 2, 80, 6144]⟩
abbrev S8x2x8x6144 : Shape := ⟨4, ![8, 2, 8, 6144]⟩
abbrev S2x84x1024 : Shape := ⟨3, ![2, 84, 1024]⟩
abbrev S1x8x1024 : Shape := ⟨3, ![1, 8, 1024]⟩
abbrev S1x2x80x1024 : Shape := ⟨4, ![1, 2, 80, 1024]⟩
abbrev S1x2x8x1024 : Shape := ⟨4, ![1, 2, 8, 1024]⟩
abbrev S2x80x1024 : Shape := ⟨3, ![2, 80, 1024]⟩
abbrev S1x1x1024 : Shape := ⟨3, ![1, 1, 1024]⟩
abbrev S2x1x1024 : Shape := ⟨3, ![2, 1, 1024]⟩
abbrev S2x8x1024 : Shape := ⟨3, ![2, 8, 1024]⟩
abbrev S2x128x8 : Shape := ⟨3, ![2, 128, 8]⟩
abbrev S2x80x128 : Shape := ⟨3, ![2, 80, 128]⟩
abbrev S2x80x1 : Shape := ⟨3, ![2, 80, 1]⟩
abbrev S1x2x80x6144 : Shape := ⟨4, ![1, 2, 80, 6144]⟩
abbrev S2x80x6144 : Shape := ⟨3, ![2, 80, 6144]⟩
abbrev S2x80 : Shape := ⟨2, ![2, 80]⟩
abbrev S1x2x8x6144 : Shape := ⟨4, ![1, 2, 8, 6144]⟩
abbrev S2x8x6144 : Shape := ⟨3, ![2, 8, 6144]⟩
abbrev S2x1x6144 : Shape := ⟨3, ![2, 1, 6144]⟩
abbrev S2x1x1 : Shape := ⟨3, ![2, 1, 1]⟩
abbrev S2x1 : Shape := ⟨2, ![2, 1]⟩
abbrev S2x1x8 : Shape := ⟨3, ![2, 1, 8]⟩
abbrev S2x100x1 : Shape := ⟨3, ![2, 100, 1]⟩
abbrev S2x100 : Shape := ⟨2, ![2, 100]⟩
abbrev S2x100x4 : Shape := ⟨3, ![2, 100, 4]⟩
abbrev S2 : Shape := ⟨1, ![2]⟩

abbrev nBuf : Space → Nat
  | .hbm => 23
  | .vmem => 17
  | .smem => 0
  | _ => 0

abbrev bufTy : (tb : Table) → Fin (tcTables nBuf tb) → BufTy
  | .hbm, ⟨0, _⟩ => ⟨S2x512x512x3, .f32⟩
  | .hbm, ⟨1, _⟩ => ⟨S2x49104x84, .f32⟩
  | .hbm, ⟨2, _⟩ => ⟨S49104x4, .f32⟩
  | .hbm, ⟨3, _⟩ => ⟨S_, .f32⟩
  | .hbm, ⟨4, _⟩ => ⟨S_, .f32⟩
  | .hbm, ⟨5, _⟩ => ⟨S49152x8, .f32⟩
  | .hbm, ⟨6, _⟩ => ⟨S8x49152, .f32⟩
  | .hbm, ⟨7, _⟩ => ⟨S1x8x49152, .f32⟩
  | .hbm, ⟨8, _⟩ => ⟨S_, .i32⟩
  | .hbm, ⟨9, _⟩ => ⟨S_, .f32⟩
  | .hbm, ⟨10, _⟩ => ⟨S2x49152x84, .f32⟩
  | .hbm, ⟨11, _⟩ => ⟨S2x84x49152, .f32⟩
  | .hbm, ⟨12, _⟩ => ⟨S8x2x80x6144, .f32⟩
  | .hbm, ⟨13, _⟩ => ⟨S8x2x8x6144, .f32⟩
  | .hbm, ⟨14, _⟩ => ⟨S2x128x8, .f32⟩
  | .hbm, ⟨15, _⟩ => ⟨S2x100x1, .f32⟩
  | .hbm, ⟨16, _⟩ => ⟨S2x100, .f32⟩
  | .hbm, ⟨17, _⟩ => ⟨S2x100x4, .f32⟩
  | .hbm, ⟨18, _⟩ => ⟨S2x100x1, .f32⟩
  | .hbm, ⟨19, _⟩ => ⟨S2x100, .f32⟩
  | .hbm, ⟨20, _⟩ => ⟨S2x1x1, .f32⟩
  | .hbm, ⟨21, _⟩ => ⟨S2, .f32⟩
  | .hbm, ⟨22, _⟩ => ⟨S2, .i32⟩
  | .local _ .vmem, ⟨0, _⟩ => ⟨S2x84x1024, .f32⟩
  | .local _ .vmem, ⟨1, _⟩ => ⟨S2x84x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x2x80x1024, .f32⟩
  | .local _ .vmem, ⟨5, _⟩ => ⟨S1x2x80x1024, .f32⟩
  | .local _ .vmem, ⟨6, _⟩ => ⟨S1x2x8x1024, .f32⟩
  | .local _ .vmem, ⟨7, _⟩ => ⟨S1x2x8x1024, .f32⟩
  | .local _ .vmem, ⟨8, _⟩ => ⟨S8x2x80x6144, .f32⟩
  | .local _ .vmem, ⟨9, _⟩ => ⟨S8x2x8x6144, .f32⟩
  | .local _ .vmem, ⟨10, _⟩ => ⟨S2x128x8, .f32⟩
  | .local _ .vmem, ⟨11, _⟩ => ⟨S8x2x80x6144, .f32⟩
  | .local _ .vmem, ⟨12, _⟩ => ⟨S2x80x128, .f32⟩
  | .local _ .vmem, ⟨13, _⟩ => ⟨S2x80x128, .f32⟩
  | .local _ .vmem, ⟨14, _⟩ => ⟨S2x80x128, .f32⟩
  | .local _ .vmem, ⟨15, _⟩ => ⟨S2x80x128, .f32⟩
  | .local _ .vmem, ⟨16, _⟩ => ⟨S2x80x128, .f32⟩
  | _, _ => ⟨S2x512x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_scratch0 : Ref sig .tc := ⟨.vmem, 11, rfl⟩
abbrev cc1_scratch1 : Ref sig .tc := ⟨.vmem, 12, rfl⟩
abbrev cc1_scratch2 : Ref sig .tc := ⟨.vmem, 13, rfl⟩
abbrev cc1_scratch3 : Ref sig .tc := ⟨.vmem, 14, rfl⟩
abbrev cc1_scratch4 : Ref sig .tc := ⟨.vmem, 15, rfl⟩
abbrev cc1_scratch5 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10

abbrev nD : Nat := 1
abbrev τ : Topo := Topo.v7x

variable {F : FTy → Type} [FloatOps F]

abbrev grid0 : Pipeline.Grid := ⟨1, ![48], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 4 → Nat :=
  let arg0 : BitVec 32 := BitVec.ofNat 32 (i 0).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_3 (i : grid0.Coords) : Fin 4 → Nat :=
  let arg0 : BitVec 32 := BitVec.ofNat 32 (i 0).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

abbrev stage0_0 : Fin 2 → Memref sig .tc .vmem S2x84x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x80x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := .none

@[reducible] def k1_t1_loop : Scf.Loop 32 :=
  let c0_i32_7 : BitVec 32 := 0#32
  let c31_i32 : BitVec 32 := 31#32
  let v6 : BitVec 32 := Scalar.addi c0_i32_7 c31_i32
  let c1_i32 : BitVec 32 := 1#32
  ⟨c0_i32_7, v6, c1_i32⟩
@[reducible] def k1_t2_loop : Scf.Loop 32 :=
  let c0_i32_54 : BitVec 32 := 0#32
  let c8_i32_55 : BitVec 32 := 8#32
  let v56 : BitVec 32 := Scalar.addi c0_i32_54 c8_i32_55
  let c1_i32_56 : BitVec 32 := 1#32
  ⟨c0_i32_54, v56, c1_i32_56⟩
def k1_off1 (k1_t2 : Fin k1_t2_loop.trips) : Fin 4 → Nat :=
  let c0_i32_54 : BitVec 32 := 0#32
  let c1_i32_56 : BitVec 32 := 1#32
  let arg11 : BitVec 32 := Scf.iv c0_i32_54 c1_i32_56 k1_t2
  let v61 : Index := Scalar.indexCast arg11
  let c0_59 : Index := 0#32
  let c0_60 : Index := 0#32
  let c0_61 : Index := 0#32
  ![v61.toNat, 0, 0, 0]
@[reducible] def k1_t3_loop : Scf.Loop 32 :=
  let c0_i32_10 : BitVec 32 := 0#32
  let c8_i32 : BitVec 32 := 8#32
  let v10 : BitVec 32 := Scalar.addi c0_i32_10 c8_i32
  let c1_i32_11 : BitVec 32 := 1#32
  ⟨c0_i32_10, v10, c1_i32_11⟩
def k1_off2 (k1_t3 : Fin k1_t3_loop.trips) : Fin 4 → Nat :=
  let c0_i32_10 : BitVec 32 := 0#32
  let c1_i32_11 : BitVec 32 := 1#32
  let arg9 : BitVec 32 := Scf.iv c0_i32_10 c1_i32_11 k1_t3
  let v50 : Index := Scalar.indexCast arg9
  let c0_52 : Index := 0#32
  let c0_53 : Index := 0#32
  let c0_54 : Index := 0#32
  ![v50.toNat, 0, 0, 0]
@[reducible] def k1_t4_loop : Scf.Loop 32 :=
  let c0_i32_14 : BitVec 32 := 0#32
  let c17_i32 : BitVec 32 := 17#32
  let v15 : BitVec 32 := Scalar.addi c0_i32_14 c17_i32
  let c1_i32_15 : BitVec 32 := 1#32
  ⟨c0_i32_14, v15, c1_i32_15⟩
@[reducible] def k1_t5_loop : Scf.Loop 32 :=
  let c0_i32_54 : BitVec 32 := 0#32
  let c8_i32_55 : BitVec 32 := 8#32
  let v55 : BitVec 32 := Scalar.addi c0_i32_54 c8_i32_55
  let c1_i32_56 : BitVec 32 := 1#32
  ⟨c0_i32_54, v55, c1_i32_56⟩
def k1_off3 (k1_t5 : Fin k1_t5_loop.trips) : Fin 4 → Nat :=
  let c0_i32_54 : BitVec 32 := 0#32
  let c1_i32_56 : BitVec 32 := 1#32
  let arg11 : BitVec 32 := Scf.iv c0_i32_54 c1_i32_56 k1_t5
  let v59 : Index := Scalar.indexCast arg11
  let c0_58 : Index := 0#32
  let c0_59 : Index := 0#32
  let c0_60 : Index := 0#32
  ![v59.toNat, 0, 0, 0]
@[reducible] def k1_t6_loop : Scf.Loop 32 :=
  let c0_i32_17 : BitVec 32 := 0#32
  let c8_i32_18 : BitVec 32 := 8#32
  let v17 : BitVec 32 := Scalar.addi c0_i32_17 c8_i32_18
  let c1_i32_19 : BitVec 32 := 1#32
  ⟨c0_i32_17, v17, c1_i32_19⟩
def k1_off4 (k1_t6 : Fin k1_t6_loop.trips) : Fin 4 → Nat :=
  let c0_i32_17 : BitVec 32 := 0#32
  let c1_i32_19 : BitVec 32 := 1#32
  let arg9 : BitVec 32 := Scf.iv c0_i32_17 c1_i32_19 k1_t6
  let v50 : Index := Scalar.indexCast arg9
  let c0_52 : Index := 0#32
  let c0_53 : Index := 0#32
  let c0_54 : Index := 0#32
  ![v50.toNat, 0, 0, 0]
@[reducible] def k1_t7_loop : Scf.Loop 32 :=
  let c0_i32_40 : BitVec 32 := 0#32
  let c100_i32 : BitVec 32 := 100#32
  let v39 : BitVec 32 := Scalar.addi c0_i32_40 c100_i32
  let c1_i32_41 : BitVec 32 := 1#32
  ⟨c0_i32_40, v39, c1_i32_41⟩
@[reducible] def k1_t8_loop : Scf.Loop 32 :=
  let c0_i32_53 : BitVec 32 := 0#32
  let c8_i32_54 : BitVec 32 := 8#32
  let v52 : BitVec 32 := Scalar.addi c0_i32_53 c8_i32_54
  let c1_i32_55 : BitVec 32 := 1#32
  ⟨c0_i32_53, v52, c1_i32_55⟩
def k1_off5 (k1_t8 : Fin k1_t8_loop.trips) : Fin 4 → Nat :=
  let c0_i32_53 : BitVec 32 := 0#32
  let c1_i32_55 : BitVec 32 := 1#32
  let arg10 : BitVec 32 := Scf.iv c0_i32_53 c1_i32_55 k1_t8
  let v117 : Index := Scalar.indexCast arg10
  let c0_107 : Index := 0#32
  let c0_108 : Index := 0#32
  let c0_109 : Index := 0#32
  ![v117.toNat, 0, 0, 0]
@[reducible] def k1_t9_loop : Scf.Loop 32 :=
  let c0_i32_61 : BitVec 32 := 0#32
  let c8_i32_62 : BitVec 32 := 8#32
  let v58 : BitVec 32 := Scalar.addi c0_i32_61 c8_i32_62
  let c1_i32_63 : BitVec 32 := 1#32
  ⟨c0_i32_61, v58, c1_i32_63⟩
def k1_off6 (k1_t9 : Fin k1_t9_loop.trips) : Fin 4 → Nat :=
  let c0_i32_61 : BitVec 32 := 0#32
  let c1_i32_63 : BitVec 32 := 1#32
  let arg10 : BitVec 32 := Scf.iv c0_i32_61 c1_i32_63 k1_t9
  let v123 : Index := Scalar.indexCast arg10
  let c0_107 : Index := 0#32
  let c0_108 : Index := 0#32
  let c0_109 : Index := 0#32
  ![v123.toNat, 0, 0, 0]
@[reducible] def k1_t10_loop : Scf.Loop 32 :=
  let c0_i32_67 : BitVec 32 := 0#32
  let c8_i32_68 : BitVec 32 := 8#32
  let v67 : BitVec 32 := Scalar.addi c0_i32_67 c8_i32_68
  let c1_i32_69 : BitVec 32 := 1#32
  ⟨c0_i32_67, v67, c1_i32_69⟩
def k1_off7 (k1_t10 : Fin k1_t10_loop.trips) : Fin 4 → Nat :=
  let c0_i32_67 : BitVec 32 := 0#32
  let c1_i32_69 : BitVec 32 := 1#32
  let arg10 : BitVec 32 := Scf.iv c0_i32_67 c1_i32_69 k1_t10
  let v117 : Index := Scalar.indexCast arg10
  let c0_107 : Index := 0#32
  let c0_108 : Index := 0#32
  let c0_109 : Index := 0#32
  ![v117.toNat, 0, 0, 0]
def k1_off8 (k1_t10 : Fin k1_t10_loop.trips) : Fin 4 → Nat :=
  let c0_i32_67 : BitVec 32 := 0#32
  let c1_i32_69 : BitVec 32 := 1#32
  let arg10 : BitVec 32 := Scf.iv c0_i32_67 c1_i32_69 k1_t10
  let v120 : Index := Scalar.indexCast arg10
  let c0_110 : Index := 0#32
  let c0_111 : Index := 0#32
  let c0_112 : Index := 0#32
  ![v120.toNat, 0, 0, 0]
@[reducible] def k1_t11_loop : Scf.Loop 32 :=
  let c0_i32_48 : BitVec 32 := 0#32
  let c100_i32_49 : BitVec 32 := 100#32
  let v48 : BitVec 32 := Scalar.addi c0_i32_48 c100_i32_49
  let c1_i32_50 : BitVec 32 := 1#32
  ⟨c0_i32_48, v48, c1_i32_50⟩
abbrev stage1_0 : Fin 1 → Memref sig .tc .vmem S8x2x80x6144 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x2x8x6144 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S2x128x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x512x512x3 : Shape := ⟨4, ![2, 512, 512, 3]⟩
abbrev S2x49104x84 : Shape := ⟨3, ![2, 49104, 84]⟩
abbrev S49104x4 : Shape := ⟨2, ![49104, 4]⟩
abbrev S2x49104x80 : Shape := ⟨3, ![2, 49104, 80]⟩
abbrev S_ : Shape := ⟨0, ![]⟩
abbrev S2x49104x1 : Shape := ⟨3, ![2, 49104, 1]⟩
abbrev S2x49104 : Shape := ⟨2, ![2, 49104]⟩
abbrev S49104x1 : Shape := ⟨2, ![49104, 1]⟩
abbrev S49104 : Shape := ⟨1, ![49104]⟩
abbrev S1x49104 : Shape := ⟨2, ![1, 49104]⟩
abbrev S2x80x49104 : Shape := ⟨3, ![2, 80, 49104]⟩
abbrev S2x80x1000 : Shape := ⟨3, ![2, 80, 1000]⟩
abbrev S2x1x49104 : Shape := ⟨3, ![2, 1, 49104]⟩
abbrev S2x80x1000x1 : Shape := ⟨4, ![2, 80, 1000, 1]⟩
abbrev S100x2x80 : Shape := ⟨3, ![100, 2, 80]⟩
abbrev S2x80 : Shape := ⟨2, ![2, 80]⟩
abbrev S2x80x1 : Shape := ⟨3, ![2, 80, 1]⟩
abbrev S1x2x80 : Shape := ⟨3, ![1, 2, 80]⟩
abbrev S1x100x2x80 : Shape := ⟨4, ![1, 100, 2, 80]⟩
abbrev S4x100x2x80 : Shape := ⟨4, ![4, 100, 2, 80]⟩
abbrev S4x2x80x100 : Shape := ⟨4, ![4, 2, 80, 100]⟩
abbrev S4x2x8000 : Shape := ⟨3, ![4, 2, 8000]⟩
abbrev S2x80x100 : Shape := ⟨3, ![2, 80, 100]⟩
abbrev S2x8000 : Shape := ⟨2, ![2, 8000]⟩
abbrev S2x100 : Shape := ⟨2, ![2, 100]⟩
abbrev S2x100x1 : Shape := ⟨3, ![2, 100, 1]⟩
abbrev S2x100x8000 : Shape := ⟨3, ![2, 100, 8000]⟩
abbrev S2x1x8000 : Shape := ⟨3, ![2, 1, 8000]⟩
abbrev S4x2x1x8000 : Shape := ⟨4, ![4, 2, 1, 8000]⟩
abbrev S4x2x100x8000 : Shape := ⟨4, ![4, 2, 100, 8000]⟩
abbrev S4x2x100 : Shape := ⟨3, ![4, 2, 100]⟩
abbrev S2x100x4 : Shape := ⟨3, ![2, 100, 4]⟩
abbrev S2 : Shape := ⟨1, ![2]⟩

abbrev nBuf : Space → Nat
  | .hbm => 345
  | .vmem => 0
  | .smem => 0
  | _ => 0

abbrev hbmTy0_0 (i : Nat) : BufTy := match i % 128 with
  | 0 => ⟨S2x512x512x3, .f32⟩
  | 1 => ⟨S2x49104x84, .f32⟩
  | 2 => ⟨S49104x4, .f32⟩
  | 3 => ⟨S2x49104x80, .f32⟩
  | 4 => ⟨S2x49104x80, .f32⟩
  | 5 => ⟨S2x49104x80, .f32⟩
  | 6 => ⟨S_, .f32⟩
  | 7 => ⟨S2x49104x80, .f32⟩
  | 8 => ⟨S2x49104x80, .f32⟩
  | 9 => ⟨S_, .f32⟩
  | 10 => ⟨S2x49104x80, .f32⟩
  | 11 => ⟨S2x49104x80, .f32⟩
  | 12 => ⟨S2x49104x1, .f32⟩
  | 13 => ⟨S2x49104, .f32⟩
  | 14 => ⟨S_, .f32⟩
  | 15 => ⟨S2x49104, .f32⟩
  | 16 => ⟨S2x49104, .f32⟩
  | 17 => ⟨S49104x1, .f32⟩
  | 18 => ⟨S49104, .f32⟩
  | 19 => ⟨S1x49104, .f32⟩
  | 20 => ⟨S2x49104, .f32⟩
  | 21 => ⟨S2x49104, .f32⟩
  | 22 => ⟨S49104x1, .f32⟩
  | 23 => ⟨S49104, .f32⟩
  | 24 => ⟨S1x49104, .f32⟩
  | 25 => ⟨S2x49104, .f32⟩
  | 26 => ⟨S2x49104, .f32⟩
  | 27 => ⟨S2x49104x1, .f32⟩
  | 28 => ⟨S2x49104, .f32⟩
  | 29 => ⟨S_, .f32⟩
  | 30 => ⟨S2x49104, .f32⟩
  | 31 => ⟨S2x49104, .f32⟩
  | 32 => ⟨S49104x1, .f32⟩
  | 33 => ⟨S49104, .f32⟩
  | 34 => ⟨S1x49104, .f32⟩
  | 35 => ⟨S2x49104, .f32⟩
  | 36 => ⟨S2x49104, .f32⟩
  | 37 => ⟨S49104x1, .f32⟩
  | 38 => ⟨S49104, .f32⟩
  | 39 => ⟨S1x49104, .f32⟩
  | 40 => ⟨S2x49104, .f32⟩
  | 41 => ⟨S2x49104, .f32⟩
  | 42 => ⟨S2x49104x1, .f32⟩
  | 43 => ⟨S2x49104, .f32⟩
  | 44 => ⟨S_, .f32⟩
  | 45 => ⟨S2x49104, .f32⟩
  | 46 => ⟨S2x49104, .f32⟩
  | 47 => ⟨S2x49104, .f32⟩
  | 48 => ⟨S49104x1, .f32⟩
  | 49 => ⟨S49104, .f32⟩
  | 50 => ⟨S1x49104, .f32⟩
  | 51 => ⟨S2x49104, .f32⟩
  | 52 => ⟨S2x49104, .f32⟩
  | 53 => ⟨S2x49104x1, .f32⟩
  | 54 => ⟨S2x49104, .f32⟩
  | 55 => ⟨S_, .f32⟩
  | 56 => ⟨S2x49104, .f32⟩
  | 57 => ⟨S2x49104, .f32⟩
  | 58 => ⟨S2x49104, .f32⟩
  | 59 => ⟨S49104x1, .f32⟩
  | 60 => ⟨S49104, .f32⟩
  | 61 => ⟨S1x49104, .f32⟩
  | 62 => ⟨S2x49104, .f32⟩
  | 63 => ⟨S2x49104, .f32⟩
  | 64 => ⟨S2x80x49104, .f32⟩
  | 65 => ⟨S_, .f32⟩
  | 66 => ⟨S2x49104, .f32⟩
  | 67 => ⟨S2x49104, .f32⟩
  | 68 => ⟨S2x49104, .f32⟩
  | 69 => ⟨S_, .f32⟩
  | 70 => ⟨S2x49104, .f32⟩
  | 71 => ⟨S2x49104, .f32⟩
  | 72 => ⟨S2x49104, .f32⟩
  | 73 => ⟨S_, .f32⟩
  | 74 => ⟨S2x49104, .f32⟩
  | 75 => ⟨S2x49104, .f32⟩
  | 76 => ⟨S2x49104, .f32⟩
  | 77 => ⟨S_, .f32⟩
  | 78 => ⟨S2x49104, .f32⟩
  | 79 => ⟨S2x49104, .f32⟩
  | 80 => ⟨S2x49104, .f32⟩
  | 81 => ⟨S2x80x1000, .f32⟩
  | 82 => ⟨S2x80x1000, .i32⟩
  | 83 => ⟨S2x1x49104, .f32⟩
  | 84 => ⟨S2x80x49104, .f32⟩
  | 85 => ⟨S_, .i32⟩
  | 86 => ⟨S2x80x1000, .i32⟩
  | 87 => ⟨S2x80x1000, .i1⟩
  | 88 => ⟨S_, .i32⟩
  | 89 => ⟨S2x80x1000, .i32⟩
  | 90 => ⟨S2x80x1000, .i32⟩
  | 91 => ⟨S2x80x1000, .i32⟩
  | 92 => ⟨S2x80x1000x1, .i32⟩
  | 93 => ⟨S2x80x1000, .f32⟩
  | 94 => ⟨S2x1x49104, .f32⟩
  | 95 => ⟨S2x80x49104, .f32⟩
  | 96 => ⟨S_, .i32⟩
  | 97 => ⟨S2x80x1000, .i32⟩
  | 98 => ⟨S2x80x1000, .i1⟩
  | 99 => ⟨S_, .i32⟩
  | 100 => ⟨S2x80x1000, .i32⟩
  | 101 => ⟨S2x80x1000, .i32⟩
  | 102 => ⟨S2x80x1000, .i32⟩
  | 103 => ⟨S2x80x1000x1, .i32⟩
  | 104 => ⟨S2x80x1000, .f32⟩
  | 105 => ⟨S2x1x49104, .f32⟩
  | 106 => ⟨S2x80x49104, .f32⟩
  | 107 => ⟨S_, .i32⟩
  | 108 => ⟨S2x80x1000, .i32⟩
  | 109 => ⟨S2x80x1000, .i1⟩
  | 110 => ⟨S_, .i32⟩
  | 111 => ⟨S2x80x1000, .i32⟩
  | 112 => ⟨S2x80x1000, .i32⟩
  | 113 => ⟨S2x80x1000, .i32⟩
  | 114 => ⟨S2x80x1000x1, .i32⟩
  | 115 => ⟨S2x80x1000, .f32⟩
  | 116 => ⟨S2x1x49104, .f32⟩
  | 117 => ⟨S2x80x49104, .f32⟩
  | 118 => ⟨S_, .i32⟩
  | 119 => ⟨S2x80x1000, .i32⟩
  | 120 => ⟨S2x80x1000, .i1⟩
  | 121 => ⟨S_, .i32⟩
  | 122 => ⟨S2x80x1000, .i32⟩
  | 123 => ⟨S2x80x1000, .i32⟩
  | 124 => ⟨S2x80x1000, .i32⟩
  | 125 => ⟨S2x80x1000x1, .i32⟩
  | 126 => ⟨S2x80x1000, .f32⟩
  | 127 => ⟨S2x80x1000, .i32⟩
  | _ => ⟨S2x512x512x3, .f32⟩

abbrev hbmTy0_1 (i : Nat) : BufTy := match i % 128 with
  | 0 => ⟨S_, .f32⟩
  | 1 => ⟨S100x2x80, .f32⟩
  | 2 => ⟨S_, .f32⟩
  | 3 => ⟨S100x2x80, .f32⟩
  | 4 => ⟨S_, .f32⟩
  | 5 => ⟨S100x2x80, .f32⟩
  | 6 => ⟨S_, .f32⟩
  | 7 => ⟨S100x2x80, .f32⟩
  | 8 => ⟨S_, .f32⟩
  | 9 => ⟨S100x2x80, .f32⟩
  | 10 => ⟨S_, .i1⟩
  | 11 => ⟨S100x2x80, .i1⟩
  | 12 => ⟨S_, .i32⟩
  | 13 => ⟨S2x80x1000, .i32⟩
  | 14 => ⟨S2x80x1000, .f32⟩
  | 15 => ⟨S2x80x1000, .f32⟩
  | 16 => ⟨S2x80x1000, .f32⟩
  | 17 => ⟨S2x80x1000, .f32⟩
  | 18 => ⟨S_, .i32⟩
  | 19 => ⟨S2x80x1000, .f32⟩
  | 20 => ⟨S100x2x80, .f32⟩
  | 21 => ⟨S100x2x80, .f32⟩
  | 22 => ⟨S100x2x80, .f32⟩
  | 23 => ⟨S100x2x80, .f32⟩
  | 24 => ⟨S100x2x80, .f32⟩
  | 25 => ⟨S100x2x80, .i1⟩
  | 26 => ⟨S_, .i32⟩
  | 27 => ⟨S_, .i1⟩
  | 28 => ⟨S_, .f32⟩
  | 29 => ⟨S2x80, .f32⟩
  | 30 => ⟨S2x80x1, .f32⟩
  | 31 => ⟨S2x80x1000, .f32⟩
  | 32 => ⟨S2x80x1000, .i1⟩
  | 33 => ⟨S_, .i32⟩
  | 34 => ⟨S_, .i32⟩
  | 35 => ⟨S2x80x1000, .i32⟩
  | 36 => ⟨S2x80x1000, .i32⟩
  | 37 => ⟨S_, .i32⟩
  | 38 => ⟨S2x80, .i32⟩
  | 39 => ⟨S2x80x1, .i32⟩
  | 40 => ⟨S2x80x1000, .i32⟩
  | 41 => ⟨S2x80x1000, .i1⟩
  | 42 => ⟨S_, .f32⟩
  | 43 => ⟨S_, .f32⟩
  | 44 => ⟨S2x80x1000, .f32⟩
  | 45 => ⟨S2x80x1000, .f32⟩
  | 46 => ⟨S_, .f32⟩
  | 47 => ⟨S2x80, .f32⟩
  | 48 => ⟨S_, .f32⟩
  | 49 => ⟨S_, .f32⟩
  | 50 => ⟨S2x80x1000, .f32⟩
  | 51 => ⟨S2x80x1000, .f32⟩
  | 52 => ⟨S_, .f32⟩
  | 53 => ⟨S2x80, .f32⟩
  | 54 => ⟨S_, .f32⟩
  | 55 => ⟨S_, .f32⟩
  | 56 => ⟨S2x80x1000, .f32⟩
  | 57 => ⟨S2x80x1000, .f32⟩
  | 58 => ⟨S_, .f32⟩
  | 59 => ⟨S2x80, .f32⟩
  | 60 => ⟨S_, .f32⟩
  | 61 => ⟨S_, .f32⟩
  | 62 => ⟨S2x80x1000, .f32⟩
  | 63 => ⟨S2x80x1000, .f32⟩
  | 64 => ⟨S_, .f32⟩
  | 65 => ⟨S2x80, .f32⟩
  | 66 => ⟨S2x80x1, .f32⟩
  | 67 => ⟨S2x80x1, .f32⟩
  | 68 => ⟨S2x80x1, .f32⟩
  | 69 => ⟨S2x80x1, .f32⟩
  | 70 => ⟨S2x80x1000, .f32⟩
  | 71 => ⟨S2x80x1000, .f32⟩
  | 72 => ⟨S2x80x1000, .f32⟩
  | 73 => ⟨S2x80x1000, .f32⟩
  | 74 => ⟨S2x80x1000, .f32⟩
  | 75 => ⟨S2x80x1000, .f32⟩
  | 76 => ⟨S2x80x1000, .f32⟩
  | 77 => ⟨S2x80x1000, .f32⟩
  | 78 => ⟨S2x80x1000, .f32⟩
  | 79 => ⟨S_, .f32⟩
  | 80 => ⟨S2x80x1000, .f32⟩
  | 81 => ⟨S2x80x1000, .f32⟩
  | 82 => ⟨S2x80x1000, .f32⟩
  | 83 => ⟨S_, .f32⟩
  | 84 => ⟨S2x80x1000, .f32⟩
  | 85 => ⟨S2x80x1000, .f32⟩
  | 86 => ⟨S2x80x1000, .f32⟩
  | 87 => ⟨S2x80x1, .f32⟩
  | 88 => ⟨S_, .f32⟩
  | 89 => ⟨S2x80x1, .f32⟩
  | 90 => ⟨S2x80x1, .f32⟩
  | 91 => ⟨S2x80x1, .f32⟩
  | 92 => ⟨S_, .f32⟩
  | 93 => ⟨S2x80x1, .f32⟩
  | 94 => ⟨S2x80x1, .f32⟩
  | 95 => ⟨S2x80x1, .f32⟩
  | 96 => ⟨S2x80x1000, .f32⟩
  | 97 => ⟨S_, .f32⟩
  | 98 => ⟨S2x80x1000, .f32⟩
  | 99 => ⟨S2x80x1000, .f32⟩
  | 100 => ⟨S2x80x1000, .f32⟩
  | 101 => ⟨S_, .f32⟩
  | 102 => ⟨S2x80x1000, .f32⟩
  | 103 => ⟨S2x80x1000, .f32⟩
  | 104 => ⟨S2x80x1000, .f32⟩
  | 105 => ⟨S2x80x1000, .f32⟩
  | 106 => ⟨S2x80x1000, .f32⟩
  | 107 => ⟨S2x80x1000, .f32⟩
  | 108 => ⟨S_, .f32⟩
  | 109 => ⟨S2x80x1000, .f32⟩
  | 110 => ⟨S2x80x1000, .f32⟩
  | 111 => ⟨S2x80x1000, .f32⟩
  | 112 => ⟨S_, .f32⟩
  | 113 => ⟨S2x80x1000, .f32⟩
  | 114 => ⟨S2x80x1000, .i1⟩
  | 115 => ⟨S2x80x1000, .i1⟩
  | 116 => ⟨S_, .f32⟩
  | 117 => ⟨S_, .f32⟩
  | 118 => ⟨S2x80x1000, .f32⟩
  | 119 => ⟨S2x80x1000, .f32⟩
  | 120 => ⟨S_, .f32⟩
  | 121 => ⟨S2x80, .f32⟩
  | 122 => ⟨S2x80, .i1⟩
  | 123 => ⟨S_, .f32⟩
  | 124 => ⟨S_, .f32⟩
  | 125 => ⟨S2x80, .f32⟩
  | 126 => ⟨S2x80, .f32⟩
  | 127 => ⟨S_, .f32⟩
  | _ => ⟨S2x512x512x3, .f32⟩

abbrev hbmTy0_2 (i : Nat) : BufTy := match i % 128 with
  | 0 => ⟨S_, .f32⟩
  | 1 => ⟨S2x80, .f32⟩
  | 2 => ⟨S2x80, .f32⟩
  | 3 => ⟨S_, .f32⟩
  | 4 => ⟨S_, .f32⟩
  | 5 => ⟨S2x80, .f32⟩
  | 6 => ⟨S2x80, .f32⟩
  | 7 => ⟨S_, .f32⟩
  | 8 => ⟨S_, .f32⟩
  | 9 => ⟨S2x80, .f32⟩
  | 10 => ⟨S2x80, .f32⟩
  | 11 => ⟨S_, .f32⟩
  | 12 => ⟨S_, .f32⟩
  | 13 => ⟨S2x80, .f32⟩
  | 14 => ⟨S2x80, .f32⟩
  | 15 => ⟨S1x2x80, .f32⟩
  | 16 => ⟨S_, .i32⟩
  | 17 => ⟨S_, .i32⟩
  | 18 => ⟨S100x2x80, .f32⟩
  | 19 => ⟨S1x2x80, .f32⟩
  | 20 => ⟨S_, .i32⟩
  | 21 => ⟨S_, .i32⟩
  | 22 => ⟨S100x2x80, .f32⟩
  | 23 => ⟨S1x2x80, .f32⟩
  | 24 => ⟨S_, .i32⟩
  | 25 => ⟨S_, .i32⟩
  | 26 => ⟨S100x2x80, .f32⟩
  | 27 => ⟨S1x2x80, .f32⟩
  | 28 => ⟨S_, .i32⟩
  | 29 => ⟨S_, .i32⟩
  | 30 => ⟨S100x2x80, .f32⟩
  | 31 => ⟨S1x2x80, .f32⟩
  | 32 => ⟨S_, .i32⟩
  | 33 => ⟨S_, .i32⟩
  | 34 => ⟨S100x2x80, .f32⟩
  | 35 => ⟨S1x2x80, .i1⟩
  | 36 => ⟨S_, .i32⟩
  | 37 => ⟨S_, .i32⟩
  | 38 => ⟨S100x2x80, .i1⟩
  | 39 => ⟨S_, .i32⟩
  | 40 => ⟨S_, .i32⟩
  | 41 => ⟨S1x100x2x80, .f32⟩
  | 42 => ⟨S1x100x2x80, .f32⟩
  | 43 => ⟨S1x100x2x80, .f32⟩
  | 44 => ⟨S1x100x2x80, .f32⟩
  | 45 => ⟨S4x100x2x80, .f32⟩
  | 46 => ⟨S4x2x80x100, .f32⟩
  | 47 => ⟨S4x2x8000, .f32⟩
  | 48 => ⟨S2x80x100, .f32⟩
  | 49 => ⟨S2x8000, .f32⟩
  | 50 => ⟨S2x100, .f32⟩
  | 51 => ⟨S2x100, .i32⟩
  | 52 => ⟨S2x100x1, .i32⟩
  | 53 => ⟨S2x100x8000, .i32⟩
  | 54 => ⟨S2x100x8000, .i32⟩
  | 55 => ⟨S2x100x8000, .i1⟩
  | 56 => ⟨S2x80x100, .i1⟩
  | 57 => ⟨S2x8000, .i1⟩
  | 58 => ⟨S2x1x8000, .i1⟩
  | 59 => ⟨S2x100x8000, .i1⟩
  | 60 => ⟨S2x100x8000, .i1⟩
  | 61 => ⟨S_, .i1⟩
  | 62 => ⟨S2x100, .i1⟩
  | 63 => ⟨S4x2x1x8000, .f32⟩
  | 64 => ⟨S4x2x100x8000, .f32⟩
  | 65 => ⟨S4x2x100x8000, .i1⟩
  | 66 => ⟨S_, .f32⟩
  | 67 => ⟨S4x2x100x8000, .f32⟩
  | 68 => ⟨S4x2x100x8000, .f32⟩
  | 69 => ⟨S_, .f32⟩
  | 70 => ⟨S4x2x100, .f32⟩
  | 71 => ⟨S_, .f32⟩
  | 72 => ⟨S2x100, .f32⟩
  | 73 => ⟨S2x100, .f32⟩
  | 74 => ⟨S4x2x100, .i1⟩
  | 75 => ⟨S_, .f32⟩
  | 76 => ⟨S4x2x100, .f32⟩
  | 77 => ⟨S4x2x100, .f32⟩
  | 78 => ⟨S2x100x4, .f32⟩
  | 79 => ⟨S_, .i32⟩
  | 80 => ⟨S2x100, .i32⟩
  | 81 => ⟨S2x100, .i32⟩
  | 82 => ⟨S2x100, .f32⟩
  | 83 => ⟨S_, .f32⟩
  | 84 => ⟨S2x100, .f32⟩
  | 85 => ⟨S2x100, .f32⟩
  | 86 => ⟨S2x100, .i32⟩
  | 87 => ⟨S_, .i32⟩
  | 88 => ⟨S2, .i32⟩
  | _ => ⟨S2x512x512x3, .f32⟩

abbrev hbmTy (i : Nat) : BufTy := match i / 128 with
  | 0 => hbmTy0_0 i
  | 1 => hbmTy0_1 i
  | 2 => hbmTy0_2 i
  | _ => ⟨S2x512x512x3, .f32⟩

abbrev bufTy : (tb : Table) → Fin (tcTables nBuf tb) → BufTy
  | .hbm, ⟨i, _⟩ => hbmTy i
  | _, _ => ⟨S2x512x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_cst_4 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_cst_5 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_cst_6 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_cst_7 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_cst_8 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_values : Ref sig .tc := ⟨.hbm, 81, rfl⟩
abbrev main_indices : Ref sig .tc := ⟨.hbm, 82, rfl⟩
abbrev main_v68 : Ref sig .tc := ⟨.hbm, 83, rfl⟩
abbrev main_v69 : Ref sig .tc := ⟨.hbm, 84, rfl⟩
abbrev main_call0_c : Ref sig .tc := ⟨.hbm, 85, rfl⟩
abbrev main_call0_v0 : Ref sig .tc := ⟨.hbm, 86, rfl⟩
abbrev main_call0_v1 : Ref sig .tc := ⟨.hbm, 87, rfl⟩
abbrev main_call0_c_0 : Ref sig .tc := ⟨.hbm, 88, rfl⟩
abbrev main_call0_v2 : Ref sig .tc := ⟨.hbm, 89, rfl⟩
abbrev main_call0_v3 : Ref sig .tc := ⟨.hbm, 90, rfl⟩
abbrev main_call0_v4 : Ref sig .tc := ⟨.hbm, 91, rfl⟩
abbrev main_call0_v5 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_call1_c : Ref sig .tc := ⟨.hbm, 96, rfl⟩
abbrev main_call1_v0 : Ref sig .tc := ⟨.hbm, 97, rfl⟩
abbrev main_call1_v1 : Ref sig .tc := ⟨.hbm, 98, rfl⟩
abbrev main_call1_c_0 : Ref sig .tc := ⟨.hbm, 99, rfl⟩
abbrev main_call1_v2 : Ref sig .tc := ⟨.hbm, 100, rfl⟩
abbrev main_call1_v3 : Ref sig .tc := ⟨.hbm, 101, rfl⟩
abbrev main_call1_v4 : Ref sig .tc := ⟨.hbm, 102, rfl⟩
abbrev main_call1_v5 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_call2_c : Ref sig .tc := ⟨.hbm, 107, rfl⟩
abbrev main_call2_v0 : Ref sig .tc := ⟨.hbm, 108, rfl⟩
abbrev main_call2_v1 : Ref sig .tc := ⟨.hbm, 109, rfl⟩
abbrev main_call2_c_0 : Ref sig .tc := ⟨.hbm, 110, rfl⟩
abbrev main_call2_v2 : Ref sig .tc := ⟨.hbm, 111, rfl⟩
abbrev main_call2_v3 : Ref sig .tc := ⟨.hbm, 112, rfl⟩
abbrev main_call2_v4 : Ref sig .tc := ⟨.hbm, 113, rfl⟩
abbrev main_call2_v5 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_call3_c : Ref sig .tc := ⟨.hbm, 118, rfl⟩
abbrev main_call3_v0 : Ref sig .tc := ⟨.hbm, 119, rfl⟩
abbrev main_call3_v1 : Ref sig .tc := ⟨.hbm, 120, rfl⟩
abbrev main_call3_c_0 : Ref sig .tc := ⟨.hbm, 121, rfl⟩
abbrev main_call3_v2 : Ref sig .tc := ⟨.hbm, 122, rfl⟩
abbrev main_call3_v3 : Ref sig .tc := ⟨.hbm, 123, rfl⟩
abbrev main_call3_v4 : Ref sig .tc := ⟨.hbm, 124, rfl⟩
abbrev main_call3_v5 : Ref sig .tc := ⟨.hbm, 125, rfl⟩
abbrev main_v79 : Ref sig .tc := ⟨.hbm, 126, rfl⟩
abbrev main_v80 : Ref sig .tc := ⟨.hbm, 127, rfl⟩
abbrev main_cst_9 : Ref sig .tc := ⟨.hbm, 128, rfl⟩
abbrev main_v81 : Ref sig .tc := ⟨.hbm, 129, rfl⟩
abbrev main_cst_10 : Ref sig .tc := ⟨.hbm, 130, rfl⟩
abbrev main_v82 : Ref sig .tc := ⟨.hbm, 131, rfl⟩
abbrev main_cst_11 : Ref sig .tc := ⟨.hbm, 132, rfl⟩
abbrev main_v83 : Ref sig .tc := ⟨.hbm, 133, rfl⟩
abbrev main_cst_12 : Ref sig .tc := ⟨.hbm, 134, rfl⟩
abbrev main_v84 : Ref sig .tc := ⟨.hbm, 135, rfl⟩
abbrev main_cst_13 : Ref sig .tc := ⟨.hbm, 136, rfl⟩
abbrev main_v85 : Ref sig .tc := ⟨.hbm, 137, rfl⟩
abbrev main_c : Ref sig .tc := ⟨.hbm, 138, rfl⟩
abbrev main_v86 : Ref sig .tc := ⟨.hbm, 139, rfl⟩
abbrev main_c_14 : Ref sig .tc := ⟨.hbm, 140, rfl⟩
abbrev main_v87_0 : Ref sig .tc := ⟨.hbm, 141, rfl⟩
abbrev main_v87_1 : Ref sig .tc := ⟨.hbm, 142, rfl⟩
abbrev main_v87_2 : Ref sig .tc := ⟨.hbm, 143, rfl⟩
abbrev main_v87_3 : Ref sig .tc := ⟨.hbm, 144, rfl⟩
abbrev main_v87_4 : Ref sig .tc := ⟨.hbm, 145, rfl⟩
abbrev main_v87_5 : Ref sig .tc := ⟨.hbm, 146, rfl⟩
abbrev main_v87_6 : Ref sig .tc := ⟨.hbm, 147, rfl⟩
abbrev main_v87_7 : Ref sig .tc := ⟨.hbm, 148, rfl⟩
abbrev main_v87_8 : Ref sig .tc := ⟨.hbm, 149, rfl⟩
abbrev main_v87_9 : Ref sig .tc := ⟨.hbm, 150, rfl⟩
abbrev main_v87_10 : Ref sig .tc := ⟨.hbm, 151, rfl⟩
abbrev main_v87_11 : Ref sig .tc := ⟨.hbm, 152, rfl⟩
abbrev main_v87_12 : Ref sig .tc := ⟨.hbm, 153, rfl⟩
abbrev main_while0c_c_37 : Ref sig .tc := ⟨.hbm, 154, rfl⟩
abbrev main_while0c_v126 : Ref sig .tc := ⟨.hbm, 155, rfl⟩
abbrev main_while0b_cst_37 : Ref sig .tc := ⟨.hbm, 156, rfl⟩
abbrev main_while0b_v126 : Ref sig .tc := ⟨.hbm, 157, rfl⟩
abbrev main_while0b_v127 : Ref sig .tc := ⟨.hbm, 158, rfl⟩
abbrev main_while0b_v128 : Ref sig .tc := ⟨.hbm, 159, rfl⟩
abbrev main_while0b_v129 : Ref sig .tc := ⟨.hbm, 160, rfl⟩
abbrev main_while0b_c_38 : Ref sig .tc := ⟨.hbm, 161, rfl⟩
abbrev main_while0b_call4_v0 : Ref sig .tc := ⟨.hbm, 162, rfl⟩
abbrev main_while0b_call4_v1 : Ref sig .tc := ⟨.hbm, 163, rfl⟩
abbrev main_while0b_v130 : Ref sig .tc := ⟨.hbm, 164, rfl⟩
abbrev main_while0b_c_39 : Ref sig .tc := ⟨.hbm, 165, rfl⟩
abbrev main_while0b_v131 : Ref sig .tc := ⟨.hbm, 166, rfl⟩
abbrev main_while0b_v132 : Ref sig .tc := ⟨.hbm, 167, rfl⟩
abbrev main_while0b_v133 : Ref sig .tc := ⟨.hbm, 168, rfl⟩
abbrev main_while0b_v134 : Ref sig .tc := ⟨.hbm, 169, rfl⟩
abbrev main_while0b_cst_40 : Ref sig .tc := ⟨.hbm, 170, rfl⟩
abbrev main_while0b_call5_v0 : Ref sig .tc := ⟨.hbm, 171, rfl⟩
abbrev main_while0b_call5_v1 : Ref sig .tc := ⟨.hbm, 172, rfl⟩
abbrev main_while0b_v135 : Ref sig .tc := ⟨.hbm, 173, rfl⟩
abbrev main_while0b_cst_41 : Ref sig .tc := ⟨.hbm, 174, rfl⟩
abbrev main_while0b_v136 : Ref sig .tc := ⟨.hbm, 175, rfl⟩
abbrev main_while0b_cst_42 : Ref sig .tc := ⟨.hbm, 176, rfl⟩
abbrev main_while0b_call6_v0 : Ref sig .tc := ⟨.hbm, 177, rfl⟩
abbrev main_while0b_call6_v1 : Ref sig .tc := ⟨.hbm, 178, rfl⟩
abbrev main_while0b_v137 : Ref sig .tc := ⟨.hbm, 179, rfl⟩
abbrev main_while0b_cst_43 : Ref sig .tc := ⟨.hbm, 180, rfl⟩
abbrev main_while0b_v138 : Ref sig .tc := ⟨.hbm, 181, rfl⟩
abbrev main_while0b_cst_44 : Ref sig .tc := ⟨.hbm, 182, rfl⟩
abbrev main_while0b_call7_v0 : Ref sig .tc := ⟨.hbm, 183, rfl⟩
abbrev main_while0b_call7_v1 : Ref sig .tc := ⟨.hbm, 184, rfl⟩
abbrev main_while0b_v139 : Ref sig .tc := ⟨.hbm, 185, rfl⟩
abbrev main_while0b_cst_45 : Ref sig .tc := ⟨.hbm, 186, rfl⟩
abbrev main_while0b_v140 : Ref sig .tc := ⟨.hbm, 187, rfl⟩
abbrev main_while0b_cst_46 : Ref sig .tc := ⟨.hbm, 188, rfl⟩
abbrev main_while0b_call8_v0 : Ref sig .tc := ⟨.hbm, 189, rfl⟩
abbrev main_while0b_call8_v1 : Ref sig .tc := ⟨.hbm, 190, rfl⟩
abbrev main_while0b_v141 : Ref sig .tc := ⟨.hbm, 191, rfl⟩
abbrev main_while0b_cst_47 : Ref sig .tc := ⟨.hbm, 192, rfl⟩
abbrev main_while0b_v142 : Ref sig .tc := ⟨.hbm, 193, rfl⟩
abbrev main_while0b_v143 : Ref sig .tc := ⟨.hbm, 194, rfl⟩
abbrev main_while0b_v144 : Ref sig .tc := ⟨.hbm, 195, rfl⟩
abbrev main_while0b_v145 : Ref sig .tc := ⟨.hbm, 196, rfl⟩
abbrev main_while0b_v146 : Ref sig .tc := ⟨.hbm, 197, rfl⟩
abbrev main_while0b_v147 : Ref sig .tc := ⟨.hbm, 198, rfl⟩
abbrev main_while0b_v148 : Ref sig .tc := ⟨.hbm, 199, rfl⟩
abbrev main_while0b_v149 : Ref sig .tc := ⟨.hbm, 200, rfl⟩
abbrev main_while0b_v150 : Ref sig .tc := ⟨.hbm, 201, rfl⟩
abbrev main_while0b_v151 : Ref sig .tc := ⟨.hbm, 202, rfl⟩
abbrev main_while0b_v152 : Ref sig .tc := ⟨.hbm, 203, rfl⟩
abbrev main_while0b_v153 : Ref sig .tc := ⟨.hbm, 204, rfl⟩
abbrev main_while0b_v154 : Ref sig .tc := ⟨.hbm, 205, rfl⟩
abbrev main_while0b_v155 : Ref sig .tc := ⟨.hbm, 206, rfl⟩
abbrev main_while0b_cst_48 : Ref sig .tc := ⟨.hbm, 207, rfl⟩
abbrev main_while0b_v156 : Ref sig .tc := ⟨.hbm, 208, rfl⟩
abbrev main_while0b_v157 : Ref sig .tc := ⟨.hbm, 209, rfl⟩
abbrev main_while0b_v158 : Ref sig .tc := ⟨.hbm, 210, rfl⟩
abbrev main_while0b_cst_49 : Ref sig .tc := ⟨.hbm, 211, rfl⟩
abbrev main_while0b_v159 : Ref sig .tc := ⟨.hbm, 212, rfl⟩
abbrev main_while0b_v160 : Ref sig .tc := ⟨.hbm, 213, rfl⟩
abbrev main_while0b_v161 : Ref sig .tc := ⟨.hbm, 214, rfl⟩
abbrev main_while0b_v162 : Ref sig .tc := ⟨.hbm, 215, rfl⟩
abbrev main_while0b_cst_50 : Ref sig .tc := ⟨.hbm, 216, rfl⟩
abbrev main_while0b_v163 : Ref sig .tc := ⟨.hbm, 217, rfl⟩
abbrev main_while0b_v164 : Ref sig .tc := ⟨.hbm, 218, rfl⟩
abbrev main_while0b_v165 : Ref sig .tc := ⟨.hbm, 219, rfl⟩
abbrev main_while0b_cst_51 : Ref sig .tc := ⟨.hbm, 220, rfl⟩
abbrev main_while0b_v166 : Ref sig .tc := ⟨.hbm, 221, rfl⟩
abbrev main_while0b_v167 : Ref sig .tc := ⟨.hbm, 222, rfl⟩
abbrev main_while0b_v168 : Ref sig .tc := ⟨.hbm, 223, rfl⟩
abbrev main_while0b_v169 : Ref sig .tc := ⟨.hbm, 224, rfl⟩
abbrev main_while0b_cst_52 : Ref sig .tc := ⟨.hbm, 225, rfl⟩
abbrev main_while0b_v170 : Ref sig .tc := ⟨.hbm, 226, rfl⟩
abbrev main_while0b_v171 : Ref sig .tc := ⟨.hbm, 227, rfl⟩
abbrev main_while0b_v172 : Ref sig .tc := ⟨.hbm, 228, rfl⟩
abbrev main_while0b_cst_53 : Ref sig .tc := ⟨.hbm, 229, rfl⟩
abbrev main_while0b_v173 : Ref sig .tc := ⟨.hbm, 230, rfl⟩
abbrev main_while0b_v174 : Ref sig .tc := ⟨.hbm, 231, rfl⟩
abbrev main_while0b_v175 : Ref sig .tc := ⟨.hbm, 232, rfl⟩
abbrev main_while0b_v176 : Ref sig .tc := ⟨.hbm, 233, rfl⟩
abbrev main_while0b_v177 : Ref sig .tc := ⟨.hbm, 234, rfl⟩
abbrev main_while0b_v178 : Ref sig .tc := ⟨.hbm, 235, rfl⟩
abbrev main_while0b_cst_54 : Ref sig .tc := ⟨.hbm, 236, rfl⟩
abbrev main_while0b_v179 : Ref sig .tc := ⟨.hbm, 237, rfl⟩
abbrev main_while0b_v180 : Ref sig .tc := ⟨.hbm, 238, rfl⟩
abbrev main_while0b_v181 : Ref sig .tc := ⟨.hbm, 239, rfl⟩
abbrev main_while0b_cst_55 : Ref sig .tc := ⟨.hbm, 240, rfl⟩
abbrev main_while0b_v182 : Ref sig .tc := ⟨.hbm, 241, rfl⟩
abbrev main_while0b_v183 : Ref sig .tc := ⟨.hbm, 242, rfl⟩
abbrev main_while0b_v184 : Ref sig .tc := ⟨.hbm, 243, rfl⟩
abbrev main_while0b_cst_56 : Ref sig .tc := ⟨.hbm, 244, rfl⟩
abbrev main_while0b_call9_v0 : Ref sig .tc := ⟨.hbm, 245, rfl⟩
abbrev main_while0b_call9_v1 : Ref sig .tc := ⟨.hbm, 246, rfl⟩
abbrev main_while0b_v185 : Ref sig .tc := ⟨.hbm, 247, rfl⟩
abbrev main_while0b_cst_57 : Ref sig .tc := ⟨.hbm, 248, rfl⟩
abbrev main_while0b_v186 : Ref sig .tc := ⟨.hbm, 249, rfl⟩
abbrev main_while0b_v187 : Ref sig .tc := ⟨.hbm, 250, rfl⟩
abbrev main_while0b_cst_58 : Ref sig .tc := ⟨.hbm, 251, rfl⟩
abbrev main_while0b_call10_v0 : Ref sig .tc := ⟨.hbm, 252, rfl⟩
abbrev main_while0b_call10_v1 : Ref sig .tc := ⟨.hbm, 253, rfl⟩
abbrev main_while0b_v188 : Ref sig .tc := ⟨.hbm, 254, rfl⟩
abbrev main_while0b_cst_59 : Ref sig .tc := ⟨.hbm, 255, rfl⟩
abbrev main_while0b_call11_v0 : Ref sig .tc := ⟨.hbm, 256, rfl⟩
abbrev main_while0b_call11_v1 : Ref sig .tc := ⟨.hbm, 257, rfl⟩
abbrev main_while0b_v189 : Ref sig .tc := ⟨.hbm, 258, rfl⟩
abbrev main_while0b_cst_60 : Ref sig .tc := ⟨.hbm, 259, rfl⟩
abbrev main_while0b_call12_v0 : Ref sig .tc := ⟨.hbm, 260, rfl⟩
abbrev main_while0b_call12_v1 : Ref sig .tc := ⟨.hbm, 261, rfl⟩
abbrev main_while0b_v190 : Ref sig .tc := ⟨.hbm, 262, rfl⟩
abbrev main_while0b_cst_61 : Ref sig .tc := ⟨.hbm, 263, rfl⟩
abbrev main_while0b_call13_v0 : Ref sig .tc := ⟨.hbm, 264, rfl⟩
abbrev main_while0b_call13_v1 : Ref sig .tc := ⟨.hbm, 265, rfl⟩
abbrev main_while0b_v191 : Ref sig .tc := ⟨.hbm, 266, rfl⟩
abbrev main_while0b_cst_62 : Ref sig .tc := ⟨.hbm, 267, rfl⟩
abbrev main_while0b_call14_v0 : Ref sig .tc := ⟨.hbm, 268, rfl⟩
abbrev main_while0b_call14_v1 : Ref sig .tc := ⟨.hbm, 269, rfl⟩
abbrev main_while0b_v192 : Ref sig .tc := ⟨.hbm, 270, rfl⟩
abbrev main_while0b_call15_v0 : Ref sig .tc := ⟨.hbm, 271, rfl⟩
abbrev main_while0b_call15_c : Ref sig .tc := ⟨.hbm, 272, rfl⟩
abbrev main_while0b_call15_c_0 : Ref sig .tc := ⟨.hbm, 273, rfl⟩
abbrev main_while0b_v193 : Ref sig .tc := ⟨.hbm, 274, rfl⟩
abbrev main_while0b_call16_v0 : Ref sig .tc := ⟨.hbm, 275, rfl⟩
abbrev main_while0b_call16_c : Ref sig .tc := ⟨.hbm, 276, rfl⟩
abbrev main_while0b_call16_c_0 : Ref sig .tc := ⟨.hbm, 277, rfl⟩
abbrev main_while0b_v194 : Ref sig .tc := ⟨.hbm, 278, rfl⟩
abbrev main_while0b_call17_v0 : Ref sig .tc := ⟨.hbm, 279, rfl⟩
abbrev main_while0b_call17_c : Ref sig .tc := ⟨.hbm, 280, rfl⟩
abbrev main_while0b_call17_c_0 : Ref sig .tc := ⟨.hbm, 281, rfl⟩
abbrev main_while0b_v195 : Ref sig .tc := ⟨.hbm, 282, rfl⟩
abbrev main_while0b_call18_v0 : Ref sig .tc := ⟨.hbm, 283, rfl⟩
abbrev main_while0b_call18_c : Ref sig .tc := ⟨.hbm, 284, rfl⟩
abbrev main_while0b_call18_c_0 : Ref sig .tc := ⟨.hbm, 285, rfl⟩
abbrev main_while0b_v196 : Ref sig .tc := ⟨.hbm, 286, rfl⟩
abbrev main_while0b_call19_v0 : Ref sig .tc := ⟨.hbm, 287, rfl⟩
abbrev main_while0b_call19_c : Ref sig .tc := ⟨.hbm, 288, rfl⟩
abbrev main_while0b_call19_c_0 : Ref sig .tc := ⟨.hbm, 289, rfl⟩
abbrev main_while0b_v197 : Ref sig .tc := ⟨.hbm, 290, rfl⟩
abbrev main_while0b_call20_v0 : Ref sig .tc := ⟨.hbm, 291, rfl⟩
abbrev main_while0b_call20_c : Ref sig .tc := ⟨.hbm, 292, rfl⟩
abbrev main_while0b_call20_c_0 : Ref sig .tc := ⟨.hbm, 293, rfl⟩
abbrev main_while0b_v198 : Ref sig .tc := ⟨.hbm, 294, rfl⟩
abbrev main_while0b_c_63 : Ref sig .tc := ⟨.hbm, 295, rfl⟩
abbrev main_while0b_v199 : Ref sig .tc := ⟨.hbm, 296, rfl⟩
abbrev main_v88 : Ref sig .tc := ⟨.hbm, 297, rfl⟩
abbrev main_v89 : Ref sig .tc := ⟨.hbm, 298, rfl⟩
abbrev main_v90 : Ref sig .tc := ⟨.hbm, 299, rfl⟩
abbrev main_v91 : Ref sig .tc := ⟨.hbm, 300, rfl⟩
abbrev main_v92 : Ref sig .tc := ⟨.hbm, 301, rfl⟩
abbrev main_v93 : Ref sig .tc := ⟨.hbm, 302, rfl⟩
abbrev main_v94 : Ref sig .tc := ⟨.hbm, 303, rfl⟩
abbrev main_v95 : Ref sig .tc := ⟨.hbm, 304, rfl⟩
abbrev main_v96 : Ref sig .tc := ⟨.hbm, 305, rfl⟩
abbrev main_values_15 : Ref sig .tc := ⟨.hbm, 306, rfl⟩
abbrev main_indices_16 : Ref sig .tc := ⟨.hbm, 307, rfl⟩
abbrev main_v97 : Ref sig .tc := ⟨.hbm, 308, rfl⟩
abbrev main_v98 : Ref sig .tc := ⟨.hbm, 309, rfl⟩
abbrev main_v99 : Ref sig .tc := ⟨.hbm, 310, rfl⟩
abbrev main_v100 : Ref sig .tc := ⟨.hbm, 311, rfl⟩
abbrev main_v101 : Ref sig .tc := ⟨.hbm, 312, rfl⟩
abbrev main_v102 : Ref sig .tc := ⟨.hbm, 313, rfl⟩
abbrev main_v103 : Ref sig .tc := ⟨.hbm, 314, rfl⟩
abbrev main_v104 : Ref sig .tc := ⟨.hbm, 315, rfl⟩
abbrev main_v105 : Ref sig .tc := ⟨.hbm, 316, rfl⟩
abbrev main_c_17 : Ref sig .tc := ⟨.hbm, 317, rfl⟩
abbrev main_v106 : Ref sig .tc := ⟨.hbm, 318, rfl⟩
abbrev main_v107 : Ref sig .tc := ⟨.hbm, 319, rfl⟩
abbrev main_v108 : Ref sig .tc := ⟨.hbm, 320, rfl⟩
abbrev main_v109 : Ref sig .tc := ⟨.hbm, 321, rfl⟩
abbrev main_cst_18 : Ref sig .tc := ⟨.hbm, 322, rfl⟩
abbrev main_v110 : Ref sig .tc := ⟨.hbm, 323, rfl⟩
abbrev main_v111 : Ref sig .tc := ⟨.hbm, 324, rfl⟩
abbrev main_cst_19 : Ref sig .tc := ⟨.hbm, 325, rfl⟩
abbrev main_v112 : Ref sig .tc := ⟨.hbm, 326, rfl⟩
abbrev main_cst_20 : Ref sig .tc := ⟨.hbm, 327, rfl⟩
abbrev main_v113 : Ref sig .tc := ⟨.hbm, 328, rfl⟩
abbrev main_v114 : Ref sig .tc := ⟨.hbm, 329, rfl⟩
abbrev main_v115 : Ref sig .tc := ⟨.hbm, 330, rfl⟩
abbrev main_cst_21 : Ref sig .tc := ⟨.hbm, 331, rfl⟩
abbrev main_v116 : Ref sig .tc := ⟨.hbm, 332, rfl⟩
abbrev main_v117 : Ref sig .tc := ⟨.hbm, 333, rfl⟩
abbrev main_v118 : Ref sig .tc := ⟨.hbm, 334, rfl⟩
abbrev main_c_22 : Ref sig .tc := ⟨.hbm, 335, rfl⟩
abbrev main_v119 : Ref sig .tc := ⟨.hbm, 336, rfl⟩
abbrev main_v120 : Ref sig .tc := ⟨.hbm, 337, rfl⟩
abbrev main_v121 : Ref sig .tc := ⟨.hbm, 338, rfl⟩
abbrev main_cst_23 : Ref sig .tc := ⟨.hbm, 339, rfl⟩
abbrev main_v122 : Ref sig .tc := ⟨.hbm, 340, rfl⟩
abbrev main_v123 : Ref sig .tc := ⟨.hbm, 341, rfl⟩
abbrev main_v124 : Ref sig .tc := ⟨.hbm, 342, rfl⟩
abbrev main_c_24 : Ref sig .tc := ⟨.hbm, 343, rfl⟩
abbrev main_v125 : Ref sig .tc := ⟨.hbm, 344, rfl⟩

abbrev nD : Nat := 1
abbrev τ : Topo := Topo.v7x

variable {F : FTy → Type} [FloatOps F]

abbrev main_while0_count : Scf.Loop 32 := ⟨0#32, 100#32, 1#32⟩
-- ==== Proof.Upto.lean ====
/- A step applied for each number below a bound, in order: what a counted loop of pure steps comes to. -/
module

public import Mathlib.Data.Fin.Basic
public import Mathlib.Tactic.Common

@[expose] public section

namespace Cert.Loop

variable {α : Type*} {n : ℕ}

/-- The value before step `k` of the steps `f 0, f 1, …`, from `a`; past the last step it stays. -/
def upto (f : Fin n → α → α) (a : α) : ℕ → α
  | 0 => a
  | k + 1 => if h : k < n then f ⟨k, h⟩ (upto f a k) else upto f a k

theorem upto_zero (f : Fin n → α → α) (a : α) : upto f a 0 = a := rfl

theorem upto_succ (f : Fin n → α → α) (a : α) (k : Fin n) : upto f a (k.val + 1) = f k (upto f a k.val) := by
  rw [upto]; exact dif_pos k.isLt

/-- A sequence that starts at `a` and moves by the steps is `upto`, as far as the steps go. -/
theorem eq_upto (f : Fin n → α → α) (a : α) (g : ℕ → α) (h0 : g 0 = a) (hs : ∀ k : Fin n, g (k.val + 1) = f k (g k.val)) :
    ∀ k, k ≤ n → g k = upto f a k
  | 0, _ => h0
  | k + 1, h => by
    rw [hs ⟨k, h⟩, upto_succ f a ⟨k, h⟩, eq_upto f a g h0 hs k (Nat.le_of_lt h)]

/-- A property kept by every step holds to the end. -/
theorem upto_induct (f : Fin n → α → α) (a : α) (P : ℕ → α → Prop) (h0 : P 0 a)
    (hs : ∀ (k : Fin n) (b : α), P k.val b → P (k.val + 1) (f k b)) : ∀ k, k ≤ n → P k (upto f a k)
  | 0, _ => h0
  | k + 1, h => by
    rw [upto_succ f a ⟨k, h⟩]
    exact hs ⟨k, h⟩ _ (upto_induct f a P h0 hs k (Nat.le_of_lt h))

/-- The same at the last step, the number of steps given by an equation. -/
theorem run_induct (N : ℕ) (hN : n = N) (f : Fin n → α → α) (a : α) (P : ℕ → α → Prop) (h0 : P 0 a)
    (hs : ∀ (k : Fin n) (b : α), P k.val b → P (k.val + 1) (f k b)) : P N (upto f a n) := by
  subst hN
  exact upto_induct f a P h0 hs n le_rfl

end Cert.Loop
-- ==== Proof.KIPicks.lean ====
/- The picking loop of the second kernel: one trip scans the scores for the best candidate of every
   class, reads its box, removes what overlaps it and records the pick. The trip is run once, over
   a symbolic trip number; what the buffers hold before trip `k` is the trip's effect iterated from what they
   held at the loop's entry. -/
module

public import proofs.«01_k».proof.Proof.Gen.KernelIdeal.Loops

@[expose] public section

set_option maxRecDepth 16384
set_option maxHeartbeats 4000000

noncomputable section

namespace Cert.KernelIdeal.Picks

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- What the two scratch planes and the four coordinate planes hold. -/
structure Planes (F : FTy → Type) (arg3 : Memref sig .tc .vmem S8x2x80x6144 .f32)
    (arg4 arg5 arg6 arg7 arg8 : Memref sig .tc .vmem S2x80x128 .f32) where
  sc : BufTy.Contents (Elt F) arg3.view.ty
  pc : BufTy.Contents (Elt F) arg4.view.ty
  x1 : BufTy.Contents (Elt F) arg5.view.ty
  y1 : BufTy.Contents (Elt F) arg6.view.ty
  x2 : BufTy.Contents (Elt F) arg7.view.ty
  y2 : BufTy.Contents (Elt F) arg8.view.ty

/-- The seven buffers a picking trip touches, held in full: the boxes at `X1`, the planes at what is named. -/
abbrev Held (c : Dev nD) (arg1 : Memref sig .tc .vmem S8x2x8x6144 .f32) (arg3 : Memref sig .tc .vmem S8x2x80x6144 .f32)
    (arg4 arg5 arg6 arg7 arg8 : Memref sig .tc .vmem S2x80x128 .f32)
    (X1 : BufTy.Contents (Elt F) arg1.view.ty) (f3 : BufTy.Contents (Elt F) arg3.view.ty) (f4 : BufTy.Contents (Elt F) arg4.view.ty)
    (f5 : BufTy.Contents (Elt F) arg5.view.ty) (f6 : BufTy.Contents (Elt F) arg6.view.ty) (f7 : BufTy.Contents (Elt F) arg7.view.ty)
    (f8 : BufTy.Contents (Elt F) arg8.view.ty) : sProp 𝕄 :=
  iprop((arg1.view.loc (c : Thread nD τ) ↦[arg1.view.set]{fullShare} X1) ∗
    (arg3.view.loc (c : Thread nD τ) ↦[arg3.view.set]{fullShare} f3) ∗ (arg4.view.loc (c : Thread nD τ) ↦[arg4.view.set]{fullShare} f4) ∗
    (arg5.view.loc (c : Thread nD τ) ↦[arg5.view.set]{fullShare} f5) ∗ (arg6.view.loc (c : Thread nD τ) ↦[arg6.view.set]{fullShare} f6) ∗
    (arg7.view.loc (c : Thread nD τ) ↦[arg7.view.set]{fullShare} f7) ∗ (arg8.view.loc (c : Thread nD τ) ↦[arg8.view.set]{fullShare} f8))

/-- One picking trip, at any planes: the pieces it writes, found by running it. -/
@[irreducible] def trip (𝒱 : Variants) (c : Dev nD) (bd : Option 𝒱.V) (arg0 : Memref sig .tc .vmem S8x2x80x6144 .f32) (harg0 : arg0.IsWhole) (arg1 : Memref sig .tc .vmem S8x2x8x6144 .f32) (harg1 : arg1.IsWhole) (arg2 : Memref sig .tc .vmem S2x128x8 .f32) (harg2 : arg2.IsWhole) (arg3 : Memref sig .tc .vmem S8x2x80x6144 .f32) (harg3 : arg3.IsWhole) (arg4 : Memref sig .tc .vmem S2x80x128 .f32) (harg4 : arg4.IsWhole)
    (arg5 : Memref sig .tc .vmem S2x80x128 .f32) (harg5 : arg5.IsWhole) (arg6 : Memref sig .tc .vmem S2x80x128 .f32) (harg6 : arg6.IsWhole) (arg7 : Memref sig .tc .vmem S2x80x128 .f32) (harg7 : arg7.IsWhole) (arg8 : Memref sig .tc .vmem S2x80x128 .f32) (harg8 : arg8.IsWhole)
    (v22 : FVec F S2x80x128 .f32) (v38 : IVec S2x80x128 32) (X1 : BufTy.Contents (Elt F) arg1.view.ty) (k : Fin k1_t7_loop.trips) :
    Σ' (L3 : (BufTy.Contents (Elt F) arg3.view.ty → BufTy.Contents (Elt F) arg4.view.ty → BufTy.Contents (Elt F) arg5.view.ty → BufTy.Contents (Elt F) arg6.view.ty → BufTy.Contents (Elt F) arg7.view.ty → BufTy.Contents (Elt F) arg8.view.ty → List (View.Piece (Elt F) S8x2x80x6144 .f32)))
       (L4 : (BufTy.Contents (Elt F) arg3.view.ty → BufTy.Contents (Elt F) arg4.view.ty → BufTy.Contents (Elt F) arg5.view.ty → BufTy.Contents (Elt F) arg6.view.ty → BufTy.Contents (Elt F) arg7.view.ty → BufTy.Contents (Elt F) arg8.view.ty → List (View.Piece (Elt F) S2x80x128 .f32)))
       (L5 : (BufTy.Contents (Elt F) arg3.view.ty → BufTy.Contents (Elt F) arg4.view.ty → BufTy.Contents (Elt F) arg5.view.ty → BufTy.Contents (Elt F) arg6.view.ty → BufTy.Contents (Elt F) arg7.view.ty → BufTy.Contents (Elt F) arg8.view.ty → List (View.Piece (Elt F) S2x80x128 .f32)))
       (L6 : (BufTy.Contents (Elt F) arg3.view.ty → BufTy.Contents (Elt F) arg4.view.ty → BufTy.Contents (Elt F) arg5.view.ty → BufTy.Contents (Elt F) arg6.view.ty → BufTy.Contents (Elt F) arg7.view.ty → BufTy.Contents (Elt F) arg8.view.ty → List (View.Piece (Elt F) S2x80x128 .f32)))
       (L7 : (BufTy.Contents (Elt F) arg3.view.ty → BufTy.Contents (Elt F) arg4.view.ty → BufTy.Contents (Elt F) arg5.view.ty → BufTy.Contents (Elt F) arg6.view.ty → BufTy.Contents (Elt F) arg7.view.ty → BufTy.Contents (Elt F) arg8.view.ty → List (View.Piece (Elt F) S2x80x128 .f32))),
    { L8 : (BufTy.Contents (Elt F) arg3.view.ty → BufTy.Contents (Elt F) arg4.view.ty → BufTy.Contents (Elt F) arg5.view.ty → BufTy.Contents (Elt F) arg6.view.ty → BufTy.Contents (Elt F) arg7.view.ty → BufTy.Contents (Elt F) arg8.view.ty → List (View.Piece (Elt F) S2x80x128 .f32)) //
      ∀ (E : Set ℕ) (u : Unit) (f3 : BufTy.Contents (Elt F) arg3.view.ty) (f4 : BufTy.Contents (Elt F) arg4.view.ty)
        (f5 : BufTy.Contents (Elt F) arg5.view.ty) (f6 : BufTy.Contents (Elt F) arg6.view.ty) (f7 : BufTy.Contents (Elt F) arg7.view.ty)
        (f8 : BufTy.Contents (Elt F) arg8.view.ty),
      Held (F := F) c arg1 arg3 arg4 arg5 arg6 arg7 arg8 X1 f3 f4 f5 f6 f7 f8
      ⊢ wp frame (wpE (defs₀ (F := F)) 𝒱 (c : Thread nD τ) bd) E (k1_t7_body (F := F) arg0 harg0 arg1 harg1 arg2 harg2 arg3 harg3 arg4 harg4 arg5 harg5 arg6 harg6 arg7 harg7 arg8 harg8 v22 v38 k u)
          (fun _ => Held (F := F) c arg1 arg3 arg4 arg5 arg6 arg7 arg8 X1 (arg3.view.writes (Elt F) f3 (L3 f3 f4 f5 f6 f7 f8))
            (arg4.view.writes (Elt F) f4 (L4 f3 f4 f5 f6 f7 f8)) (arg5.view.writes (Elt F) f5 (L5 f3 f4 f5 f6 f7 f8))
            (arg6.view.writes (Elt F) f6 (L6 f3 f4 f5 f6 f7 f8)) (arg7.view.writes (Elt F) f7 (L7 f3 f4 f5 f6 f7 f8))
            (arg8.view.writes (Elt F) f8 (L8 f3 f4 f5 f6 f7 f8))) } := by
  have hk : k.val < 100 := Nat.lt_of_lt_of_le k.isLt k1_t7_abs.2.1
  refine ⟨?_, ?_, ?_, ?_, ?_, ?_, fun E u f3 f4 f5 f6 f7 f8 => ?run⟩
  case run =>
    unfold k1_t7_body
    iintro ⟨H1, H3, H4, H5, H6, H7, H8⟩
    sl_exec
    sl_step
    sl_close

/-- The planes a trip leaves. -/
def after (𝒱 : Variants) (c : Dev nD) (bd : Option 𝒱.V) (arg0 : Memref sig .tc .vmem S8x2x80x6144 .f32) (harg0 : arg0.IsWhole) (arg1 : Memref sig .tc .vmem S8x2x8x6144 .f32) (harg1 : arg1.IsWhole) (arg2 : Memref sig .tc .vmem S2x128x8 .f32) (harg2 : arg2.IsWhole) (arg3 : Memref sig .tc .vmem S8x2x80x6144 .f32) (harg3 : arg3.IsWhole) (arg4 : Memref sig .tc .vmem S2x80x128 .f32) (harg4 : arg4.IsWhole)
    (arg5 : Memref sig .tc .vmem S2x80x128 .f32) (harg5 : arg5.IsWhole) (arg6 : Memref sig .tc .vmem S2x80x128 .f32) (harg6 : arg6.IsWhole) (arg7 : Memref sig .tc .vmem S2x80x128 .f32) (harg7 : arg7.IsWhole) (arg8 : Memref sig .tc .vmem S2x80x128 .f32) (harg8 : arg8.IsWhole)
    (v22 : FVec F S2x80x128 .f32) (v38 : IVec S2x80x128 32) (X1 : BufTy.Contents (Elt F) arg1.view.ty) (k : Fin k1_t7_loop.trips)
    (s : Planes F arg3 arg4 arg5 arg6 arg7 arg8) : Planes F arg3 arg4 arg5 arg6 arg7 arg8 :=
  let T := trip (F := F) 𝒱 c bd arg0 harg0 arg1 harg1 arg2 harg2 arg3 harg3 arg4 harg4 arg5 harg5 arg6 harg6 arg7 harg7 arg8 harg8 v22 v38 X1 k
  ⟨arg3.view.writes (Elt F) s.sc (T.1 s.sc s.pc s.x1 s.y1 s.x2 s.y2), arg4.view.writes (Elt F) s.pc (T.2.1 s.sc s.pc s.x1 s.y1 s.x2 s.y2),
    arg5.view.writes (Elt F) s.x1 (T.2.2.1 s.sc s.pc s.x1 s.y1 s.x2 s.y2), arg6.view.writes (Elt F) s.y1 (T.2.2.2.1 s.sc s.pc s.x1 s.y1 s.x2 s.y2),
    arg7.view.writes (Elt F) s.x2 (T.2.2.2.2.1 s.sc s.pc s.x1 s.y1 s.x2 s.y2), arg8.view.writes (Elt F) s.y2 (T.2.2.2.2.2.1 s.sc s.pc s.x1 s.y1 s.x2 s.y2)⟩

/-- The planes before trip `k`: the trip's effect iterated. Past the last trip nothing changes. -/
def planes (𝒱 : Variants) (c : Dev nD) (bd : Option 𝒱.V) (arg0 : Memref sig .tc .vmem S8x2x80x6144 .f32) (harg0 : arg0.IsWhole) (arg1 : Memref sig .tc .vmem S8x2x8x6144 .f32) (harg1 : arg1.IsWhole) (arg2 : Memref sig .tc .vmem S2x128x8 .f32) (harg2 : arg2.IsWhole) (arg3 : Memref sig .tc .vmem S8x2x80x6144 .f32) (harg3 : arg3.IsWhole) (arg4 : Memref sig .tc .vmem S2x80x128 .f32) (harg4 : arg4.IsWhole)
    (arg5 : Memref sig .tc .vmem S2x80x128 .f32) (harg5 : arg5.IsWhole) (arg6 : Memref sig .tc .vmem S2x80x128 .f32) (harg6 : arg6.IsWhole) (arg7 : Memref sig .tc .vmem S2x80x128 .f32) (harg7 : arg7.IsWhole) (arg8 : Memref sig .tc .vmem S2x80x128 .f32) (harg8 : arg8.IsWhole)
    (v22 : FVec F S2x80x128 .f32) (v38 : IVec S2x80x128 32) (X1 : BufTy.Contents (Elt F) arg1.view.ty)
    (s : Planes F arg3 arg4 arg5 arg6 arg7 arg8) : ℕ → Planes F arg3 arg4 arg5 arg6 arg7 arg8
  | 0 => s
  | k + 1 => if h : k < k1_t7_loop.trips then
      after (F := F) 𝒱 c bd arg0 harg0 arg1 harg1 arg2 harg2 arg3 harg3 arg4 harg4 arg5 harg5 arg6 harg6 arg7 harg7 arg8 harg8 v22 v38 X1 ⟨k, h⟩ (planes 𝒱 c bd arg0 harg0 arg1 harg1 arg2 harg2 arg3 harg3 arg4 harg4 arg5 harg5 arg6 harg6 arg7 harg7 arg8 harg8 v22 v38 X1 s k)
    else planes 𝒱 c bd arg0 harg0 arg1 harg1 arg2 harg2 arg3 harg3 arg4 harg4 arg5 harg5 arg6 harg6 arg7 harg7 arg8 harg8 v22 v38 X1 s k

theorem planes_succ (𝒱 : Variants) (c : Dev nD) (bd : Option 𝒱.V) (arg0 : Memref sig .tc .vmem S8x2x80x6144 .f32) (harg0 : arg0.IsWhole) (arg1 : Memref sig .tc .vmem S8x2x8x6144 .f32) (harg1 : arg1.IsWhole) (arg2 : Memref sig .tc .vmem S2x128x8 .f32) (harg2 : arg2.IsWhole) (arg3 : Memref sig .tc .vmem S8x2x80x6144 .f32) (harg3 : arg3.IsWhole) (arg4 : Memref sig .tc .vmem S2x80x128 .f32) (harg4 : arg4.IsWhole)
    (arg5 : Memref sig .tc .vmem S2x80x128 .f32) (harg5 : arg5.IsWhole) (arg6 : Memref sig .tc .vmem S2x80x128 .f32) (harg6 : arg6.IsWhole) (arg7 : Memref sig .tc .vmem S2x80x128 .f32) (harg7 : arg7.IsWhole) (arg8 : Memref sig .tc .vmem S2x80x128 .f32) (harg8 : arg8.IsWhole)
    (v22 : FVec F S2x80x128 .f32) (v38 : IVec S2x80x128 32) (X1 : BufTy.Contents (Elt F) arg1.view.ty)
    (s : Planes F arg3 arg4 arg5 arg6 arg7 arg8) (k : Fin k1_t7_loop.trips) :
    planes (F := F) 𝒱 c bd arg0 harg0 arg1 harg1 arg2 harg2 arg3 harg3 arg4 harg4 arg5 harg5 arg6 harg6 arg7 harg7 arg8 harg8 v22 v38 X1 s (k.val + 1) =
      after (F := F) 𝒱 c bd arg0 harg0 arg1 harg1 arg2 harg2 arg3 harg3 arg4 harg4 arg5 harg5 arg6 harg6 arg7 harg7 arg8 harg8 v22 v38 X1 k (planes (F := F) 𝒱 c bd arg0 harg0 arg1 harg1 arg2 harg2 arg3 harg3 arg4 harg4 arg5 harg5 arg6 harg6 arg7 harg7 arg8 harg8 v22 v38 X1 s k.val) := by
  rw [planes.eq_2]; exact dif_pos k.isLt

/-- The pieces stored into each buffer. -/
abbrev Stores (F : FTy → Type) : Type :=
  List (View.Piece (Elt F) S8x2x80x6144 .f32) × (List (View.Piece (Elt F) S2x80x128 .f32)) × (List (View.Piece (Elt F) S2x80x128 .f32)) × (List (View.Piece (Elt F) S2x80x128 .f32)) × (List (View.Piece (Elt F) S2x80x128 .f32)) × (List (View.Piece (Elt F) S2x80x128 .f32))

/-- A trip's pieces in front of those of the trips before. -/
@[irreducible] def more (𝒱 : Variants) (c : Dev nD) (bd : Option 𝒱.V) (arg0 : Memref sig .tc .vmem S8x2x80x6144 .f32) (harg0 : arg0.IsWhole) (arg1 : Memref sig .tc .vmem S8x2x8x6144 .f32) (harg1 : arg1.IsWhole) (arg2 : Memref sig .tc .vmem S2x128x8 .f32) (harg2 : arg2.IsWhole) (arg3 : Memref sig .tc .vmem S8x2x80x6144 .f32) (harg3 : arg3.IsWhole) (arg4 : Memref sig .tc .vmem S2x80x128 .f32) (harg4 : arg4.IsWhole)
    (arg5 : Memref sig .tc .vmem S2x80x128 .f32) (harg5 : arg5.IsWhole) (arg6 : Memref sig .tc .vmem S2x80x128 .f32) (harg6 : arg6.IsWhole) (arg7 : Memref sig .tc .vmem S2x80x128 .f32) (harg7 : arg7.IsWhole) (arg8 : Memref sig .tc .vmem S2x80x128 .f32) (harg8 : arg8.IsWhole)
    (v22 : FVec F S2x80x128 .f32) (v38 : IVec S2x80x128 32) (X1 : BufTy.Contents (Elt F) arg1.view.ty)
    (G3 : BufTy.Contents (Elt F) arg3.view.ty) (G4 : BufTy.Contents (Elt F) arg4.view.ty) (G5 : BufTy.Contents (Elt F) arg5.view.ty)
    (G6 : BufTy.Contents (Elt F) arg6.view.ty) (G7 : BufTy.Contents (Elt F) arg7.view.ty) (G8 : BufTy.Contents (Elt F) arg8.view.ty) (k : ℕ) (p : Stores F) : Stores F :=
  if h : k < k1_t7_loop.trips then
    let T := trip (F := F) 𝒱 c bd arg0 harg0 arg1 harg1 arg2 harg2 arg3 harg3 arg4 harg4 arg5 harg5 arg6 harg6 arg7 harg7 arg8 harg8 v22 v38 X1 ⟨k, h⟩
    (T.1 (arg3.view.writes (Elt F) G3 p.1) (arg4.view.writes (Elt F) G4 p.2.1) (arg5.view.writes (Elt F) G5 p.2.2.1) (arg6.view.writes (Elt F) G6 p.2.2.2.1)
      (arg7.view.writes (Elt F) G7 p.2.2.2.2.1) (arg8.view.writes (Elt F) G8 p.2.2.2.2.2) ++ p.1,
     T.2.1 (arg3.view.writes (Elt F) G3 p.1) (arg4.view.writes (Elt F) G4 p.2.1) (arg5.view.writes (Elt F) G5 p.2.2.1) (arg6.view.writes (Elt F) G6 p.2.2.2.1)
      (arg7.view.writes (Elt F) G7 p.2.2.2.2.1) (arg8.view.writes (Elt F) G8 p.2.2.2.2.2) ++ p.2.1,
     T.2.2.1 (arg3.view.writes (Elt F) G3 p.1) (arg4.view.writes (Elt F) G4 p.2.1) (arg5.view.writes (Elt F) G5 p.2.2.1) (arg6.view.writes (Elt F) G6 p.2.2.2.1)
      (arg7.view.writes (Elt F) G7 p.2.2.2.2.1) (arg8.view.writes (Elt F) G8 p.2.2.2.2.2) ++ p.2.2.1,
     T.2.2.2.1 (arg3.view.writes (Elt F) G3 p.1) (arg4.view.writes (Elt F) G4 p.2.1) (arg5.view.writes (Elt F) G5 p.2.2.1) (arg6.view.writes (Elt F) G6 p.2.2.2.1)
      (arg7.view.writes (Elt F) G7 p.2.2.2.2.1) (arg8.view.writes (Elt F) G8 p.2.2.2.2.2) ++ p.2.2.2.1,
     T.2.2.2.2.1 (arg3.view.writes (Elt F) G3 p.1) (arg4.view.writes (Elt F) G4 p.2.1) (arg5.view.writes (Elt F) G5 p.2.2.1) (arg6.view.writes (Elt F) G6 p.2.2.2.1)
      (arg7.view.writes (Elt F) G7 p.2.2.2.2.1) (arg8.view.writes (Elt F) G8 p.2.2.2.2.2) ++ p.2.2.2.2.1,
     T.2.2.2.2.2.1 (arg3.view.writes (Elt F) G3 p.1) (arg4.view.writes (Elt F) G4 p.2.1) (arg5.view.writes (Elt F) G5 p.2.2.1) (arg6.view.writes (Elt F) G6 p.2.2.2.1)
      (arg7.view.writes (Elt F) G7 p.2.2.2.2.1) (arg8.view.writes (Elt F) G8 p.2.2.2.2.2) ++ p.2.2.2.2.2)
  else p

/-- The pieces stored before trip `k`. -/
def stores (𝒱 : Variants) (c : Dev nD) (bd : Option 𝒱.V) (arg0 : Memref sig .tc .vmem S8x2x80x6144 .f32) (harg0 : arg0.IsWhole) (arg1 : Memref sig .tc .vmem S8x2x8x6144 .f32) (harg1 : arg1.IsWhole) (arg2 : Memref sig .tc .vmem S2x128x8 .f32) (harg2 : arg2.IsWhole) (arg3 : Memref sig .tc .vmem S8x2x80x6144 .f32) (harg3 : arg3.IsWhole) (arg4 : Memref sig .tc .vmem S2x80x128 .f32) (harg4 : arg4.IsWhole)
    (arg5 : Memref sig .tc .vmem S2x80x128 .f32) (harg5 : arg5.IsWhole) (arg6 : Memref sig .tc .vmem S2x80x128 .f32) (harg6 : arg6.IsWhole) (arg7 : Memref sig .tc .vmem S2x80x128 .f32) (harg7 : arg7.IsWhole) (arg8 : Memref sig .tc .vmem S2x80x128 .f32) (harg8 : arg8.IsWhole)
    (v22 : FVec F S2x80x128 .f32) (v38 : IVec S2x80x128 32) (X1 : BufTy.Contents (Elt F) arg1.view.ty)
    (G3 : BufTy.Contents (Elt F) arg3.view.ty) (G4 : BufTy.Contents (Elt F) arg4.view.ty) (G5 : BufTy.Contents (Elt F) arg5.view.ty)
    (G6 : BufTy.Contents (Elt F) arg6.view.ty) (G7 : BufTy.Contents (Elt F) arg7.view.ty) (G8 : BufTy.Contents (Elt F) arg8.view.ty) : ℕ → Stores F
  | 0 => ([], [], [], [], [], [])
  | k + 1 => more (F := F) 𝒱 c bd arg0 harg0 arg1 harg1 arg2 harg2 arg3 harg3 arg4 harg4 arg5 harg5 arg6 harg6 arg7 harg7 arg8 harg8 v22 v38 X1 G3 G4 G5 G6 G7 G8 k (stores 𝒱 c bd arg0 harg0 arg1 harg1 arg2 harg2 arg3 harg3 arg4 harg4 arg5 harg5 arg6 harg6 arg7 harg7 arg8 harg8 v22 v38 X1 G3 G4 G5 G6 G7 G8 k)

/-- The planes that pieces leave over the contents at entry. -/
abbrev over (arg3 : Memref sig .tc .vmem S8x2x80x6144 .f32) (arg4 arg5 arg6 arg7 arg8 : Memref sig .tc .vmem S2x80x128 .f32)
    (G3 : BufTy.Contents (Elt F) arg3.view.ty) (G4 : BufTy.Contents (Elt F) arg4.view.ty) (G5 : BufTy.Contents (Elt F) arg5.view.ty)
    (G6 : BufTy.Contents (Elt F) arg6.view.ty) (G7 : BufTy.Contents (Elt F) arg7.view.ty) (G8 : BufTy.Contents (Elt F) arg8.view.ty) (p : Stores F) : Planes F arg3 arg4 arg5 arg6 arg7 arg8 :=
  ⟨arg3.view.writes (Elt F) G3 p.1, arg4.view.writes (Elt F) G4 p.2.1, arg5.view.writes (Elt F) G5 p.2.2.1, arg6.view.writes (Elt F) G6 p.2.2.2.1, arg7.view.writes (Elt F) G7 p.2.2.2.2.1, arg8.view.writes (Elt F) G8 p.2.2.2.2.2⟩

/-- The pieces of the trips before `k` leave the planes before trip `k`. -/
theorem over_stores (𝒱 : Variants) (c : Dev nD) (bd : Option 𝒱.V) (arg0 : Memref sig .tc .vmem S8x2x80x6144 .f32) (harg0 : arg0.IsWhole) (arg1 : Memref sig .tc .vmem S8x2x8x6144 .f32) (harg1 : arg1.IsWhole) (arg2 : Memref sig .tc .vmem S2x128x8 .f32) (harg2 : arg2.IsWhole) (arg3 : Memref sig .tc .vmem S8x2x80x6144 .f32) (harg3 : arg3.IsWhole) (arg4 : Memref sig .tc .vmem S2x80x128 .f32) (harg4 : arg4.IsWhole)
    (arg5 : Memref sig .tc .vmem S2x80x128 .f32) (harg5 : arg5.IsWhole) (arg6 : Memref sig .tc .vmem S2x80x128 .f32) (harg6 : arg6.IsWhole) (arg7 : Memref sig .tc .vmem S2x80x128 .f32) (harg7 : arg7.IsWhole) (arg8 : Memref sig .tc .vmem S2x80x128 .f32) (harg8 : arg8.IsWhole)
    (v22 : FVec F S2x80x128 .f32) (v38 : IVec S2x80x128 32) (X1 : BufTy.Contents (Elt F) arg1.view.ty)
    (G3 : BufTy.Contents (Elt F) arg3.view.ty) (G4 : BufTy.Contents (Elt F) arg4.view.ty) (G5 : BufTy.Contents (Elt F) arg5.view.ty)
    (G6 : BufTy.Contents (Elt F) arg6.view.ty) (G7 : BufTy.Contents (Elt F) arg7.view.ty) (G8 : BufTy.Contents (Elt F) arg8.view.ty) (k : ℕ) :
    over (F := F) arg3 arg4 arg5 arg6 arg7 arg8 G3 G4 G5 G6 G7 G8 (stores (F := F) 𝒱 c bd arg0 harg0 arg1 harg1 arg2 harg2 arg3 harg3 arg4 harg4 arg5 harg5 arg6 harg6 arg7 harg7 arg8 harg8 v22 v38 X1 G3 G4 G5 G6 G7 G8 k) =
      planes (F := F) 𝒱 c bd arg0 harg0 arg1 harg1 arg2 harg2 arg3 harg3 arg4 harg4 arg5 harg5 arg6 harg6 arg7 harg7 arg8 harg8 v22 v38 X1 ⟨G3, G4, G5, G6, G7, G8⟩ k := by
  induction k with
  | zero => rfl
  | succ k ih =>
    rw [stores.eq_2, planes.eq_2, ← ih]
    unfold more
    by_cases h : k < k1_t7_loop.trips
    · rw [dif_pos h, dif_pos h]
      simp only [over, after, View.writes_append]
    · rw [dif_neg h, dif_neg h]

theorem stores_succ (𝒱 : Variants) (c : Dev nD) (bd : Option 𝒱.V) (arg0 : Memref sig .tc .vmem S8x2x80x6144 .f32) (harg0 : arg0.IsWhole) (arg1 : Memref sig .tc .vmem S8x2x8x6144 .f32) (harg1 : arg1.IsWhole) (arg2 : Memref sig .tc .vmem S2x128x8 .f32) (harg2 : arg2.IsWhole) (arg3 : Memref sig .tc .vmem S8x2x80x6144 .f32) (harg3 : arg3.IsWhole) (arg4 : Memref sig .tc .vmem S2x80x128 .f32) (harg4 : arg4.IsWhole)
    (arg5 : Memref sig .tc .vmem S2x80x128 .f32) (harg5 : arg5.IsWhole) (arg6 : Memref sig .tc .vmem S2x80x128 .f32) (harg6 : arg6.IsWhole) (arg7 : Memref sig .tc .vmem S2x80x128 .f32) (harg7 : arg7.IsWhole) (arg8 : Memref sig .tc .vmem S2x80x128 .f32) (harg8 : arg8.IsWhole)
    (v22 : FVec F S2x80x128 .f32) (v38 : IVec S2x80x128 32) (X1 : BufTy.Contents (Elt F) arg1.view.ty)
    (G3 : BufTy.Contents (Elt F) arg3.view.ty) (G4 : BufTy.Contents (Elt F) arg4.view.ty) (G5 : BufTy.Contents (Elt F) arg5.view.ty)
    (G6 : BufTy.Contents (Elt F) arg6.view.ty) (G7 : BufTy.Contents (Elt F) arg7.view.ty) (G8 : BufTy.Contents (Elt F) arg8.view.ty) (k : Fin k1_t7_loop.trips) :
    over (F := F) arg3 arg4 arg5 arg6 arg7 arg8 G3 G4 G5 G6 G7 G8 (stores (F := F) 𝒱 c bd arg0 harg0 arg1 harg1 arg2 harg2 arg3 harg3 arg4 harg4 arg5 harg5 arg6 harg6 arg7 harg7 arg8 harg8 v22 v38 X1 G3 G4 G5 G6 G7 G8 (k.val + 1)) =
      after (F := F) 𝒱 c bd arg0 harg0 arg1 harg1 arg2 harg2 arg3 harg3 arg4 harg4 arg5 harg5 arg6 harg6 arg7 harg7 arg8 harg8 v22 v38 X1 k
        (over (F := F) arg3 arg4 arg5 arg6 arg7 arg8 G3 G4 G5 G6 G7 G8 (stores (F := F) 𝒱 c bd arg0 harg0 arg1 harg1 arg2 harg2 arg3 harg3 arg4 harg4 arg5 harg5 arg6 harg6 arg7 harg7 arg8 harg8 v22 v38 X1 G3 G4 G5 G6 G7 G8 k.val)) := by
  rw [over_stores, over_stores, planes_succ]

set_option warn.classDefReducibility false in
/-- The picking loop by its planes. -/
@[sl_loop] def picking (𝒱 : Variants) (c : Dev nD) (bd : Option 𝒱.V) (E : Set ℕ) (arg0 : Memref sig .tc .vmem S8x2x80x6144 .f32) (harg0 : arg0.IsWhole) (arg1 : Memref sig .tc .vmem S8x2x8x6144 .f32) (harg1 : arg1.IsWhole) (arg2 : Memref sig .tc .vmem S2x128x8 .f32) (harg2 : arg2.IsWhole) (arg3 : Memref sig .tc .vmem S8x2x80x6144 .f32) (harg3 : arg3.IsWhole) (arg4 : Memref sig .tc .vmem S2x80x128 .f32) (harg4 : arg4.IsWhole)
    (arg5 : Memref sig .tc .vmem S2x80x128 .f32) (harg5 : arg5.IsWhole) (arg6 : Memref sig .tc .vmem S2x80x128 .f32) (harg6 : arg6.IsWhole) (arg7 : Memref sig .tc .vmem S2x80x128 .f32) (harg7 : arg7.IsWhole) (arg8 : Memref sig .tc .vmem S2x80x128 .f32) (harg8 : arg8.IsWhole)
    (v22 : FVec F S2x80x128 .f32) (v38 : IVec S2x80x128 32) (X1 : BufTy.Contents (Elt F) arg1.view.ty)
    (G3 : BufTy.Contents (Elt F) arg3.view.ty) (G4 : BufTy.Contents (Elt F) arg4.view.ty) (G5 : BufTy.Contents (Elt F) arg5.view.ty)
    (G6 : BufTy.Contents (Elt F) arg6.view.ty) (G7 : BufTy.Contents (Elt F) arg7.view.ty) (G8 : BufTy.Contents (Elt F) arg8.view.ty) :
    LoopInvTy_k1_t7 (F := F) Unit ℕ (UR sig nD τ) ℕ 𝒱 c bd E arg0 harg0 arg1 harg1 arg2 harg2 arg3 harg3 arg4 harg4 arg5 harg5 arg6 harg6 arg7 harg7 arg8 harg8 v22 v38 where
  inv := fun k _ => iprop((arg1.view.loc (c : Thread nD τ) ↦[arg1.view.set]{fullShare} X1) ∗
    (∃ f, (arg3.view.loc (c : Thread nD τ) ↦[arg3.view.set]{fullShare} f) ∗ ⌜f = arg3.view.writes (Elt F) G3 (stores (F := F) 𝒱 c bd arg0 harg0 arg1 harg1 arg2 harg2 arg3 harg3 arg4 harg4 arg5 harg5 arg6 harg6 arg7 harg7 arg8 harg8 v22 v38 X1 G3 G4 G5 G6 G7 G8 k).1⌝) ∗
    (∃ f, (arg4.view.loc (c : Thread nD τ) ↦[arg4.view.set]{fullShare} f) ∗ ⌜f = arg4.view.writes (Elt F) G4 (stores (F := F) 𝒱 c bd arg0 harg0 arg1 harg1 arg2 harg2 arg3 harg3 arg4 harg4 arg5 harg5 arg6 harg6 arg7 harg7 arg8 harg8 v22 v38 X1 G3 G4 G5 G6 G7 G8 k).2.1⌝) ∗
    (∃ f, (arg5.view.loc (c : Thread nD τ) ↦[arg5.view.set]{fullShare} f) ∗ ⌜f = arg5.view.writes (Elt F) G5 (stores (F := F) 𝒱 c bd arg0 harg0 arg1 harg1 arg2 harg2 arg3 harg3 arg4 harg4 arg5 harg5 arg6 harg6 arg7 harg7 arg8 harg8 v22 v38 X1 G3 G4 G5 G6 G7 G8 k).2.2.1⌝) ∗
    (∃ f, (arg6.view.loc (c : Thread nD τ) ↦[arg6.view.set]{fullShare} f) ∗ ⌜f = arg6.view.writes (Elt F) G6 (stores (F := F) 𝒱 c bd arg0 harg0 arg1 harg1 arg2 harg2 arg3 harg3 arg4 harg4 arg5 harg5 arg6 harg6 arg7 harg7 arg8 harg8 v22 v38 X1 G3 G4 G5 G6 G7 G8 k).2.2.2.1⌝) ∗
    (∃ f, (arg7.view.loc (c : Thread nD τ) ↦[arg7.view.set]{fullShare} f) ∗ ⌜f = arg7.view.writes (Elt F) G7 (stores (F := F) 𝒱 c bd arg0 harg0 arg1 harg1 arg2 harg2 arg3 harg3 arg4 harg4 arg5 harg5 arg6 harg6 arg7 harg7 arg8 harg8 v22 v38 X1 G3 G4 G5 G6 G7 G8 k).2.2.2.2.1⌝) ∗
    (∃ f, (arg8.view.loc (c : Thread nD τ) ↦[arg8.view.set]{fullShare} f) ∗ ⌜f = arg8.view.writes (Elt F) G8 (stores (F := F) 𝒱 c bd arg0 harg0 arg1 harg1 arg2 harg2 arg3 harg3 arg4 harg4 arg5 harg5 arg6 harg6 arg7 harg7 arg8 harg8 v22 v38 X1 G3 G4 G5 G6 G7 G8 k).2.2.2.2.2⌝))
  step k acc := by
    iintro ⟨H1, ⟨%f3, H3, %e3⟩, ⟨%f4, H4, %e4⟩, ⟨%f5, H5, %e5⟩, ⟨%f6, H6, %e6⟩, ⟨%f7, H7, %e7⟩, ⟨%f8, H8, %e8⟩⟩
    subst e3 e4 e5 e6 e7 e8
    iapply (wp_wand_r Idealize.ShloMosaic.frame (wpE (defs₀ (F := F)) 𝒱 (c : Thread nD τ) bd) E)
    isplitl [H1 H3 H4 H5 H6 H7 H8]
    · iapply ((trip (F := F) 𝒱 c bd arg0 harg0 arg1 harg1 arg2 harg2 arg3 harg3 arg4 harg4 arg5 harg5 arg6 harg6 arg7 harg7 arg8 harg8 v22 v38 X1 k).2.2.2.2.2.2 E acc)
      isplitl [H1]; · iexact H1
      isplitl [H3]; · iexact H3
      isplitl [H4]; · iexact H4
      isplitl [H5]; · iexact H5
      isplitl [H6]; · iexact H6
      isplitl [H7]; · iexact H7
      iexact H8
    · iintro %yld ⟨H1, H3, H4, H5, H6, H7, H8⟩
      have hs := stores_succ (F := F) 𝒱 c bd arg0 harg0 arg1 harg1 arg2 harg2 arg3 harg3 arg4 harg4 arg5 harg5 arg6 harg6 arg7 harg7 arg8 harg8 v22 v38 X1 G3 G4 G5 G6 G7 G8 k
      isplitl [H1]; · iexact H1
      isplitl [H3]
      · iexists _; isplitl [H3]; · iexact H3
        ipureintro; exact (congrArg Planes.sc hs).symm
      isplitl [H4]
      · iexists _; isplitl [H4]; · iexact H4
        ipureintro; exact (congrArg Planes.pc hs).symm
      isplitl [H5]
      · iexists _; isplitl [H5]; · iexact H5
        ipureintro; exact (congrArg Planes.x1 hs).symm
      isplitl [H6]
      · iexists _; isplitl [H6]; · iexact H6
        ipureintro; exact (congrArg Planes.y1 hs).symm
      isplitl [H7]
      · iexists _; isplitl [H7]; · iexact H7
        ipureintro; exact (congrArg Planes.x2 hs).symm
      iexists _; isplitl [H8]; · iexact H8
      ipureintro; exact (congrArg Planes.y2 hs).symm

end Cert.KernelIdeal.Picks

end
-- ==== Proof.KIModel.lean ====
/- What the second kernel computes, as a function of the vectors it is given: its loads, its stores and its loops read as
   pure steps over whole vectors, each step one of the kernel's own expressions. -/
module

public import proofs.«01_k».proof.Proof.KIPicks
public import proofs.«01_k».proof.Proof.Upto
public import Idealize.ShloMosaic.Lib.VecWindow

@[expose] public section

set_option maxRecDepth 16384
set_option maxHeartbeats 4000000

noncomputable section

namespace Cert.KernelIdeal.Nms

open Cert.KernelIdeal Cert.KernelIdeal.Gen Cert.Loop
open Idealize.ShloMosaic Idealize.ShloMosaic.TcCoe

variable {F : FTy → Type} [FloatOps F] [Named F]

/-- Chunk at `off` of the scores. -/
abbrev scoreChunk (s : Vec F S8x2x80x6144 .f32) (off : Fin 4 → ℕ) (h : ∀ a, off a + S1x2x80x6144.size a ≤ S8x2x80x6144.size a) : Vec F S1x2x80x6144 .f32 :=
  View.ld s (Rect.unit (s := S8x2x80x6144) off S1x2x80x6144.size h)

/-- Chunk at `off` of the boxes. -/
abbrev boxChunk (x : Vec F S8x2x8x6144 .f32) (off : Fin 4 → ℕ) (h : ∀ a, off a + S1x2x8x6144.size a ≤ S8x2x8x6144.size a) : Vec F S1x2x8x6144 .f32 :=
  View.ld x (Rect.unit (s := S8x2x8x6144) off S1x2x8x6144.size h)

/-- How many scores reach the word with the bit on trial set. -/
def reach (s : Vec F S8x2x80x6144 .f32) (b : Fin k1_t1_loop.trips) (w : IVec S2x80x1 32) : IVec S2x80x1 32 :=
  upto (n := k1_t2_loop.trips) (fun k a => k1_pay47 (F := F) b w a (scoreChunk s (k1_off1 k) (k1_off1_inb k))) k1_pay46 k1_t2_loop.trips

/-- The threshold's word, bit by bit from the top. -/
def threshold (s : Vec F S8x2x80x6144 .f32) : IVec S2x80x1 32 :=
  upto (n := k1_t1_loop.trips) (fun b w => k1_pay48 b w (reach s b w)) k1_pay44 k1_t1_loop.trips

/-- How many scores are above the threshold. -/
def above (s : Vec F S8x2x80x6144 .f32) (t : IVec S2x80x1 32) : IVec S2x80x1 32 :=
  upto (n := k1_t3_loop.trips) (fun k a => k1_pay51 (F := F) t a (scoreChunk s (k1_off2 k) (k1_off2_inb k))) k1_pay50 k1_t3_loop.trips

/-- How many scores at the threshold stand below the index on trial. -/
def tied (s : Vec F S8x2x80x6144 .f32) (t : IVec S2x80x1 32) (b : Fin k1_t4_loop.trips) (w : IVec S2x80x1 32) : IVec S2x80x1 32 :=
  upto (n := k1_t5_loop.trips) (fun k a => k1_pay55 (F := F) t b w k a (scoreChunk s (k1_off3 k) (k1_off3_inb k))) k1_pay54 k1_t5_loop.trips

/-- The last index at which a tied score is kept, bit by bit from the top. -/
def cutoff (s : Vec F S8x2x80x6144 .f32) (t g : IVec S2x80x1 32) : IVec S2x80x1 32 :=
  upto (n := k1_t4_loop.trips) (fun b w => k1_pay56 g b w (tied s t b w)) k1_pay52 k1_t4_loop.trips

/-- The scores with what is not a candidate masked. -/
def masked (s : Vec F S8x2x80x6144 .f32) (t u : IVec S2x80x1 32) : Vec F S8x2x80x6144 .f32 :=
  upto (n := k1_t6_loop.trips) (fun k s => VecWindow.put (s := S8x2x80x6144) s (k1_off4 k) S1x2x80x6144.size
    (k1_pay57 t u k (scoreChunk s (k1_off4 k) (k1_off4_inb k)))) s k1_t6_loop.trips

/-- The candidates: the scores masked by their own threshold and cutoff. -/
def candidates (s : Vec F S8x2x80x6144 .f32) : Vec F S8x2x80x6144 .f32 :=
  masked s (threshold s) (cutoff s (threshold s) (above s (threshold s)))

/-- The best score of every class and where it stands. -/
def best (s : Vec F S8x2x80x6144 .f32) : FVec F S2x80x1 .f32 × IVec S2x80x1 32 :=
  upto (n := k1_t8_loop.trips) (fun k a => (k1_pay8 a.1 (scoreChunk s (k1_off5 k) (k1_off5_inb k)),
    k1_pay9 k a.1 a.2 (scoreChunk s (k1_off5 k) (k1_off5_inb k)))) (k1_pay4 (F := F), k1_pay5) k1_t8_loop.trips

/-- The box standing at an index. -/
def corners (x : Vec F S8x2x8x6144 .f32) (i : IVec S2x80x1 32) :
    FVec F S2x80x1 .f32 × FVec F S2x80x1 .f32 × FVec F S2x80x1 .f32 × FVec F S2x80x1 .f32 :=
  upto (n := k1_t9_loop.trips) (fun k a => (k1_pay16 i k a.1 (boxChunk x (k1_off6 k) (k1_off6_inb k)),
    k1_pay17 i k a.2.1 (boxChunk x (k1_off6 k) (k1_off6_inb k)), k1_pay18 i k a.2.2.1 (boxChunk x (k1_off6 k) (k1_off6_inb k)),
    k1_pay19 i k a.2.2.2 (boxChunk x (k1_off6 k) (k1_off6_inb k))))
    (k1_pay10 (F := F), k1_pay11 (F := F), k1_pay12 (F := F), k1_pay13 (F := F)) k1_t9_loop.trips

/-- The scores with the pick and what overlaps its box masked. -/
def cleared (x : Vec F S8x2x8x6144 .f32) (i : IVec S2x80x1 32) (b0 b1 b2 b3 : FVec F S2x80x1 .f32) (s : Vec F S8x2x80x6144 .f32) : Vec F S8x2x80x6144 .f32 :=
  upto (n := k1_t10_loop.trips) (fun k s => VecWindow.put (s := S8x2x80x6144) s (k1_off7 k) S1x2x80x6144.size
    (k1_pay21 (k1_pay1 (scoreChunk s (k1_off7 k) (k1_off7_inb k)))
      (k1_pay2 i b0 b1 b2 b3 (k1_pay20 b0 b1 b2 b3) 0#32 1#32 k (boxChunk x (k1_off8 k) (k1_off8_inb k))) (k1_pay3 (F := F)))) s k1_t10_loop.trips

/-- What a picking round works on. -/
structure Work (F : FTy → Type) where
  sc : Vec F S8x2x80x6144 .f32
  pc : Vec F S2x80x128 .f32
  x1 : Vec F S2x80x128 .f32
  y1 : Vec F S2x80x128 .f32
  x2 : Vec F S2x80x128 .f32
  y2 : Vec F S2x80x128 .f32

/-- One picking round. -/
def round (v38 : IVec S2x80x128 32) (x : Vec F S8x2x8x6144 .f32) (k : Fin k1_t7_loop.trips) (s : Work F) : Work F :=
  let m := best s.sc
  let b := corners x m.2
  let ok := k1_pay22 (F := F) m.1
  let col := k1_pay23 v38 0#32 1#32 k
  ⟨cleared x m.2 b.1 b.2.1 b.2.2.1 b.2.2.2 s.sc, k1_pay25 (k1_pay24 v38 0#32 1#32 k m.1 s.pc),
    k1_pay26 b.1 ok col s.x1, k1_pay27 b.2.1 ok col s.y1, k1_pay28 b.2.2.1 ok col s.x2, k1_pay64 col (k1_pay29 b.2.2.2 ok) s.y2⟩

/-- All picking rounds. -/
def picked (v38 : IVec S2x80x128 32) (x : Vec F S8x2x8x6144 .f32) (s : Work F) : Work F :=
  upto (n := k1_t7_loop.trips) (fun k s => round v38 x k s) s k1_t7_loop.trips

/-- What a merging round works on: the count, the rows written and the scores left. -/
structure Merge (F : FTy → Type) where
  cnt : FVec F S2x1x1 .f32
  fo : Vec F S2x128x8 .f32
  pc : Vec F S2x80x128 .f32

/-- One merging round. -/
def mergeRound (x1 y1 x2 y2 : Vec F S2x80x128 .f32) (k : Fin k1_t11_loop.trips) (s : Merge F) : Merge F :=
  let j := k1_pay31 k1_pay65 s.pc
  let hit := k1_pay32 k1_pay65 s.pc
  let ok := k1_pay34 s.pc
  ⟨k1_pay35 s.cnt s.pc,
    k1_pay68 (Scf.iv 0#32 1#32 k) j ok (k1_pay35 s.cnt s.pc) (k1_pay36 s.pc) (k1_pay37 k1_pay65 s.pc x1) (k1_pay38 hit ok y1) (k1_pay39 hit ok x2)
      (k1_pay40 hit ok y2) 128#32 (k1_pay41 j) (k1_pay42 j) 0#32 s.fo,
    k1_pay33 k1_pay65 s.pc⟩

/-- All merging rounds. -/
def merged (x1 y1 x2 y2 : Vec F S2x80x128 .f32) (s : Merge F) : Merge F :=
  upto (n := k1_t11_loop.trips) (fun k s => mergeRound x1 y1 x2 y2 k s) s k1_t11_loop.trips

/-- What the picking rounds start from. -/
def start (s : Vec F S8x2x80x6144 .f32) : Work F :=
  ⟨candidates (k1_pay43 s), k1_pay58 (F := F), k1_pay60 (k1_pay59 (F := F)), k1_pay61 (F := F), k1_pay62 (F := F), k1_pay63 (F := F)⟩

/-- The kernel's result. -/
def out (s : Vec F S8x2x80x6144 .f32) (x : Vec F S8x2x8x6144 .f32) : Vec F S2x128x8 .f32 :=
  let p := picked (iota .tc S2x80x128 32 [2] iota_S2x80x128_d2_w32) x (start s)
  (merged p.x1 p.y1 p.x2 p.y2 ⟨k1_pay67 (F := F), k1_pay66 (F := F), p.pc⟩).fo

end Cert.KernelIdeal.Nms

end
-- ==== Proof.Folds.lean ====
/- Folds over a finite type read as what they come to: a greatest entry, a least number, a count; and the indices of the
   scores as chunk and place in the chunk. -/
module

public import Idealize.ShloMosaic.PureOps.Ideal
public import Idealize.ShloMosaic.PureOps.IdealRules
public import Idealize.ShloMosaic.Lib.Pointwise
public import Mathlib.Data.Finset.Fold

@[expose] public section

set_option maxRecDepth 16384

noncomputable section

open Idealize.ShloMosaic Idealize.ShloMosaic.TcCoe

namespace Cert.Folds

theorem negInf : Ideal.ofBits .f32 4286578688#32 = ⊥ := by simp [Ideal.ofBits, Ideal.ieee]

section
variable {ι : Type} [Fintype ι]

theorem fold_max_le (f : ι → EReal) (M : EReal) : Finset.fold max (Ideal.ofBits .f32 4286578688#32) f Finset.univ ≤ M ↔ ∀ x, f x ≤ M := by
  rw [negInf, Finset.fold_max_le]
  simp

theorem le_fold_max (f : ι → EReal) (x : ι) : f x ≤ Finset.fold max (Ideal.ofBits .f32 4286578688#32) f Finset.univ :=
  (fold_max_le f _).1 le_rfl x

theorem fold_max_eq (f : ι → EReal) (M : EReal) (h : ∀ x, f x ≤ M) (x : ι) (e : f x = M) :
    Finset.fold max (Ideal.ofBits .f32 4286578688#32) f Finset.univ = M :=
  le_antisymm ((fold_max_le f M).2 h) (e ▸ le_fold_max f x)

/-- The greatest of a double family. -/
theorem fold_max_eq₂ {κ : Type} [Fintype κ] (f : ι → κ → EReal) (M : EReal) (h : ∀ x y, f x y ≤ M) (x : ι) (y : κ) (e : f x y = M) :
    Finset.fold max (Ideal.ofBits .f32 4286578688#32) (fun x => Finset.fold max (Ideal.ofBits .f32 4286578688#32) (fun y => f x y) Finset.univ) Finset.univ = M :=
  le_antisymm ((fold_max_le _ M).2 fun x => (fold_max_le _ M).2 fun y => h x y)
    (e ▸ (le_fold_max (f x) y).trans (le_fold_max (fun x => Finset.fold max (Ideal.ofBits .f32 4286578688#32) (fun y => f x y) Finset.univ) x))

/-- A greatest entry over a finite type with an element is attained, or everything is lowest. -/
theorem fold_max_attained (f : ι → EReal) : Finset.fold max (Ideal.ofBits .f32 4286578688#32) f Finset.univ = ⊥ ∨
    ∃ x, f x = Finset.fold max (Ideal.ofBits .f32 4286578688#32) f Finset.univ := by
  rw [negInf]
  have : ∀ s : Finset ι, Finset.fold max ⊥ f s = ⊥ ∨ ∃ x, f x = Finset.fold max ⊥ f s := by
    classical
    intro s
    induction s using Finset.induction_on with
    | empty => exact .inl rfl
    | insert a s ha ih =>
      rw [Finset.fold_insert ha]
      rcases le_total (f a) (Finset.fold max ⊥ f s) with h | h
      · rw [max_eq_right h]; exact ih
      · rw [max_eq_left h]; exact .inr ⟨a, rfl⟩
  exact this _

theorem slt_ofNat (a b : ℕ) (ha : a < 2 ^ 31) (hb : b < 2 ^ 31) : (BitVec.ofNat 32 a).slt (BitVec.ofNat 32 b) = decide (a < b) := by
  have e1 : (BitVec.ofNat 32 a).toInt = a := by rw [BitVec.toInt_eq_toNat_of_lt] <;> simp <;> omega
  have e2 : (BitVec.ofNat 32 b).toInt = b := by rw [BitVec.toInt_eq_toNat_of_lt] <;> simp <;> omega
  rw [BitVec.slt, e1, e2]
  simp

theorem sle_ofNat (a b : ℕ) (ha : a < 2 ^ 31) (hb : b < 2 ^ 31) : (BitVec.ofNat 32 a).sle (BitVec.ofNat 32 b) = decide (a ≤ b) := by
  have e1 : (BitVec.ofNat 32 a).toInt = a := by rw [BitVec.toInt_eq_toNat_of_lt] <;> simp <;> omega
  have e2 : (BitVec.ofNat 32 b).toInt = b := by rw [BitVec.toInt_eq_toNat_of_lt] <;> simp <;> omega
  rw [BitVec.sle, e1, e2]
  simp

theorem eq_ofNat (a b : ℕ) (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

theorem cmpi_eq_ofNat (a b : ℕ) (ha : a < 2 ^ 32) (hb : b < 2 ^ 32) : IntOp.cmpi .eq (BitVec.ofNat 32 a) (BitVec.ofNat 32 b) = BitVec.ofBool (decide (a = b)) := by
  show BitVec.ofBool (BitVec.ofNat 32 a == BitVec.ofNat 32 b) = _
  congr 1
  rw [beq_eq_decide]
  exact decide_eq_decide.2 (eq_ofNat a b ha hb)

theorem cmpi_sle_ofNat (a b : ℕ) (ha : a < 2 ^ 31) (hb : b < 2 ^ 31) : IntOp.cmpi .sle (BitVec.ofNat 32 a) (BitVec.ofNat 32 b) = BitVec.ofBool (decide (a ≤ b)) :=
  congrArg BitVec.ofBool (sle_ofNat a b ha hb)

theorem cmpi_sge_ofNat (a b : ℕ) (ha : a < 2 ^ 31) (hb : b < 2 ^ 31) : IntOp.cmpi .sge (BitVec.ofNat 32 a) (BitVec.ofNat 32 b) = BitVec.ofBool (decide (b ≤ a)) :=
  congrArg BitVec.ofBool (sle_ofNat b a hb ha)

theorem addi_ofNat (a b : ℕ) : IntOp.addi (BitVec.ofNat 32 a) (BitVec.ofNat 32 b) = BitVec.ofNat 32 (a + b) := (BitVec.ofNat_add a b).symm

theorem muli_ofNat (a b : ℕ) : IntOp.muli (BitVec.ofNat 32 a) (BitVec.ofNat 32 b) = BitVec.ofNat 32 (a * b) := (BitVec.ofNat_mul a b).symm

theorem iv_ofNat (k : ℕ) : Scf.iv 0#32 1#32 k = BitVec.ofNat 32 k := by
  show 0#32 + BitVec.ofNat 32 k * 1#32 = _
  simp

theorem subi_ofNat (a b : ℕ) (h : b ≤ a) (ha : a < 2 ^ 32) : IntOp.subi (BitVec.ofNat 32 a) (BitVec.ofNat 32 b) = BitVec.ofNat 32 (a - b) :=
  (BitVec.ofNat_sub_ofNat_of_le a b (by omega) h)

theorem minsi_ofNat (a b : ℕ) (ha : a < 2 ^ 31) (hb : b < 2 ^ 31) : IntOp.minsi (BitVec.ofNat 32 a) (BitVec.ofNat 32 b) = BitVec.ofNat 32 (min a b) := by
  unfold IntOp.minsi
  rw [slt_ofNat a b ha hb]
  by_cases h : a < b
  · simp [h, min_eq_left h.le]
  · simp [h, min_eq_right (not_lt.1 h)]

/-- The least of words that are numbers. -/
theorem fold_minsi (f : ι → BitVec 32) (g : ι → ℕ) (h : ∀ x, f x = BitVec.ofNat 32 (g x)) (hg : ∀ x, g x < 2 ^ 31) :
    Finset.fold IntOp.minsi 2147483647#32 f Finset.univ = BitVec.ofNat 32 (Finset.fold min 2147483647 g Finset.univ) ∧
      Finset.fold min 2147483647 g Finset.univ < 2 ^ 31 := by
  classical
  have : ∀ s : Finset ι, Finset.fold IntOp.minsi 2147483647#32 f s = BitVec.ofNat 32 (Finset.fold min 2147483647 g s) ∧
      Finset.fold min 2147483647 g s < 2 ^ 31 := by
    intro s
    induction s using Finset.induction_on with
    | empty => exact ⟨rfl, by simp⟩
    | insert a s ha ih =>
      rw [Finset.fold_insert ha, Finset.fold_insert ha, ih.1, h, minsi_ofNat _ _ (hg a) ih.2]
      exact ⟨rfl, lt_of_le_of_lt (min_le_left _ _) (hg a)⟩
  exact this _

/-- The least of a family of numbers. -/
theorem fold_min_eq (g : ι → ℕ) (M : ℕ) (hM : M ≤ 2147483647) (h : ∀ x, M ≤ g x) (x : ι) (e : g x = M) : Finset.fold min 2147483647 g Finset.univ = M :=
  le_antisymm (Finset.fold_min_le M |>.2 (.inr ⟨x, Finset.mem_univ _, e.le⟩)) (Finset.le_fold_min M |>.2 ⟨hM, fun x _ => h x⟩)

theorem fold_min_eq₂ {κ : Type} [Fintype κ] (g : ι → κ → ℕ) (M : ℕ) (hM : M ≤ 2147483647) (h : ∀ x y, M ≤ g x y) (x : ι) (y : κ) (e : g x y = M) :
    Finset.fold min 2147483647 (fun x => Finset.fold min 2147483647 (g x) Finset.univ) Finset.univ = M :=
  le_antisymm (Finset.fold_min_le M |>.2 (.inr ⟨x, Finset.mem_univ _, Finset.fold_min_le M |>.2 (.inr ⟨y, Finset.mem_univ _, e.le⟩)⟩))
    (Finset.le_fold_min M |>.2 ⟨hM, fun x _ => Finset.le_fold_min M |>.2 ⟨hM, fun y _ => h x y⟩⟩)

theorem fold_minsi₂ {κ : Type} [Fintype κ] (f : ι → κ → BitVec 32) (g : ι → κ → ℕ) (hf : ∀ x y, f x y = BitVec.ofNat 32 (g x y)) (hg : ∀ x y, g x y < 2 ^ 31)
    (M : ℕ) (h : ∀ x y, M ≤ g x y) (x : ι) (y : κ) (e : g x y = M) :
    Finset.fold IntOp.minsi 2147483647#32 (fun x => Finset.fold IntOp.minsi 2147483647#32 (fun y => f x y) Finset.univ) Finset.univ = BitVec.ofNat 32 M := by
  have hM : M ≤ 2147483647 := by have := hg x y; omega
  rw [(fold_minsi _ (fun x => Finset.fold min 2147483647 (g x) Finset.univ) (fun x => (fold_minsi _ (g x) (hf x) (hg x)).1) (fun x => (fold_minsi _ (g x) (hf x) (hg x)).2)).1,
    fold_min_eq₂ g M hM h x y e]

/-- How many entries of a family have a property. -/
theorem fold_count (p : ι → Prop) [DecidablePred p] (f : ι → BitVec 32) (h : ∀ x, f x = BitVec.setWidth 32 (BitVec.ofBool (decide (p x)))) :
    Finset.fold IntOp.addi 0#32 f Finset.univ = BitVec.ofNat 32 (Finset.univ.filter p).card := by
  classical
  have : ∀ s : Finset ι, Finset.fold IntOp.addi 0#32 f s = BitVec.ofNat 32 (s.filter p).card := by
    intro s
    induction s using Finset.induction_on with
    | empty => rfl
    | insert a s ha ih =>
      rw [Finset.fold_insert ha, ih, h, Finset.filter_insert]
      by_cases hp : p a
      · rw [if_pos hp, Finset.card_insert_of_notMem (fun hm => ha (Finset.mem_filter.1 hm).1)]
        simp only [hp, decide_true]
        rw [show BitVec.setWidth 32 (BitVec.ofBool true) = BitVec.ofNat 32 1 from rfl, addi_ofNat, Nat.add_comm]
      · rw [if_neg hp]
        simp only [hp, decide_false]
        rw [show BitVec.setWidth 32 (BitVec.ofBool false) = BitVec.ofNat 32 0 from rfl, addi_ofNat, Nat.zero_add]
  exact this _
end

/-- The index of a place in a chunk. -/
def at' (k : Fin 8) (l : Fin 6144) : Fin 49152 := ⟨k.val * 6144 + l.val, by omega⟩

theorem at'_split (n : Fin 49152) : ∃ k l, at' k l = n :=
  ⟨⟨n.val / 6144, by omega⟩, ⟨n.val % 6144, by omega⟩, Fin.ext (by show n.val / 6144 * 6144 + n.val % 6144 = n.val; omega)⟩

theorem at'_inj {k k' : Fin 8} {l l' : Fin 6144} (h : at' k l = at' k' l') : k = k' ∧ l = l' := by
  have h : k.val * 6144 + l.val = k'.val * 6144 + l'.val := congrArg Fin.val h
  constructor <;> (ext; omega)

/-- How many indices in the first chunks have a property. -/
def below (p : Fin 49152 → Prop) [DecidablePred p] (k : ℕ) : ℕ := (Finset.univ.filter fun n => p n ∧ n.val < k * 6144).card

theorem below_zero (p : Fin 49152 → Prop) [DecidablePred p] : below p 0 = 0 := by
  unfold below
  rw [Finset.card_eq_zero, Finset.filter_eq_empty_iff]
  intro n _ h
  omega

theorem below_last (p : Fin 49152 → Prop) [DecidablePred p] : below p 8 = (Finset.univ.filter p).card := by
  unfold below
  refine congrArg Finset.card (Finset.ext fun n => ?_)
  simp only [Finset.mem_filter, Finset.mem_univ, true_and]
  have := n.isLt
  exact ⟨fun h => h.1, fun h => ⟨h, by omega⟩⟩

theorem below_succ (p : Fin 49152 → Prop) [DecidablePred p] (k : Fin 8) :
    below p (k.val + 1) = below p k.val + (Finset.univ.filter fun l => p (at' k l)).card := by
  classical
  unfold below
  rw [← Finset.card_image_of_injective (Finset.univ.filter fun l => p (at' k l)) (f := at' k) (fun l l' h => (at'_inj h).2), ← Finset.card_union_of_disjoint]
  · refine congrArg Finset.card (Finset.ext fun n => ?_)
    simp only [Finset.mem_filter, Finset.mem_univ, true_and, Finset.mem_union, Finset.mem_image]
    constructor
    · rintro ⟨hp, hn⟩
      by_cases h : n.val < k.val * 6144
      · exact .inl ⟨hp, h⟩
      · refine .inr ⟨⟨n.val - k.val * 6144, by omega⟩, ?_⟩
        have e : at' k ⟨n.val - k.val * 6144, by omega⟩ = n := Fin.ext (by show k.val * 6144 + (n.val - k.val * 6144) = n.val; omega)
        exact ⟨e.symm ▸ hp, e⟩
    · rintro (⟨hp, hn⟩ | ⟨l, hp, rfl⟩)
      · exact ⟨hp, by omega⟩
      · refine ⟨hp, ?_⟩
        show k.val * 6144 + l.val < _
        have := l.isLt
        omega
  · rw [Finset.disjoint_left]
    intro n hn hn'
    obtain ⟨l, -, rfl⟩ := Finset.mem_image.1 hn'
    have : k.val * 6144 + l.val < k.val * 6144 := (Finset.mem_filter.1 hn).2.2
    omega

theorem ofBool_setWidth_and (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem ofBool_or (p q : Prop) [Decidable p] [Decidable q] :
    IntOp.ori (BitVec.ofBool (decide p)) (BitVec.ofBool (decide q)) = BitVec.ofBool (decide (p ∨ q)) := by
  by_cases hp : p <;> by_cases hq : q <;> simp [hp, hq, IntOp.ori]

theorem select_ofBool {α : Type} (p : Prop) [Decidable p] (x y : α) : Scalar.select (BitVec.ofBool (decide p)) x y = if p then x else y := by
  by_cases hp : p <;> simp [hp, Scalar.select]

/-- Setting a bit above which the word is a multiple. -/
theorem ori_ofNat (x j : ℕ) (h : 2 ^ (j + 1) ∣ x) : IntOp.ori (BitVec.ofNat 32 x) (BitVec.ofNat 32 (2 ^ j)) = BitVec.ofNat 32 (x + 2 ^ j) := by
  obtain ⟨y, rfl⟩ := h
  show BitVec.ofNat 32 _ ||| BitVec.ofNat 32 _ = _
  rw [← BitVec.ofNat_or]
  congr 1
  have h := Nat.two_pow_add_eq_or_of_lt (i := j + 1) (b := 2 ^ j) (Nat.pow_lt_pow_right (by norm_num) (Nat.lt_succ_self j)) y
  exact h.symm

end Cert.Folds

end
-- ==== Proof.Order.lean ====
/- Lists of positions from the greatest entry down: the stable sort is one, what stands how far down it, and the first of
   the greatest. -/
module

public import Idealize.ShloMosaic.Lib.SortFacts
public import Mathlib.Data.EReal.Basic
public import Mathlib.Data.Fintype.Card
public import Mathlib.Data.Fintype.Pi
public import Mathlib.Order.Interval.Finset.Fin
public import Mathlib.Tactic.Common

@[expose] public section

namespace Cert.Order

open Idealize.ShloMosaic

/-- The first position of the greatest entry. -/
def IsPick {n : ℕ} (x : Fin n → EReal) (i : Fin n) : Prop := ∀ j, x j ≤ x i ∧ (x j = x i → i ≤ j)

theorem IsPick.unique {n : ℕ} {x : Fin n → EReal} {i j : Fin n} (hi : IsPick x i) (hj : IsPick x j) : i = j := by
  have e : x i = x j := le_antisymm (hj i).1 (hi j).1
  exact le_antisymm ((hi j).2 e.symm) ((hj i).2 e)

/-- Positions listed from the greatest entry down, equal entries in order. -/
def Listed {n k : ℕ} (x : Fin n → EReal) (σ : Fin k → Fin n) : Prop :=
  ∀ a b, a < b → x (σ b) < x (σ a) ∨ (x (σ b) = x (σ a) ∧ σ a < σ b)

/-- One entry goes before another in the list. -/
def Ahead {n : ℕ} (x : Fin n → EReal) (a b : Fin n) : Prop := x b < x a ∨ (x b = x a ∧ a < b)

theorem insert_ahead {n : ℕ} (x : Fin n → EReal) (before : Fin n → Fin n → Bool) (h : ∀ i j, before i j = decide (x j < x i)) (a : Fin n) :
    ∀ l : List (Fin n), (∀ b ∈ l, a < b) → l.Pairwise (Ahead x) → (insertBefore before a l).Pairwise (Ahead x)
  | [], _, _ => List.pairwise_singleton _ _
  | b :: l, ha, hl => by
    unfold insertBefore
    rw [h]
    have hb := List.pairwise_cons.1 hl
    by_cases hx : x a < x b
    · simp only [hx, decide_true, if_true]
      refine List.pairwise_cons.2 ⟨fun y hy => ?_, insert_ahead x before h a l (fun y hy => ha y (List.mem_cons_of_mem _ hy)) hb.2⟩
      rcases List.mem_cons.1 ((perm_insertBefore before a l).mem_iff.1 hy) with e | hy
      · subst e; exact .inl hx
      · exact hb.1 y hy
    · simp only [hx, decide_false, Bool.false_eq_true, if_false]
      have hle : x b ≤ x a := not_lt.1 hx
      refine List.pairwise_cons.2 ⟨fun y hy => ?_, hl⟩
      have hy' := ha y hy
      have hxy : x y ≤ x a := by
        rcases List.mem_cons.1 hy with e | hy
        · subst e; exact hle
        · rcases hb.1 y hy with e | e
          · exact e.le.trans hle
          · exact e.1.le.trans hle
      rcases lt_or_eq_of_le hxy with e | e
      · exact .inl e
      · exact .inr ⟨e, hy'⟩

theorem sort_ahead {n : ℕ} (x : Fin n → EReal) (before : Fin n → Fin n → Bool) (h : ∀ i j, before i j = decide (x j < x i)) :
    ∀ l : List (Fin n), l.Pairwise (· < ·) → (stableSort before l).Pairwise (Ahead x)
  | [], _ => List.Pairwise.nil
  | a :: l, hl => by
    have hc := List.pairwise_cons.1 hl
    unfold stableSort
    exact insert_ahead x before h a _ (fun b hb => hc.1 b ((perm_stableSort before l).mem_iff.1 hb)) (sort_ahead x before h l hc.2)

/-- The stable sort lists the positions. -/
theorem sorted_listed {n : ℕ} (x : Fin n → EReal) (before : Fin n → Fin n → Bool) (h : ∀ i j, before i j = decide (x j < x i)) :
    Listed x (sortedFrom before) := by
  intro a b hab
  have := List.pairwise_iff_get.1 (sort_ahead x before h (List.finRange n) (List.pairwise_lt_finRange n))
  exact this (a.cast (length_sortPositions n before).symm) (b.cast (length_sortPositions n before).symm) hab

/-- How many entries stand at or ahead of a position. -/
noncomputable def place {n : ℕ} (x : Fin n → EReal) (i : Fin n) : ℕ :=
  (Finset.univ.filter fun m => x i < x m ∨ (x m = x i ∧ m ≤ i)).card

section
variable {N M : ℕ} {w : Fin M → EReal} {ρ : Fin N → Fin M}

theorem Listed.le (h : Listed w ρ) {a b : Fin N} (hab : a ≤ b) : w (ρ b) ≤ w (ρ a) := by
  rcases eq_or_lt_of_le hab with e | e
  · rw [e]
  · rcases h a b e with e | e
    · exact e.le
    · exact e.1.le

/-- Of a list above everything else: how many entries have a property that greater ones have as well. -/
theorem Listed.count_iff (h : Listed w ρ) (inj : Function.Injective ρ) (out : ∀ n, (∀ k, ρ k ≠ n) → ∀ k, w n < w (ρ k))
    (P : EReal → Prop) (up : ∀ y z, y ≤ z → P y → P z) [DecidablePred fun n => P (w n)] (k : Fin N) :
    k.val + 1 ≤ (Finset.univ.filter fun n => P (w n)).card ↔ P (w (ρ k)) := by
  constructor
  · intro hc
    by_contra hP
    have hsub : (Finset.univ.filter fun n => P (w n)) ⊆ (Finset.univ.filter fun a : Fin N => a < k).image ρ := by
      intro n hn
      have hn := (Finset.mem_filter.1 hn).2
      by_cases hr : ∃ a, ρ a = n
      · obtain ⟨a, rfl⟩ := hr
        refine Finset.mem_image.2 ⟨a, Finset.mem_filter.2 ⟨Finset.mem_univ _, ?_⟩, rfl⟩
        by_contra hak
        exact hP (up _ _ (h.le (not_lt.1 hak)) hn)
      · exact absurd (up _ _ (out n (fun a e => hr ⟨a, e⟩) k).le hn) hP
    have := Finset.card_le_card hsub
    rw [Finset.card_image_of_injective _ inj] at this
    have e : (Finset.univ.filter fun a : Fin N => a < k).card = k.val := by
      rw [show (Finset.univ.filter fun a : Fin N => a < k) = Finset.Iio k by ext; simp, Fin.card_Iio]
    omega
  · intro hP
    have hsub : (Finset.univ.filter fun a : Fin N => a ≤ k).image ρ ⊆ (Finset.univ.filter fun n => P (w n)) := by
      intro n hn
      obtain ⟨a, ha, rfl⟩ := Finset.mem_image.1 hn
      exact Finset.mem_filter.2 ⟨Finset.mem_univ _, up _ _ (h.le (Finset.mem_filter.1 ha).2) hP⟩
    have := Finset.card_le_card hsub
    rw [Finset.card_image_of_injective _ inj] at this
    have e : (Finset.univ.filter fun a : Fin N => a ≤ k).card = k.val + 1 := by
      rw [show (Finset.univ.filter fun a : Fin N => a ≤ k) = Finset.Iic k by ext; simp, Fin.card_Iic]
    omega

/-- What stands among the first `K` of the list. -/
theorem Listed.place_iff (h : Listed w ρ) (inj : Function.Injective ρ) (out : ∀ n, (∀ k, ρ k ≠ n) → ∀ k, w n < w (ρ k))
    (K : ℕ) (hK : K ≤ N) (n : Fin M) : place w n ≤ K ↔ ∃ k : Fin N, k.val < K ∧ ρ k = n := by
  by_cases hr : ∃ a, ρ a = n
  · obtain ⟨k, rfl⟩ := hr
    have e : place w (ρ k) = k.val + 1 := by
      unfold place
      have : (Finset.univ.filter fun m => w (ρ k) < w m ∨ (w m = w (ρ k) ∧ m ≤ ρ k)) = (Finset.Iic k).image ρ := by
        ext m
        simp only [Finset.mem_filter, Finset.mem_univ, true_and, Finset.mem_image, Finset.mem_Iic]
        constructor
        · intro hm
          by_cases hr : ∃ a, ρ a = m
          · obtain ⟨a, rfl⟩ := hr
            refine ⟨a, ?_, rfl⟩
            by_contra hak
            rcases h k a (not_le.1 hak) with e | e
            · rcases hm with hm | hm
              · exact absurd (hm.trans e) (lt_irrefl _)
              · exact absurd hm.1 e.ne
            · rcases hm with hm | hm
              · exact absurd e.1 hm.ne'
              · exact absurd hm.2 (not_le.2 e.2)
          · have hlt := out m (fun a e => hr ⟨a, e⟩) k
            rcases hm with hm | hm
            · exact absurd (hm.trans hlt) (lt_irrefl _)
            · exact absurd hm.1 hlt.ne
        · rintro ⟨a, ha, rfl⟩
          rcases eq_or_lt_of_le ha with e | e
          · subst e; exact .inr ⟨rfl, le_rfl⟩
          · rcases h a k e with e | e
            · exact .inl e
            · exact .inr ⟨e.1.symm, e.2.le⟩
      rw [this, Finset.card_image_of_injective _ inj, Fin.card_Iic]
    rw [e]
    constructor
    · intro hk; exact ⟨k, hk, rfl⟩
    · rintro ⟨a, ha, e⟩
      have := inj e
      subst this; exact ha
  · have hsub : insert n (Finset.univ.image ρ) ⊆ (Finset.univ.filter fun m => w n < w m ∨ (w m = w n ∧ m ≤ n)) := by
      intro m hm
      rcases Finset.mem_insert.1 hm with e | hm
      · subst e; exact Finset.mem_filter.2 ⟨Finset.mem_univ _, .inr ⟨rfl, le_rfl⟩⟩
      · obtain ⟨a, -, rfl⟩ := Finset.mem_image.1 hm
        exact Finset.mem_filter.2 ⟨Finset.mem_univ _, .inl (out n (fun a e => hr ⟨a, e⟩) a)⟩
    have hc := Finset.card_le_card hsub
    rw [Finset.card_insert_of_notMem (fun hm => by obtain ⟨a, -, e⟩ := Finset.mem_image.1 hm; exact hr ⟨a, e⟩),
      Finset.card_image_of_injective _ inj, Finset.card_univ, Fintype.card_fin] at hc
    constructor
    · intro hp
      exact absurd (hc.trans hp) (by omega)
    · rintro ⟨a, -, e⟩
      exact absurd ⟨a, e⟩ hr
end

/-- How many entries equal to `t` stand at or below an index. -/
noncomputable def ties {M : ℕ} (w : Fin M → EReal) (t : EReal) (x : ℕ) : ℕ := (Finset.univ.filter fun m => w m = t ∧ m.val ≤ x).card

theorem ties_mono {M : ℕ} (w : Fin M → EReal) (t : EReal) {x y : ℕ} (h : x ≤ y) : ties w t x ≤ ties w t y :=
  Finset.card_le_card fun m hm => Finset.mem_filter.2 ⟨Finset.mem_univ _, (Finset.mem_filter.1 hm).2.1, (Finset.mem_filter.1 hm).2.2.trans h⟩

noncomputable def over {M : ℕ} (w : Fin M → EReal) (t : EReal) : ℕ := (Finset.univ.filter fun m => t < w m).card
noncomputable def reach {M : ℕ} (w : Fin M → EReal) (t : EReal) : ℕ := (Finset.univ.filter fun m => t ≤ w m).card

theorem over_add_ties_le {M : ℕ} (w : Fin M → EReal) (t : EReal) (x : ℕ) : over w t + ties w t x ≤ reach w t := by
  unfold over ties reach
  rw [← Finset.card_union_of_disjoint]
  · refine Finset.card_le_card fun m hm => ?_
    rcases Finset.mem_union.1 hm with hm | hm
    · exact Finset.mem_filter.2 ⟨Finset.mem_univ _, (Finset.mem_filter.1 hm).2.le⟩
    · exact Finset.mem_filter.2 ⟨Finset.mem_univ _, (Finset.mem_filter.1 hm).2.1.ge⟩
  · rw [Finset.disjoint_left]
    intro m hm hm'
    exact absurd (Finset.mem_filter.1 hm').2.1 (Finset.mem_filter.1 hm).2.ne'

/-- The quota leaves room for the first tie. -/
theorem ties_zero_le {M : ℕ} (w : Fin M → EReal) (t : EReal) (K : ℕ) (hA : over w t + 1 ≤ K ∨ reach w t ≤ K) :
    ties w t 0 ≤ K - over w t := by
  have h1 : ties w t 0 ≤ 1 := by
    unfold ties
    refine Finset.card_le_one.2 fun a ha b hb => ?_
    have ha := (Finset.mem_filter.1 ha).2.2
    have hb := (Finset.mem_filter.1 hb).2.2
    exact Fin.ext (by omega)
  have := over_add_ties_le w t 0
  omega

/-- What a threshold and a cut among the entries at the threshold keep: the first `K` of the order. -/
theorem keep_iff {M : ℕ} (w : Fin M → EReal) (t : EReal) (K B cut : ℕ) (hB : M ≤ B) (hr : K ≤ reach w t) (hA : over w t + 1 ≤ K ∨ reach w t ≤ K)
    (hc : ties w t cut ≤ K - over w t) (hc' : cut + 1 = B ∨ ¬ ties w t (cut + 1) ≤ K - over w t) (n : Fin M) :
    (t < w n ∨ (w n = t ∧ n.val ≤ cut)) ↔ place w n ≤ K := by
  have hAK : over w t ≤ K := by have := over_add_ties_le w t 0; omega
  rcases lt_trichotomy t (w n) with h | h | h
  · refine ⟨fun _ => ?_, fun _ => .inl h⟩
    refine le_trans (Finset.card_le_card fun m hm => ?_) hAK
    refine Finset.mem_filter.2 ⟨Finset.mem_univ _, ?_⟩
    rcases (Finset.mem_filter.1 hm).2 with e | e
    · exact h.trans e
    · rw [e.1]; exact h
  · have e : place w n = over w t + ties w t n.val := by
      unfold place over ties
      rw [← Finset.card_union_of_disjoint]
      · congr 1
        ext m
        simp only [Finset.mem_filter, Finset.mem_univ, true_and, Finset.mem_union, h, Fin.le_def]
      · rw [Finset.disjoint_left]
        intro m hm hm'
        exact absurd (Finset.mem_filter.1 hm').2.1 (Finset.mem_filter.1 hm).2.ne'
    rw [e]
    constructor
    · rintro (h' | h')
      · exact absurd h h'.ne
      · have := ties_mono w t h'.2; omega
    · intro h'
      refine .inr ⟨h.symm, ?_⟩
      by_contra hn
      rcases hc' with hc' | hc'
      · have := n.isLt; omega
      · have := ties_mono w t (show cut + 1 ≤ n.val by omega); omega
  · constructor
    · rintro (h' | h')
      · exact absurd (h.trans h') (lt_irrefl _)
      · exact absurd h'.1 h.ne
    · intro h'
      have hsub : insert n (Finset.univ.filter fun m => t ≤ w m) ⊆ (Finset.univ.filter fun m => w n < w m ∨ (w m = w n ∧ m ≤ n)) := by
        intro m hm
        rcases Finset.mem_insert.1 hm with e | hm
        · subst e; exact Finset.mem_filter.2 ⟨Finset.mem_univ _, .inr ⟨rfl, le_rfl⟩⟩
        · exact Finset.mem_filter.2 ⟨Finset.mem_univ _, .inl (h.trans_le (Finset.mem_filter.1 hm).2)⟩
      have hcard := Finset.card_le_card hsub
      have hni : n ∉ (Finset.univ.filter fun m => t ≤ w m) := fun hm => absurd (Finset.mem_filter.1 hm).2 (not_le.2 h)
      rw [Finset.card_insert_of_notMem hni] at hcard
      have : reach w t + 1 ≤ place w n := hcard
      omega

/-- A search for the greatest number with a property, bit by bit from the top. -/
noncomputable def trail (P : ℕ → Prop) (J : ℕ) : ℕ → ℕ
  | 0 => 0
  | i + 1 => open Classical in if P (trail P J i + 2 ^ (J - 1 - i)) then trail P J i + 2 ^ (J - 1 - i) else trail P J i

theorem trail_dvd (P : ℕ → Prop) (J : ℕ) : ∀ i, i ≤ J → 2 ^ (J - i) ∣ trail P J i ∧ trail P J i + 2 ^ (J - i) ≤ 2 ^ J
  | 0, _ => ⟨Dvd.intro _ (mul_zero _), by simp [trail]⟩
  | i + 1, h => by
    obtain ⟨hd, hl⟩ := trail_dvd P J i (by omega)
    have e : 2 ^ (J - i) = 2 * 2 ^ (J - 1 - i) := by rw [← pow_succ']; congr 1; omega
    have e' : J - (i + 1) = J - 1 - i := by omega
    rw [e] at hd hl
    have hd' : 2 ^ (J - 1 - i) ∣ trail P J i := (Dvd.intro_left _ rfl).trans hd
    rw [e', trail]
    split
    · exact ⟨(Nat.dvd_add_right hd').2 dvd_rfl, by omega⟩
    · exact ⟨hd', by omega⟩

theorem trail_spec (P : ℕ → Prop) (J : ℕ) (h0 : P 0) : ∀ i, i ≤ J → P (trail P J i) ∧ (trail P J i + 2 ^ (J - i) = 2 ^ J ∨ ¬ P (trail P J i + 2 ^ (J - i)))
  | 0, _ => ⟨h0, .inl (by simp [trail])⟩
  | i + 1, h => by
    obtain ⟨hp, hn⟩ := trail_spec P J h0 i (by omega)
    have e : 2 ^ (J - i) = 2 ^ (J - 1 - i) + 2 ^ (J - 1 - i) := by rw [← two_mul, ← pow_succ']; congr 1; omega
    have e' : J - (i + 1) = J - 1 - i := by omega
    rw [e, ← add_assoc] at hn
    rw [e', trail]
    split
    · exact ⟨by assumption, hn⟩
    · exact ⟨hp, .inr (by assumption)⟩

/-- A top bit that never fits leaves a search one bit shorter. -/
theorem trail_shift (P : ℕ → Prop) (J : ℕ) (h : ¬ P (2 ^ J)) : ∀ i, trail P (J + 1) (i + 1) = trail P J i
  | 0 => by simp [trail, h]
  | i + 1 => by
    rw [trail, trail_shift P J h i, show J + 1 - 1 - (i + 1) = J - 1 - i by omega]
    conv_rhs => rw [trail]

end Cert.Order

end
-- ==== Proof.Steps.lean ====
/- Neighbouring float words as numbers, and what keeps two scores apart on the grid they make. -/
module

public import Idealize.ShloMosaic.PureOps.Ideal
public import Idealize.ShloMosaic.PureOps.IdealRules
public import Mathlib.Analysis.SpecialFunctions.Pow.Real
public import Mathlib.Tactic.Linarith
public import Mathlib.Tactic.Positivity

@[expose] public section

noncomputable section

open Idealize.ShloMosaic

namespace Cert.Steps

/-- The number a word stands for, as the kernel's threshold search reads it. -/
def val (T : ℕ) : EReal := Ideal.ofBits .f32 (BitVec.ofNat 32 T)

/-- The same, for words below `2 ^ 31`, by exponent and fraction. -/
theorem val_eq (T : ℕ) (h : T ≤ 2 ^ 30) : val T =
    (((if T / 2 ^ 23 = 0 then ((T % 2 ^ 23 : ℕ) : ℝ) * (2 : ℝ) ^ (-149 : ℤ) else ((2 ^ 23 + T % 2 ^ 23 : ℕ) : ℝ) * (2 : ℝ) ^ (((T / 2 ^ 23 : ℕ) : ℤ) - 150)) : ℝ) : EReal) := by
  have e1 : (BitVec.ofNat 32 T).extractLsb' 31 1 = 0#1 := by
    apply BitVec.eq_of_toNat_eq
    rw [BitVec.extractLsb'_toNat, BitVec.toNat_ofNat, Nat.mod_eq_of_lt (by omega), Nat.shiftRight_eq_div_pow, Nat.div_eq_of_lt (by omega)]
    rfl
  have e2 : ((BitVec.ofNat 32 T).extractLsb' 23 8).toNat = T / 2 ^ 23 := by
    rw [BitVec.extractLsb'_toNat, BitVec.toNat_ofNat, Nat.mod_eq_of_lt (by omega), Nat.shiftRight_eq_div_pow, Nat.mod_eq_of_lt (by omega)]
  have e3 : ((BitVec.ofNat 32 T).extractLsb' 0 23).toNat = T % 2 ^ 23 := by
    rw [BitVec.extractLsb'_toNat, BitVec.toNat_ofNat, Nat.shiftRight_zero, Nat.mod_eq_of_lt (a := T) (by omega)]
  have h2 : T / 2 ^ 23 ≠ 2 ^ 8 - 1 := by omega
  show Ideal.ieee 8 23 (BitVec.ofNat 32 T) = _
  unfold Ideal.ieee
  simp only [Nat.reduceAdd] at *
  rw [e1, e2, e3, if_neg h2]
  split
  · simp only [if_true, show (0#1 == 1#1) = false from rfl, Bool.false_eq_true, if_false, one_mul]
    norm_num
  · simp only [show (0#1 == 1#1) = false from rfl, Bool.false_eq_true, if_false, one_mul]
    congr 3
    norm_num
    ring

/-- Two neighbouring words are the ends of a step of a grid. -/
theorem step (T : ℕ) (h : T < 2 ^ 30) : ∃ (M : ℕ) (e : ℤ), val T = (((M : ℝ) * (2 : ℝ) ^ e : ℝ) : EReal) ∧
    val (T + 1) = ((((M : ℝ) + 1) * (2 : ℝ) ^ e : ℝ) : EReal) ∧ -149 ≤ e ∧ (e = -149 ∨ 2 ^ 23 ≤ M) := by
  rw [val_eq T h.le, val_eq (T + 1) h]
  by_cases h0 : T / 2 ^ 23 = 0
  · refine ⟨T % 2 ^ 23, -149, by rw [if_pos h0], ?_, le_rfl, .inl rfl⟩
    by_cases h1 : (T + 1) / 2 ^ 23 = 0
    · rw [if_pos h1, show (T + 1) % 2 ^ 23 = T % 2 ^ 23 + 1 by omega]
      push_cast; rfl
    · rw [if_neg h1, show (T + 1) / 2 ^ 23 = 1 by omega, show (2 ^ 23 + (T + 1) % 2 ^ 23) = T % 2 ^ 23 + 1 by omega]
      push_cast; norm_num
  · refine ⟨2 ^ 23 + T % 2 ^ 23, ((T / 2 ^ 23 : ℕ) : ℤ) - 150, by rw [if_neg h0], ?_, by omega, .inr (Nat.le_add_right _ _)⟩
    have h1 : (T + 1) / 2 ^ 23 ≠ 0 := by omega
    rw [if_neg h1]
    by_cases h2 : (T + 1) % 2 ^ 23 = 0
    · rw [show (T + 1) / 2 ^ 23 = T / 2 ^ 23 + 1 by omega, h2, show T % 2 ^ 23 = 2 ^ 23 - 1 by omega]
      congr 1
      rw [show (((T / 2 ^ 23 + 1 : ℕ) : ℤ) - 150) = (((T / 2 ^ 23 : ℕ) : ℤ) - 150) + 1 by push_cast; ring, zpow_add_one₀ (by norm_num)]
      push_cast
      norm_num
      ring
    · rw [show (T + 1) / 2 ^ 23 = T / 2 ^ 23 by omega, show (T + 1) % 2 ^ 23 = T % 2 ^ 23 + 1 by omega]
      congr 1
      push_cast
      ring

/-- A score on the grid of the largest steps below one, or well above the next one, settles the threshold. -/
theorem settle (T : ℕ) (hT : T < 2 ^ 30) (a b : ℝ) (h1 : a ≤ 1)
    (h : (∃ K : ℤ, a * 2 ^ 24 = K) ∨ (a * (2 : ℝ) ^ (-23 : ℤ) < a - b ∧ (2 : ℝ) ^ (-126 : ℤ) ≤ a))
    (hl : val T ≤ (a : EReal)) (hu : (a : EReal) < val (T + 1)) : ¬ val T < (a : EReal) ∨ (b : EReal) < val T := by
  obtain ⟨M, e, e1, e2, he, hM⟩ := step T hT
  rw [e1] at hl ⊢
  rw [e2] at hu
  rw [EReal.coe_le_coe_iff] at hl
  rw [EReal.coe_lt_coe_iff] at hu ⊢
  rw [EReal.coe_lt_coe_iff]
  have hpos : (0 : ℝ) < 2 ^ e := by positivity
  rcases h with ⟨K, hK⟩ | ⟨hab, ha⟩
  · left
    intro hlt
    by_cases hs : e ≤ -24
    · obtain ⟨d, hd⟩ := Int.eq_ofNat_of_zero_le (show 0 ≤ -24 - e by omega)
      have hk : a = K * 2 ^ d * (2 : ℝ) ^ e := by
        have : (2 : ℝ) ^ d * (2 : ℝ) ^ e = (2 : ℝ) ^ (-24 : ℤ) := by
          rw [← zpow_natCast, ← zpow_add₀ (by norm_num)]
          congr 1
          omega
        rw [mul_assoc, this, ← hK]
        norm_num
        ring
      rw [hk] at hlt hu
      have h3 := lt_of_mul_lt_mul_right hlt hpos.le
      have h4 := lt_of_mul_lt_mul_right hu hpos.le
      have h3' : (M : ℤ) < K * 2 ^ d := by exact_mod_cast h3
      have h4' : K * 2 ^ d < (M : ℤ) + 1 := by exact_mod_cast h4
      omega
    · have hM' : (2 ^ 23 : ℕ) ≤ M := by
        rcases hM with hM | hM
        · omega
        · exact hM
      have hM'' : (2 ^ 23 : ℝ) ≤ M := by exact_mod_cast hM'
      have h5 : (2 : ℝ) ^ (-23 : ℤ) ≤ 2 ^ e := zpow_le_zpow_right₀ (by norm_num) (by omega)
      have h6 : (1 : ℝ) ≤ M * 2 ^ e := by
        calc (1 : ℝ) = 2 ^ 23 * (2 : ℝ) ^ (-23 : ℤ) := by norm_num
          _ ≤ M * 2 ^ e := by gcongr
      linarith
  · right
    have hM' : (2 ^ 23 : ℝ) ≤ M := by
      rcases hM with hM | hM
      · by_contra hlt
        have hlt : (M : ℝ) < 2 ^ 23 := not_le.1 hlt
        have h7 : M + 1 ≤ 2 ^ 23 := by
          have : M < 2 ^ 23 := by exact_mod_cast hlt
          omega
        have h8 : (M : ℝ) + 1 ≤ 2 ^ 23 := by exact_mod_cast h7
        have h9 : ((M : ℝ) + 1) * 2 ^ e ≤ 2 ^ 23 * (2 : ℝ) ^ (-149 : ℤ) := by rw [hM]; gcongr
        have h10 : (2 : ℝ) ^ 23 * (2 : ℝ) ^ (-149 : ℤ) = (2 : ℝ) ^ (-126 : ℤ) := by
          rw [← zpow_natCast, ← zpow_add₀ (by norm_num)]
          norm_num
        linarith
      · exact_mod_cast hM
    have h11 : (2 : ℝ) ^ e ≤ M * 2 ^ e * (2 : ℝ) ^ (-23 : ℤ) := by
      have : (1 : ℝ) ≤ M * (2 : ℝ) ^ (-23 : ℤ) := by
        calc (1 : ℝ) = 2 ^ 23 * (2 : ℝ) ^ (-23 : ℤ) := by norm_num
          _ ≤ M * (2 : ℝ) ^ (-23 : ℤ) := by gcongr
      nlinarith
    have h12 : M * 2 ^ e * (2 : ℝ) ^ (-23 : ℤ) ≤ a * (2 : ℝ) ^ (-23 : ℤ) := by gcongr
    linarith

theorem val_zero : val 0 = 0 := by rw [val_eq 0 (by norm_num)]; simp

theorem val_top : val (2 ^ 30) = 2 := by
  rw [val_eq (2 ^ 30) le_rfl]
  norm_num
  rfl

end Cert.Steps

end
-- ==== Proof.KSel.lean ====
/- The selection half of the second kernel, entry by entry: a bitwise search for the word the thousandth score reaches, one
   for the last index kept among the scores at that word, and the masking of the rest. -/
module

public import proofs.«01_k».proof.Proof.KIModel
public import proofs.«01_k».proof.Proof.Folds
public import proofs.«01_k».proof.Proof.Order
public import proofs.«01_k».proof.Proof.Steps
public import proofs.«01_k».proof.Proof.Gen.KernelIdeal

@[expose] public section

set_option maxRecDepth 16384
set_option maxHeartbeats 4000000

noncomputable section

open Idealize.ShloMosaic Idealize.ShloMosaic.TcCoe

namespace Cert.KernelIdeal.Nms

open Cert.KernelIdeal Cert.KernelIdeal.Gen Cert.Loop Cert.Folds Cert.Order Cert.Steps

/-- The scores of one class in order of their index. -/
def line (s : Vec Ideal S8x2x80x6144 .f32) (b : Fin 2) (c : Fin 80) : Fin 49152 → EReal := fun n =>
  s (ix4 (⟨n.val / 6144, by have := n.isLt; omega⟩ : Fin 8) b c (⟨n.val % 6144, by omega⟩ : Fin 6144))

theorem line_at (s : Vec Ideal S8x2x80x6144 .f32) (b : Fin 2) (c : Fin 80) (k : Fin 8) (l : Fin 6144) : line s b c (at' k l) = s (ix4 k b c l) := by
  have e1 : (⟨(at' k l).val / 6144, by have := (at' k l).isLt; omega⟩ : Fin 8) = k := Fin.ext (by show (k.val * 6144 + l.val) / 6144 = k.val; have := l.isLt; omega)
  have e2 : (⟨(at' k l).val % 6144, by omega⟩ : Fin 6144) = l := Fin.ext (by show (k.val * 6144 + l.val) % 6144 = l.val; have := l.isLt; omega)
  show s (ix4 _ b c _) = _
  rw [e1, e2]

theorem chunk_at (s : Vec Ideal S8x2x80x6144 .f32) (off : Fin 4 → ℕ) (h) (k : Fin 8) (e : off = ![k.val, 0, 0, 0]) (b : Fin 2) (c : Fin 80) (l : Fin 6144) :
    scoreChunk (F := Ideal) s off h (ix4 0 b c l) = s (ix4 k b c l) := by
  subst e
  refine congrArg s (funext fun a => Fin.ext ?_)
  fin_cases a <;> simp [Rect.unit, Rect.emb] <;> rfl

theorem put_at (s : Vec Ideal S8x2x80x6144 .f32) (off : Fin 4 → ℕ) (k : Fin 8) (e : off = ![k.val, 0, 0, 0]) (w : Vec Ideal S1x2x80x6144 .f32)
    (k' : Fin 8) (b : Fin 2) (c : Fin 80) (l : Fin 6144) :
    VecWindow.put (s := S8x2x80x6144) s off S1x2x80x6144.size w (ix4 k' b c l) = if k' = k then w (ix4 0 b c l) else s (ix4 k' b c l) := by
  subst e
  unfold VecWindow.put
  by_cases h : k' = k
  · subst h
    rw [if_pos rfl, dif_pos]
    · refine congrArg w (funext fun a => Fin.ext ?_)
      fin_cases a <;> simp [Rect.unitLocal] <;> rfl
    · intro a
      fin_cases a
      · exact ⟨le_rfl, Nat.lt_succ_self _⟩
      · exact ⟨Nat.zero_le _, by show b.val < 0 + 2; omega⟩
      · exact ⟨Nat.zero_le _, by show c.val < 0 + 80; omega⟩
      · exact ⟨Nat.zero_le _, by show l.val < 0 + 6144; omega⟩
  · rw [if_neg h, dif_neg]
    intro ha
    have := ha 0
    have h1 : k.val ≤ k'.val := this.1
    have h2 : k'.val < k.val + 1 := this.2
    exact h (Fin.ext (by omega))

theorem off1_eq (k : Fin k1_t2_loop.trips) : k1_off1 k = ![k.val, 0, 0, 0] := by revert k; decide +kernel
theorem off2_eq (k : Fin k1_t3_loop.trips) : k1_off2 k = ![k.val, 0, 0, 0] := by revert k; decide +kernel
theorem off3_eq (k : Fin k1_t5_loop.trips) : k1_off3 k = ![k.val, 0, 0, 0] := by revert k; decide +kernel
theorem off4_eq (k : Fin k1_t6_loop.trips) : k1_off4 k = ![k.val, 0, 0, 0] := by revert k; decide +kernel
theorem off5_eq (k : Fin k1_t8_loop.trips) : k1_off5 k = ![k.val, 0, 0, 0] := by revert k; decide +kernel
theorem off6_eq (k : Fin k1_t9_loop.trips) : k1_off6 k = ![k.val, 0, 0, 0] := by revert k; decide +kernel
theorem off7_eq (k : Fin k1_t10_loop.trips) : k1_off7 k = ![k.val, 0, 0, 0] := by revert k; decide +kernel
theorem off8_eq (k : Fin k1_t10_loop.trips) : k1_off8 k = ![k.val, 0, 0, 0] := by revert k; decide +kernel

theorem trips1 : k1_t1_loop.trips = 31 := by decide +kernel
theorem trips2 : k1_t2_loop.trips = 8 := by decide +kernel
theorem trips3 : k1_t3_loop.trips = 8 := by decide +kernel
theorem trips4 : k1_t4_loop.trips = 17 := by decide +kernel
theorem trips5 : k1_t5_loop.trips = 8 := by decide +kernel
theorem trips6 : k1_t6_loop.trips = 8 := by decide +kernel

section
variable (b : Fin 2) (c : Fin 80) (l : Fin 6144) (v : Vec Ideal S1x2x80x6144 .f32) (w a i : IVec S2x80x1 32)

theorem pay45_at (k : Fin k1_t1_loop.trips) : k1_pay45 k w (ix3 b c 0)
    = IntOp.ori (w (ix3 b c 0)) (Scalar.shli 1#32 (Scalar.subi 30#32 (Scf.iv 0#32 1#32 k.val))) := by pointwise [k1_pay45]

theorem pay47_at (k : Fin k1_t1_loop.trips) : k1_pay47 (F := Ideal) k w a v (ix3 b c 0)
    = IntOp.addi (a (ix3 b c 0)) (Finset.fold IntOp.addi 0#32 (fun x => BitVec.setWidth 32 (BitVec.ofBool (decide
        (Ideal.ofBits .f32 (IntOp.ori (w (ix3 b c 0)) (Scalar.shli 1#32 (Scalar.subi 30#32 (Scf.iv 0#32 1#32 k.val)))) ≤ v (ix4 0 b c x))))) Finset.univ) := by
  pointwise [k1_pay47, k1_pay45]

theorem pay48_at (k : Fin k1_t1_loop.trips) : k1_pay48 k w a (ix3 b c 0)
    = Scalar.select (IntOp.cmpi .sge (a (ix3 b c 0)) 1000#32) (IntOp.ori (w (ix3 b c 0)) (Scalar.shli 1#32 (Scalar.subi 30#32 (Scf.iv 0#32 1#32 k.val)))) (w (ix3 b c 0)) := by
  pointwise [k1_pay48, k1_pay45]

theorem pay51_at : k1_pay51 (F := Ideal) w a v (ix3 b c 0)
    = IntOp.addi (a (ix3 b c 0)) (Finset.fold IntOp.addi 0#32 (fun x => BitVec.setWidth 32 (BitVec.ofBool (decide (Ideal.ofBits .f32 (w (ix3 b c 0)) < v (ix4 0 b c x))))) Finset.univ) := by
  pointwise [k1_pay51, k1_pay49]

theorem pay55_at (k : Fin k1_t4_loop.trips) (k2 : Fin k1_t5_loop.trips) : k1_pay55 (F := Ideal) w k a k2 i v (ix3 b c 0)
    = IntOp.addi (i (ix3 b c 0)) (Finset.fold IntOp.addi 0#32 (fun x => BitVec.setWidth 32
        (IntOp.andi (BitVec.ofBool (decide (v (ix4 0 b c x) = Ideal.ofBits .f32 (w (ix3 b c 0)))))
          (IntOp.cmpi .sle (IntOp.addi (BitVec.ofNat 32 x.val) (Scalar.muli (Scf.iv 0#32 1#32 k2.val) 6144#32))
            (IntOp.ori (a (ix3 b c 0)) (Scalar.shli 1#32 (Scalar.subi 16#32 (Scf.iv 0#32 1#32 k.val))))))) Finset.univ) := by
  pointwise [k1_pay55, k1_pay49, k1_pay53]

theorem pay56_at (k : Fin k1_t4_loop.trips) : k1_pay56 w k a i (ix3 b c 0)
    = Scalar.select (IntOp.cmpi .sle (i (ix3 b c 0)) (IntOp.subi 1000#32 (w (ix3 b c 0))))
      (IntOp.ori (a (ix3 b c 0)) (Scalar.shli 1#32 (Scalar.subi 16#32 (Scf.iv 0#32 1#32 k.val)))) (a (ix3 b c 0)) := by
  pointwise [k1_pay56, k1_pay53]

theorem pay57_at (k : Fin k1_t6_loop.trips) : k1_pay57 (F := Ideal) w i k v (ix4 0 b c l)
    = Scalar.select (IntOp.ori (BitVec.ofBool (decide (Ideal.ofBits .f32 (w (ix3 b c 0)) < v (ix4 0 b c l))))
        (IntOp.andi (BitVec.ofBool (decide (v (ix4 0 b c l) = Ideal.ofBits .f32 (w (ix3 b c 0)))))
          (IntOp.cmpi .sle (IntOp.addi (BitVec.ofNat 32 l.val) (Scalar.muli (Scf.iv 0#32 1#32 k.val) 6144#32)) (i (ix3 b c 0)))))
      (v (ix4 0 b c l)) (Ideal.ofBits .f32 4286578688#32) := by
  pointwise [k1_pay57, k1_pay49]
end

theorem bit30 (k : Fin k1_t1_loop.trips) : Scalar.shli 1#32 (Scalar.subi 30#32 (Scf.iv 0#32 1#32 k.val)) = BitVec.ofNat 32 (2 ^ (30 - k.val)) := by
  revert k; decide +kernel
theorem bit16 (k : Fin k1_t4_loop.trips) : Scalar.shli 1#32 (Scalar.subi 16#32 (Scf.iv 0#32 1#32 k.val)) = BitVec.ofNat 32 (2 ^ (16 - k.val)) := by
  revert k; decide +kernel

/-- The index of a place in a chunk, as the word the kernel adds up. -/
theorem index_word (k : Fin 8) (l : Fin 6144) :
    IntOp.addi (BitVec.ofNat 32 l.val) (Scalar.muli (Scf.iv 0#32 1#32 k.val) 6144#32) = BitVec.ofNat 32 (at' k l).val := by
  rw [iv_ofNat]
  show IntOp.addi _ (IntOp.muli _ (BitVec.ofNat 32 6144)) = _
  rw [muli_ofNat, addi_ofNat, Nat.add_comm]
  rfl

variable (s : Vec Ideal S8x2x80x6144 .f32) (b : Fin 2) (c : Fin 80)

open Classical in
theorem reach_at (k : Fin k1_t1_loop.trips) (w : IVec S2x80x1 32) (x : ℕ)
    (hw : IntOp.ori (w (ix3 b c 0)) (Scalar.shli 1#32 (Scalar.subi 30#32 (Scf.iv 0#32 1#32 k.val))) = BitVec.ofNat 32 x) :
    reach s k w (ix3 b c 0) = BitVec.ofNat 32 (Order.reach (line s b c) (val x)) := by
  have key := run_induct (n := k1_t2_loop.trips) 8 trips2 (fun j a => k1_pay47 (F := Ideal) k w a (scoreChunk s (k1_off1 j) (k1_off1_inb j))) k1_pay46
    (fun j a => a (ix3 b c 0) = BitVec.ofNat 32 (below (fun n => val x ≤ line s b c n) j)) (by rw [below_zero]; pointwise [k1_pay46])
    (fun j a ih => by
      have hj : j.val < 8 := trips2 ▸ j.isLt
      rw [pay47_at, ih, fold_count (fun l => val x ≤ line s b c (at' ⟨j.val, hj⟩ l)), addi_ofNat, below_succ _ ⟨j.val, hj⟩]
      intro l
      rw [hw, chunk_at s _ _ ⟨j.val, hj⟩ (off1_eq j), line_at]
      rfl)
  rw [below_last] at key
  exact key

theorem count_lt {P : Fin 49152 → Prop} [DecidablePred P] : (Finset.univ.filter P).card < 2 ^ 31 :=
  lt_of_le_of_lt (Finset.card_le_univ _) (by simp)

theorem reach_lt (w : Fin 49152 → EReal) (t : EReal) : Order.reach w t < 2 ^ 31 := by unfold Order.reach; exact count_lt
theorem ties_lt (w : Fin 49152 → EReal) (t : EReal) (x : ℕ) : ties w t x < 2 ^ 31 := by unfold ties; exact count_lt

/-- The threshold is where a search among the words ends. -/
theorem threshold_at : threshold s (ix3 b c 0) = BitVec.ofNat 32 (trail (fun x => 1000 ≤ Order.reach (line s b c) (val x)) 31 31) := by
  have key := run_induct (n := k1_t1_loop.trips) 31 trips1 (fun k w => k1_pay48 k w (reach s k w)) k1_pay44
    (fun k w => w (ix3 b c 0) = BitVec.ofNat 32 (trail (fun x => 1000 ≤ Order.reach (line s b c) (val x)) 31 k)) (by pointwise [k1_pay44]; rfl)
    (fun k w ih => by
      have hk : k.val < 31 := trips1 ▸ k.isLt
      have hd := (trail_dvd (fun x => 1000 ≤ Order.reach (line s b c) (val x)) 31 k.val hk.le).1
      have hw : IntOp.ori (w (ix3 b c 0)) (Scalar.shli 1#32 (Scalar.subi 30#32 (Scf.iv 0#32 1#32 k.val)))
          = BitVec.ofNat 32 (trail (fun x => 1000 ≤ Order.reach (line s b c) (val x)) 31 k.val + 2 ^ (30 - k.val)) := by
        rw [ih, bit30, ori_ofNat _ _ (by rw [show 30 - k.val + 1 = 31 - k.val by omega]; exact hd)]
      rw [pay48_at, reach_at s b c k w _ hw, hw, ih, show (1000#32 : BitVec 32) = BitVec.ofNat 32 1000 from rfl, cmpi_sge_ofNat _ _ (reach_lt _ _) (by norm_num), select_ofBool, trail]
      rw [show 31 - 1 - k.val = 30 - k.val by omega]
      split_ifs <;> rfl)
  exact key

open Classical in
theorem above_at (t : IVec S2x80x1 32) (x : ℕ) (ht : t (ix3 b c 0) = BitVec.ofNat 32 x) : above s t (ix3 b c 0) = BitVec.ofNat 32 (over (line s b c) (val x)) := by
  have key := run_induct (n := k1_t3_loop.trips) 8 trips3 (fun j a => k1_pay51 (F := Ideal) t a (scoreChunk s (k1_off2 j) (k1_off2_inb j))) k1_pay50
    (fun j a => a (ix3 b c 0) = BitVec.ofNat 32 (below (fun n => val x < line s b c n) j)) (by rw [below_zero]; pointwise [k1_pay50])
    (fun j a ih => by
      have hj : j.val < 8 := trips3 ▸ j.isLt
      rw [pay51_at, ih, fold_count (fun l => val x < line s b c (at' ⟨j.val, hj⟩ l)), addi_ofNat, below_succ _ ⟨j.val, hj⟩]
      intro l
      rw [ht, chunk_at s _ _ ⟨j.val, hj⟩ (off2_eq j), line_at]
      rfl)
  rw [below_last] at key
  exact key

open Classical in
theorem tied_at (t : IVec S2x80x1 32) (x : ℕ) (ht : t (ix3 b c 0) = BitVec.ofNat 32 x) (k : Fin k1_t4_loop.trips) (w : IVec S2x80x1 32) (y : ℕ) (hy : y < 2 ^ 31)
    (hw : IntOp.ori (w (ix3 b c 0)) (Scalar.shli 1#32 (Scalar.subi 16#32 (Scf.iv 0#32 1#32 k.val))) = BitVec.ofNat 32 y) :
    tied s t k w (ix3 b c 0) = BitVec.ofNat 32 (ties (line s b c) (val x) y) := by
  have key := run_induct (n := k1_t5_loop.trips) 8 trips5 (fun j a => k1_pay55 (F := Ideal) t k w j a (scoreChunk s (k1_off3 j) (k1_off3_inb j))) k1_pay54
    (fun j a => a (ix3 b c 0) = BitVec.ofNat 32 (below (fun n => line s b c n = val x ∧ n.val ≤ y) j)) (by rw [below_zero]; pointwise [k1_pay54])
    (fun j a ih => by
      have hj : j.val < 8 := trips5 ▸ j.isLt
      rw [pay55_at, ih, fold_count (fun l => line s b c (at' ⟨j.val, hj⟩ l) = val x ∧ (at' ⟨j.val, hj⟩ l).val ≤ y), addi_ofNat, below_succ _ ⟨j.val, hj⟩]
      intro l
      rw [ht, hw, chunk_at s _ _ ⟨j.val, hj⟩ (off3_eq j), line_at, index_word ⟨j.val, hj⟩ l, cmpi_sle_ofNat _ _ (by have := (at' ⟨j.val, hj⟩ l).isLt; omega) hy]
      congr 1
      exact ofBool_setWidth_and _ _)
  rw [below_last] at key
  exact key

/-- The cutoff is where a search among the indices ends. -/
theorem cutoff_at (t g : IVec S2x80x1 32) (x A : ℕ) (ht : t (ix3 b c 0) = BitVec.ofNat 32 x) (hg : g (ix3 b c 0) = BitVec.ofNat 32 A) (hA : A ≤ 1000) :
    cutoff s t g (ix3 b c 0) = BitVec.ofNat 32 (trail (fun y => ties (line s b c) (val x) y ≤ 1000 - A) 17 17) := by
  have key := run_induct (n := k1_t4_loop.trips) 17 trips4 (fun k w => k1_pay56 g k w (tied s t k w)) k1_pay52
    (fun k w => w (ix3 b c 0) = BitVec.ofNat 32 (trail (fun y => ties (line s b c) (val x) y ≤ 1000 - A) 17 k)) (by pointwise [k1_pay52]; rfl)
    (fun k w ih => by
      have hk : k.val < 17 := trips4 ▸ k.isLt
      obtain ⟨hd, hl⟩ := trail_dvd (fun y => ties (line s b c) (val x) y ≤ 1000 - A) 17 k.val hk.le
      have e : 2 ^ (17 - k.val) = 2 * 2 ^ (16 - k.val) := by rw [← pow_succ']; congr 1; omega
      have hw : IntOp.ori (w (ix3 b c 0)) (Scalar.shli 1#32 (Scalar.subi 16#32 (Scf.iv 0#32 1#32 k.val)))
          = BitVec.ofNat 32 (trail (fun y => ties (line s b c) (val x) y ≤ 1000 - A) 17 k.val + 2 ^ (16 - k.val)) := by
        rw [ih, bit16, ori_ofNat _ _ (by rw [show 16 - k.val + 1 = 17 - k.val by omega]; exact hd)]
      rw [pay56_at, tied_at s b c t x ht k w _ (by rw [e] at hl; omega) hw, hw, ih, hg, show (1000#32 : BitVec 32) = BitVec.ofNat 32 1000 from rfl,
        subi_ofNat _ _ hA (by norm_num), cmpi_sle_ofNat _ _ (ties_lt _ _ _) (by omega), select_ofBool, trail]
      rw [show 17 - 1 - k.val = 16 - k.val by omega]
      split_ifs <;> rfl)
  exact key

open Classical in
theorem masked_at (t u : IVec S2x80x1 32) (x y : ℕ) (ht : t (ix3 b c 0) = BitVec.ofNat 32 x) (hu : u (ix3 b c 0) = BitVec.ofNat 32 y) (hy : y < 2 ^ 31) (n : Fin 49152) :
    line (masked s t u) b c n = if val x < line s b c n ∨ (line s b c n = val x ∧ n.val ≤ y) then line s b c n else ⊥ := by
  have key := run_induct (n := k1_t6_loop.trips) 8 trips6 (fun k s => VecWindow.put (s := S8x2x80x6144) s (k1_off4 k) S1x2x80x6144.size
      (k1_pay57 (F := Ideal) t u k (scoreChunk s (k1_off4 k) (k1_off4_inb k)))) s
    (fun j a => ∀ (k : Fin 8) (l : Fin 6144), a (ix4 k b c l) = if k.val < j then
      (if val x < s (ix4 k b c l) ∨ (s (ix4 k b c l) = val x ∧ (at' k l).val ≤ y) then s (ix4 k b c l) else ⊥) else s (ix4 k b c l))
    (fun k l => (if_neg (Nat.not_lt_zero _)).symm)
    (fun j a ih k l => by
      have hj : j.val < 8 := trips6 ▸ j.isLt
      rw [put_at _ _ ⟨j.val, hj⟩ (off4_eq j)]
      by_cases hk : k = ⟨j.val, hj⟩
      · subst hk
        rw [if_pos rfl, if_pos (Nat.lt_succ_self _), pay57_at, chunk_at a _ _ ⟨j.val, hj⟩ (off4_eq j), ih, if_neg (lt_irrefl _), ht, hu,
          index_word ⟨j.val, hj⟩ l, cmpi_sle_ofNat _ _ (by have := (at' ⟨j.val, hj⟩ l).isLt; omega) hy, negInf]
        rw [ofBool_setWidth_and, ofBool_or, select_ofBool]
        rfl
      · have hk' : k.val ≠ j.val := fun e => hk (Fin.ext e)
        rw [if_neg hk, ih]
        by_cases hlt : k.val < j.val
        · rw [if_pos hlt, if_pos (Nat.lt_succ_of_lt hlt)]
        · rw [if_neg hlt, if_neg (fun h => hlt (lt_of_le_of_ne (Nat.le_of_lt_succ h) hk'))])
  obtain ⟨k, l, rfl⟩ := at'_split n
  rw [line_at, line_at, masked, key, if_pos k.isLt]

/-- What the kernel keeps: the first thousand of the order, when the threshold's word is settled. -/
theorem candidates_at (hP0 : 1000 ≤ Order.reach (line s b c) 0) (htop : ∀ n, line s b c n ≤ 1)
    (hset : ∀ T, T < 2 ^ 30 → 1000 ≤ Order.reach (line s b c) (val T) → (T + 1 = 2 ^ 30 ∨ ¬ 1000 ≤ Order.reach (line s b c) (val (T + 1))) →
      over (line s b c) (val T) + 1 ≤ 1000 ∨ Order.reach (line s b c) (val T) ≤ 1000) (n : Fin 49152) :
    line (candidates s) b c n = open Classical in if place (line s b c) n ≤ 1000 then line s b c n else ⊥ := by
  set P : ℕ → Prop := fun x => 1000 ≤ Order.reach (line s b c) (val x) with hP
  have hno : ¬ P (2 ^ 30) := by
    show ¬ 1000 ≤ Order.reach (line s b c) (val (2 ^ 30))
    have : Order.reach (line s b c) (val (2 ^ 30)) = 0 := by
      unfold Order.reach
      rw [Finset.card_eq_zero, Finset.filter_eq_empty_iff, val_top]
      intro n _ hn
      exact absurd (hn.trans (htop n)) (by norm_num)
    omega
  have hT : trail P 31 31 = trail P 30 30 := trail_shift P 30 hno 30
  obtain ⟨h1, h2⟩ := trail_spec P 30 (by show 1000 ≤ Order.reach (line s b c) (val 0); rw [val_zero]; exact hP0) 30 le_rfl
  have h3 := (trail_dvd P 30 30 le_rfl).2
  rw [← hT] at h1 h2 h3
  simp only [Nat.sub_self, pow_zero] at h2 h3
  have ht := threshold_at s b c
  have hA := hset (trail P 31 31) (by omega) h1 h2
  have hAK : over (line s b c) (val (trail P 31 31)) ≤ 1000 := by have := over_add_ties_le (line s b c) (val (trail P 31 31)) 0; omega
  have ha := above_at s b c (threshold s) _ ht
  have hu := cutoff_at s b c (threshold s) (above s (threshold s)) _ _ ht ha hAK
  set Q : ℕ → Prop := fun y => ties (line s b c) (val (trail P 31 31)) y ≤ 1000 - over (line s b c) (val (trail P 31 31)) with hQ
  obtain ⟨q1, q2⟩ := trail_spec Q 17 (ties_zero_le _ _ _ hA) 17 le_rfl
  have q3 := (trail_dvd Q 17 17 le_rfl).2
  simp only [Nat.sub_self, pow_zero] at q2 q3
  rw [candidates, masked_at s b c _ _ _ _ ht hu (by omega) n]
  have := keep_iff (line s b c) (val (trail P 31 31)) 1000 (2 ^ 17) (trail Q 17 17) (by norm_num) h1 hA q1 q2 n
  by_cases hp : place (line s b c) n ≤ 1000
  · rw [if_pos hp, if_pos (this.2 hp)]
  · rw [if_neg hp, if_neg (fun h => hp (this.1 h))]

end Cert.KernelIdeal.Nms

end
-- ==== Proof.KPay.lean ====
/- The second kernel's picking expressions, entry by entry. -/
module

public import proofs.«01_k».proof.Proof.KIModel
public import proofs.«01_k».proof.Proof.Folds
public import proofs.«01_k».proof.Proof.Gen.KernelIdeal

@[expose] public section

set_option maxRecDepth 16384
set_option maxHeartbeats 4000000

noncomputable section

open Idealize.ShloMosaic Idealize.ShloMosaic.TcCoe

namespace Cert.KernelIdeal.Nms

open Cert.KernelIdeal Cert.KernelIdeal.Gen Cert.Folds

/-- The first box of two covers more than half of both together, the second one's area given. -/
def overlap (a0 a1 a2 a3 b0 b1 b2 b3 ab : EReal) : Prop :=
  Ideal.ofBits .f32 1056964608#32 <
    Ideal.div (max (min a2 b2 - max a0 b0) 0 * max (min a3 b3 - max a1 b1) 0)
      (max (max (a2 - a0) 0 * max (a3 - a1) 0 + ab - max (min a2 b2 - max a0 b0) 0 * max (min a3 b3 - max a1 b1) 0) (Ideal.ofBits .f32 841731191#32))

section
variable (b : Fin 2) (c : Fin 80) (l : Fin 6144) (j : Fin 128) (v : Vec Ideal S1x2x80x6144 .f32) (u : Vec Ideal S1x2x8x6144 .f32)
  (i : IVec S2x80x1 32) (f f0 f1 f2 f3 : FVec Ideal S2x80x1 .f32) (q : Vec Ideal S2x80x128 .f32) (qi : IVec S2x80x128 32)

theorem pay8_at : k1_pay8 (F := Ideal) f v (ix3 b c 0)
    = max (f (ix3 b c 0)) (Finset.fold max (Ideal.ofBits .f32 4286578688#32) (fun x => v (ix4 0 b c x)) Finset.univ) := by
  pointwise [k1_pay8, k1_pay7, k1_pay6]

theorem pay9_at (k : Fin k1_t8_loop.trips) : k1_pay9 (F := Ideal) k f i v (ix3 b c 0)
    = if f (ix3 b c 0) < Finset.fold max (Ideal.ofBits .f32 4286578688#32) (fun x => v (ix4 0 b c x)) Finset.univ then
        Finset.fold IntOp.minsi 2147483647#32 (fun x =>
          if v (ix4 0 b c x) = Finset.fold max (Ideal.ofBits .f32 4286578688#32) (fun x => v (ix4 0 b c x)) Finset.univ then
            IntOp.addi (BitVec.ofNat 32 x.val) (Scalar.muli (Scf.iv 0#32 1#32 k.val) 6144#32) else 49152#32) Finset.univ
      else i (ix3 b c 0) := by
  pointwise [k1_pay9, k1_pay7, k1_pay6]

theorem pay16_at (k : Fin k1_t9_loop.trips) : k1_pay16 (F := Ideal) i k f u (ix3 b c 0)
    = max (f (ix3 b c 0)) (Finset.fold max (Ideal.ofBits .f32 4286578688#32) (fun x =>
        Scalar.select (IntOp.cmpi .eq (IntOp.addi (BitVec.ofNat 32 x.val) (Scalar.muli (Scf.iv 0#32 1#32 k.val) 6144#32)) (i (ix3 b c 0)))
          (u (ix4 0 b 0 x)) (Named.named (F := Ideal) κ "mask" (φ := .f32) 4048155338#32)) Finset.univ) := by
  pointwise [k1_pay16, k1_pay14, k1_pay15]

theorem pay17_at (k : Fin k1_t9_loop.trips) : k1_pay17 (F := Ideal) i k f u (ix3 b c 0)
    = max (f (ix3 b c 0)) (Finset.fold max (Ideal.ofBits .f32 4286578688#32) (fun x =>
        Scalar.select (IntOp.cmpi .eq (IntOp.addi (BitVec.ofNat 32 x.val) (Scalar.muli (Scf.iv 0#32 1#32 k.val) 6144#32)) (i (ix3 b c 0)))
          (u (ix4 0 b 1 x)) (Named.named (F := Ideal) κ "mask" (φ := .f32) 4048155338#32)) Finset.univ) := by
  pointwise [k1_pay17, k1_pay14, k1_pay15]

theorem pay18_at (k : Fin k1_t9_loop.trips) : k1_pay18 (F := Ideal) i k f u (ix3 b c 0)
    = max (f (ix3 b c 0)) (Finset.fold max (Ideal.ofBits .f32 4286578688#32) (fun x =>
        Scalar.select (IntOp.cmpi .eq (IntOp.addi (BitVec.ofNat 32 x.val) (Scalar.muli (Scf.iv 0#32 1#32 k.val) 6144#32)) (i (ix3 b c 0)))
          (u (ix4 0 b 2 x)) (Named.named (F := Ideal) κ "mask" (φ := .f32) 4048155338#32)) Finset.univ) := by
  pointwise [k1_pay18, k1_pay14, k1_pay15]

theorem pay19_at (k : Fin k1_t9_loop.trips) : k1_pay19 (F := Ideal) i k f u (ix3 b c 0)
    = max (f (ix3 b c 0)) (Finset.fold max (Ideal.ofBits .f32 4286578688#32) (fun x =>
        Scalar.select (IntOp.cmpi .eq (IntOp.addi (BitVec.ofNat 32 x.val) (Scalar.muli (Scf.iv 0#32 1#32 k.val) 6144#32)) (i (ix3 b c 0)))
          (u (ix4 0 b 3 x)) (Named.named (F := Ideal) κ "mask" (φ := .f32) 4048155338#32)) Finset.univ) := by
  pointwise [k1_pay19, k1_pay14, k1_pay15]

open Classical in
theorem pay21_at (k : Fin k1_t10_loop.trips) : k1_pay21 (F := Ideal) (k1_pay1 v) (k1_pay2 i f0 f1 f2 f3 (k1_pay20 f0 f1 f2 f3) 0#32 1#32 k u) (k1_pay3 (F := Ideal)) (ix4 0 b c l)
    = Scalar.select (IntOp.ori (BitVec.ofBool (decide (overlap (f0 (ix3 b c 0)) (f1 (ix3 b c 0)) (f2 (ix3 b c 0)) (f3 (ix3 b c 0))
          (u (ix4 0 b 0 l)) (u (ix4 0 b 1 l)) (u (ix4 0 b 2 l)) (u (ix4 0 b 3 l)) (u (ix4 0 b 4 l)))))
        (IntOp.cmpi .eq (IntOp.addi (BitVec.ofNat 32 l.val) (Scalar.muli (Scf.iv 0#32 1#32 k.val) 6144#32)) (i (ix3 b c 0))))
      (Ideal.ofBits .f32 4286578688#32) (v (ix4 0 b c l)) := by
  unfold overlap
  pointwise [k1_pay21, k1_pay1, k1_pay2, k1_pay20, k1_pay3]
  congr

theorem pay25_at (k : Fin k1_t7_loop.trips) : k1_pay25 (F := Ideal) (k1_pay24 qi 0#32 1#32 k f q) (ix3 b c j)
    = Scalar.select (IntOp.cmpi .eq (qi (ix3 b c j)) (Scf.iv 0#32 1#32 k.val))
        (if Ideal.ofBits .f32 1028443341#32 ≤ f (ix3 b c 0) then f (ix3 b c 0) else Ideal.ofBits .f32 3212836864#32) (q (ix3 b c j)) := by
  pointwise [k1_pay25, k1_pay24, k1_pay22, k1_pay23]

theorem pay26_at (k : Fin k1_t7_loop.trips) : k1_pay26 (F := Ideal) f0 (k1_pay22 (F := Ideal) f) (k1_pay23 qi 0#32 1#32 k) q (ix3 b c j)
    = Scalar.select (IntOp.cmpi .eq (qi (ix3 b c j)) (Scf.iv 0#32 1#32 k.val))
      (if Ideal.ofBits .f32 1028443341#32 ≤ f (ix3 b c 0) then f0 (ix3 b c 0) else 0) (q (ix3 b c j)) := by
  pointwise [k1_pay26, k1_pay22, k1_pay23]

theorem pay27_at (k : Fin k1_t7_loop.trips) : k1_pay27 (F := Ideal) f0 (k1_pay22 (F := Ideal) f) (k1_pay23 qi 0#32 1#32 k) q (ix3 b c j)
    = Scalar.select (IntOp.cmpi .eq (qi (ix3 b c j)) (Scf.iv 0#32 1#32 k.val))
      (if Ideal.ofBits .f32 1028443341#32 ≤ f (ix3 b c 0) then f0 (ix3 b c 0) else 0) (q (ix3 b c j)) := by
  pointwise [k1_pay27, k1_pay22, k1_pay23]

theorem pay28_at (k : Fin k1_t7_loop.trips) : k1_pay28 (F := Ideal) f0 (k1_pay22 (F := Ideal) f) (k1_pay23 qi 0#32 1#32 k) q (ix3 b c j)
    = Scalar.select (IntOp.cmpi .eq (qi (ix3 b c j)) (Scf.iv 0#32 1#32 k.val))
      (if Ideal.ofBits .f32 1028443341#32 ≤ f (ix3 b c 0) then f0 (ix3 b c 0) else 0) (q (ix3 b c j)) := by
  pointwise [k1_pay28, k1_pay22, k1_pay23]

theorem pay64_at (k : Fin k1_t7_loop.trips) : k1_pay64 (F := Ideal) (k1_pay23 qi 0#32 1#32 k) (k1_pay29 f0 (k1_pay22 (F := Ideal) f)) q (ix3 b c j)
    = Scalar.select (IntOp.cmpi .eq (qi (ix3 b c j)) (Scf.iv 0#32 1#32 k.val))
      (if Ideal.ofBits .f32 1028443341#32 ≤ f (ix3 b c 0) then f0 (ix3 b c 0) else 0) (q (ix3 b c j)) := by
  pointwise [k1_pay64, k1_pay29, k1_pay22, k1_pay23]
end

theorem mask_bot : (Named.named (F := Ideal) κ "mask" (φ := .f32) 4048155338#32 : Ideal .f32) = (⊥ : EReal) := rfl

end Cert.KernelIdeal.Nms

end
-- ==== Proof.Boxes.lean ====
/- A box and a score of the table, from its entries, as numbers. -/
module

public import Idealize.ShloMosaic.PureOps.Ideal

@[expose] public section

noncomputable section

namespace Cert.Table

open Idealize.ShloMosaic

/-- A centre: the offset, a tenth, times the anchor's extent, from the anchor's centre. -/
def centre (p e o : EReal) : EReal := p * Ideal.ofBits .f32 0x3DCCCCCD#32 * e + o

/-- Half an extent: the anchor's, scaled by the exponential of a fifth of the prediction. -/
def half (p e : EReal) : EReal := Ideal.div (Ideal.exp (p * Ideal.ofBits .f32 0x3E4CCCCD#32) * e) (Ideal.ofBits .f32 0x40000000#32)

/-- The lower corner on one axis. -/
def low (p q e o : EReal) : EReal := centre p e o - half q e

/-- The upper corner on one axis. -/
def high (p q e o : EReal) : EReal := centre p e o + half q e

/-- The area between two corners. -/
def area (x1 y1 x2 y2 : EReal) : EReal := max (x2 - x1) 0 * max (y2 - y1) 0

/-- A score: of a place of the table the logistic of its logit, of a filled-up place −1. -/
def score (n : ℕ) (v : EReal) : EReal := if n < 49104 then Ideal.logistic v else Ideal.ofBits .f32 0xBF800000#32

/-- A column of the boxes, of the four predictions and the four anchor entries: corners, area, three empty rows. -/
def row (p a : Fin 4 → EReal) : Fin 8 → EReal :=
  ![low (p 0) (p 2) (a 2) (a 0), low (p 1) (p 3) (a 3) (a 1), high (p 0) (p 2) (a 2) (a 0), high (p 1) (p 3) (a 3) (a 1),
    area (low (p 0) (p 2) (a 2) (a 0)) (low (p 1) (p 3) (a 3) (a 1)) (high (p 0) (p 2) (a 2) (a 0)) (high (p 1) (p 3) (a 3) (a 1)),
    0, 0, 0]

/-- A number below a bound as the word it is compared as. -/
theorem slt_word (n k : ℕ) (hn : n < 2 ^ 31) (hk : k < 2 ^ 31) :
    IntOp.cmpi .slt (BitVec.ofNat 32 n) (BitVec.ofNat 32 k) = BitVec.ofBool (decide (n < k)) := by
  have e1 : (BitVec.ofNat 32 n).toInt = n := by rw [BitVec.toInt_eq_toNat_of_lt] <;> simp <;> omega
  have e2 : (BitVec.ofNat 32 k).toInt = k := by rw [BitVec.toInt_eq_toNat_of_lt] <;> simp <;> omega
  show BitVec.ofBool (BitVec.slt _ _) = _
  rw [BitVec.slt, e1, e2]
  simp

end Cert.Table

end
-- ==== Proof.KRound.lean ====
/- One picking round of the second kernel, class by class: the greatest score and where it first stands, the box there, and
   what the round masks and records. -/
module

public import proofs.«01_k».proof.Proof.KSel
public import proofs.«01_k».proof.Proof.KPay
public import proofs.«01_k».proof.Proof.Boxes

@[expose] public section

set_option maxRecDepth 16384
set_option maxHeartbeats 4000000

noncomputable section

open Idealize.ShloMosaic Idealize.ShloMosaic.TcCoe

namespace Cert.KernelIdeal.Nms

open Cert.KernelIdeal Cert.KernelIdeal.Gen Cert.Loop Cert.Folds Cert.Order Cert.Steps

theorem trips8 : k1_t8_loop.trips = 8 := by decide +kernel
theorem trips9 : k1_t9_loop.trips = 8 := by decide +kernel
theorem trips10 : k1_t10_loop.trips = 8 := by decide +kernel
theorem trips7 : k1_t7_loop.trips = 100 := by decide +kernel

/-- The boxes in order of their index, one row. -/
def row (x : Vec Ideal S8x2x8x6144 .f32) (b : Fin 2) (r : Fin 8) : Fin 49152 → EReal := fun n =>
  x (ix4 (⟨n.val / 6144, by have := n.isLt; omega⟩ : Fin 8) b r (⟨n.val % 6144, by omega⟩ : Fin 6144))

theorem row_at (x : Vec Ideal S8x2x8x6144 .f32) (b : Fin 2) (r : Fin 8) (k : Fin 8) (l : Fin 6144) : row x b r (at' k l) = x (ix4 k b r l) := by
  have e1 : (⟨(at' k l).val / 6144, by have := (at' k l).isLt; omega⟩ : Fin 8) = k := Fin.ext (by show (k.val * 6144 + l.val) / 6144 = k.val; have := l.isLt; omega)
  have e2 : (⟨(at' k l).val % 6144, by omega⟩ : Fin 6144) = l := Fin.ext (by show (k.val * 6144 + l.val) % 6144 = l.val; have := l.isLt; omega)
  show x (ix4 _ b r _) = _
  rw [e1, e2]

theorem boxChunk_at (s : Vec Ideal S8x2x8x6144 .f32) (off : Fin 4 → ℕ) (h) (k : Fin 8) (e : off = ![k.val, 0, 0, 0]) (b : Fin 2) (c : Fin 8) (l : Fin 6144) :
    boxChunk (F := Ideal) s off h (ix4 0 b c l) = s (ix4 k b c l) := by
  subst e
  refine congrArg s (funext fun a => Fin.ext ?_)
  fin_cases a <;> simp [Rect.unit, Rect.emb] <;> rfl

variable (s : Vec Ideal S8x2x80x6144 .f32) (x : Vec Ideal S8x2x8x6144 .f32) (b : Fin 2) (c : Fin 80)

/-- What the first chunks say of the greatest score and its first index. -/
def Found (w : Fin 49152 → EReal) (j : ℕ) (m : EReal) (i : BitVec 32) : Prop :=
  (∀ n, n.val < j * 6144 → w n ≤ m) ∧ (m = ⊥ ∨ ∃ p : Fin 49152, p.val < j * 6144 ∧ w p = m ∧ i = BitVec.ofNat 32 p.val ∧ ∀ n, n.val < j * 6144 → w n = m → p ≤ n)

theorem best_found : Found (line s b c) 8 ((best s).1 (ix3 b c 0)) ((best s).2 (ix3 b c 0)) := by
  refine run_induct (n := k1_t8_loop.trips) 8 trips8 (fun k a => (k1_pay8 (F := Ideal) a.1 (scoreChunk s (k1_off5 k) (k1_off5_inb k)),
    k1_pay9 (F := Ideal) k a.1 a.2 (scoreChunk s (k1_off5 k) (k1_off5_inb k)))) (k1_pay4 (F := Ideal), k1_pay5)
    (fun j a => Found (line s b c) j (a.1 (ix3 b c 0)) (a.2 (ix3 b c 0))) ⟨fun n h => absurd h (by omega), .inl ?_⟩ ?_
  · show k1_pay4 (F := Ideal) (ix3 b c 0) = _
    pointwise [k1_pay4]
    exact negInf
  · intro k a ih
    have hk : k.val < 8 := trips8 ▸ k.isLt
    obtain ⟨ih1, ih2⟩ := ih
    dsimp only
    rw [pay8_at, pay9_at]
    have ec : ∀ l, scoreChunk (F := Ideal) s (k1_off5 k) (k1_off5_inb k) (ix4 0 b c l) = line s b c (at' ⟨k.val, hk⟩ l) := fun l => by
      rw [chunk_at s _ _ ⟨k.val, hk⟩ (off5_eq k), line_at]
    simp only [ec]
    set M := Finset.fold max (Ideal.ofBits .f32 4286578688#32) (fun l => line s b c (at' ⟨k.val, hk⟩ l)) Finset.univ with hM
    have hle : ∀ l, line s b c (at' ⟨k.val, hk⟩ l) ≤ M := fun l => le_fold_max (fun l => line s b c (at' ⟨k.val, hk⟩ l)) l
    have hsplit : ∀ n : Fin 49152, n.val < (k.val + 1) * 6144 → n.val < k.val * 6144 ∨ ∃ l, n = at' ⟨k.val, hk⟩ l := fun n hn => by
      by_cases h : n.val < k.val * 6144
      · exact .inl h
      · exact .inr ⟨⟨n.val - k.val * 6144, by omega⟩, Fin.ext (by show n.val = k.val * 6144 + (n.val - k.val * 6144); omega)⟩
    have hat : ∀ l : Fin 6144, (at' ⟨k.val, hk⟩ l).val = k.val * 6144 + l.val := fun l => rfl
    refine ⟨fun n hn => ?_, ?_⟩
    · rcases hsplit n hn with h | ⟨l, rfl⟩
      · exact (ih1 n h).trans (le_max_left _ _)
      · exact (hle l).trans (le_max_right _ _)
    · by_cases hlt : a.1 (ix3 b c 0) < M
      · right
        rw [if_pos hlt, max_eq_right hlt.le]
        have hatt : ∃ l, line s b c (at' ⟨k.val, hk⟩ l) = M := by
          rcases fold_max_attained (fun l => line s b c (at' ⟨k.val, hk⟩ l)) with h | h
          · rw [hM, h] at hlt; exact absurd hlt not_lt_bot
          · exact h
        obtain ⟨l, hl, hmin⟩ : ∃ l, line s b c (at' ⟨k.val, hk⟩ l) = M ∧ ∀ l', line s b c (at' ⟨k.val, hk⟩ l') = M → l ≤ l' := by
          classical
          have hne : ∃ n : ℕ, ∃ h : n < 6144, line s b c (at' ⟨k.val, hk⟩ ⟨n, h⟩) = M := by
            obtain ⟨l, hl⟩ := hatt; exact ⟨l.val, l.isLt, hl⟩
          obtain ⟨h, hl⟩ := Nat.find_spec hne
          exact ⟨⟨Nat.find hne, h⟩, hl, fun l' hl' => Nat.find_min' hne ⟨l'.isLt, hl'⟩⟩
        refine ⟨at' ⟨k.val, hk⟩ l, by rw [hat]; have := l.isLt; omega, hl, ?_, ?_⟩
        · classical
          have hg := fold_minsi (fun l' : Fin 6144 => if line s b c (at' ⟨k.val, hk⟩ l') = M then
              IntOp.addi (BitVec.ofNat 32 l'.val) (Scalar.muli (Scf.iv 0#32 1#32 k.val) 6144#32) else 49152#32)
            (fun l' => if line s b c (at' ⟨k.val, hk⟩ l') = M then (at' ⟨k.val, hk⟩ l').val else 49152)
            (fun l' => by
              by_cases h : line s b c (at' ⟨k.val, hk⟩ l') = M
              · simp only [if_pos h]; exact index_word ⟨k.val, hk⟩ l'
              · simp only [if_neg h])
            (fun l' => by
              have := (at' ⟨k.val, hk⟩ l').isLt
              split <;> omega)
          rw [hg.1, fold_min_eq _ (at' ⟨k.val, hk⟩ l).val (by have := (at' ⟨k.val, hk⟩ l).isLt; omega) (fun l' => ?_) l (if_pos hl)]
          have := (at' ⟨k.val, hk⟩ l).isLt
          split
          · rename_i h
            have := hmin l' h
            rw [hat, hat]
            have : l.val ≤ l'.val := this
            omega
          · omega
        · intro n hn hw
          rcases hsplit n hn with h | ⟨l', rfl⟩
          · exact absurd (hw ▸ ih1 n h) (not_le.2 hlt)
          · have : l.val ≤ l'.val := hmin l' hw
            rw [Fin.le_def, hat, hat]; omega
      · rw [if_neg hlt, max_eq_left (not_lt.1 hlt)]
        rcases ih2 with h | ⟨p, h1, h2, h3, h4⟩
        · exact .inl h
        · refine .inr ⟨p, by omega, h2, h3, fun n hn hw => ?_⟩
          rcases hsplit n hn with h | ⟨l', rfl⟩
          · exact h4 n h hw
          · rw [Fin.le_def, hat]; omega

/-- The pick of a class, where anything is left to pick. -/
theorem best_pick (p : Fin 49152) (hp : IsPick (line s b c) p) (h : line s b c p ≠ ⊥) :
    (best s).1 (ix3 b c 0) = line s b c p ∧ (best s).2 (ix3 b c 0) = BitVec.ofNat 32 p.val := by
  obtain ⟨h1, h2⟩ := best_found s b c
  have hlt : ∀ n : Fin 49152, n.val < 8 * 6144 := fun n => by have := n.isLt; omega
  have hle := h1 p (hlt p)
  rcases h2 with h2 | ⟨q, -, hq, hi, hmin⟩
  · rw [h2] at hle; exact absurd (le_bot_iff.1 hle) h
  · have e : line s b c p = (best s).1 (ix3 b c 0) := le_antisymm hle (hq ▸ (hp q).1)
    have : q = p := le_antisymm (hmin p (hlt p) e) ((hp q).2 (hq.trans e.symm))
    subst this
    exact ⟨e.symm, hi⟩

/-- Where nothing is left the greatest score is lowest. -/
theorem best_none (h : ∀ n, line s b c n = ⊥) : (best s).1 (ix3 b c 0) = ⊥ := by
  obtain ⟨h1, h2⟩ := best_found s b c
  rcases h2 with h2 | ⟨q, -, hq, hi, hmin⟩
  · exact h2
  · rw [← hq, h]

theorem corner_at (r : Fin 8) (p : Fin 49152) (i : IVec S2x80x1 32) (hi : i (ix3 b c 0) = BitVec.ofNat 32 p.val) (G : ℕ → EReal) (g0 : G 0 = ⊥)
    (gs : ∀ k : Fin 8, G (k.val + 1) = max (G k.val) (Finset.fold max (Ideal.ofBits .f32 4286578688#32) (fun l : Fin 6144 =>
        Scalar.select (IntOp.cmpi .eq (IntOp.addi (BitVec.ofNat 32 l.val) (Scalar.muli (Scf.iv 0#32 1#32 k.val) 6144#32)) (i (ix3 b c 0)))
          (row x b r (at' k l)) (Named.named (F := Ideal) κ "mask" (φ := .f32) 4048155338#32)) Finset.univ)) : G 8 = row x b r p := by
  have key : ∀ j, j ≤ 8 → G j = if p.val < j * 6144 then row x b r p else ⊥ := by
    intro j
    induction j with
    | zero => intro _; rw [g0, if_neg (by omega)]
    | succ j ih =>
      intro hj
      rw [gs ⟨j, hj⟩, ih (by omega), hi]
      have hw : ∀ l : Fin 6144, IntOp.cmpi .eq (IntOp.addi (BitVec.ofNat 32 l.val) (Scalar.muli (Scf.iv 0#32 1#32 j) 6144#32)) (BitVec.ofNat 32 p.val)
          = BitVec.ofBool (decide ((at' ⟨j, hj⟩ l).val = p.val)) := fun l => by
        rw [index_word ⟨j, hj⟩ l, cmpi_eq_ofNat _ _ (by have := (at' ⟨j, hj⟩ l).isLt; omega) (by have := p.isLt; omega)]
      have hat : ∀ l : Fin 6144, (at' ⟨j, hj⟩ l).val = j * 6144 + l.val := fun l => rfl
      simp only [hw, select_ofBool, mask_bot]
      by_cases h : j * 6144 ≤ p.val ∧ p.val < (j + 1) * 6144
      · rw [if_neg (by omega), if_pos h.2, max_eq_right bot_le]
        have e : at' ⟨j, hj⟩ ⟨p.val - j * 6144, by omega⟩ = p := Fin.ext (by rw [hat]; show j * 6144 + (p.val - j * 6144) = _; omega)
        refine fold_max_eq _ _ (fun l => ?_) ⟨p.val - j * 6144, by omega⟩ ?_
        · split
          · rename_i hl; rw [Fin.ext hl]
          · exact bot_le
        · rw [if_pos (by rw [e]), e]
      · have hall : Finset.fold max (Ideal.ofBits .f32 4286578688#32) (fun l : Fin 6144 => if (at' ⟨j, hj⟩ l).val = p.val then row x b r (at' ⟨j, hj⟩ l) else (⊥ : EReal)) Finset.univ = ⊥ := by
          refine le_bot_iff.1 ((fold_max_le _ _).2 fun l => ?_)
          rw [if_neg]
          rw [hat]; have := l.isLt; omega
        refine (congrArg _ hall).trans ?_
        rw [max_eq_left bot_le]
        by_cases h' : p.val < j * 6144
        · rw [if_pos h', if_pos (by omega)]
        · rw [if_neg h', if_neg (by omega)]
  rw [key 8 le_rfl, if_pos (by have := p.isLt; omega)]

/-- The box that stands at an index. -/
theorem corners_at (p : Fin 49152) (i : IVec S2x80x1 32) (hi : i (ix3 b c 0) = BitVec.ofNat 32 p.val) :
    (corners x i).1 (ix3 b c 0) = row x b 0 p ∧ (corners x i).2.1 (ix3 b c 0) = row x b 1 p ∧
    (corners x i).2.2.1 (ix3 b c 0) = row x b 2 p ∧ (corners x i).2.2.2 (ix3 b c 0) = row x b 3 p := by
  set f : Fin k1_t9_loop.trips → (FVec Ideal S2x80x1 .f32 × FVec Ideal S2x80x1 .f32 × FVec Ideal S2x80x1 .f32 × FVec Ideal S2x80x1 .f32) → _ :=
    fun k a => (k1_pay16 (F := Ideal) i k a.1 (boxChunk x (k1_off6 k) (k1_off6_inb k)),
      k1_pay17 (F := Ideal) i k a.2.1 (boxChunk x (k1_off6 k) (k1_off6_inb k)), k1_pay18 (F := Ideal) i k a.2.2.1 (boxChunk x (k1_off6 k) (k1_off6_inb k)),
      k1_pay19 (F := Ideal) i k a.2.2.2 (boxChunk x (k1_off6 k) (k1_off6_inb k))) with hf
  set a0 := (k1_pay10 (F := Ideal), k1_pay11 (F := Ideal), k1_pay12 (F := Ideal), k1_pay13 (F := Ideal)) with ha0
  have e : corners x i = upto f a0 8 := by
    show upto f a0 k1_t9_loop.trips = _
    exact congrArg (upto f a0) trips9
  have hs : ∀ k : Fin 8, upto f a0 (k.val + 1) = f ⟨k.val, trips9.symm ▸ k.isLt⟩ (upto f a0 k.val) := fun k => upto_succ f a0 ⟨k.val, trips9.symm ▸ k.isLt⟩
  have hb : ∀ (k : Fin 8) (r : Fin 8) (l : Fin 6144) (h), boxChunk (F := Ideal) x (k1_off6 ⟨k.val, trips9.symm ▸ k.isLt⟩) h (ix4 0 b r l) = row x b r (at' k l) := fun k r l h => by
    exact (boxChunk_at x _ h k (off6_eq ⟨k.val, trips9.symm ▸ k.isLt⟩) b r l).trans (row_at x b r k l).symm
  rw [e]
  refine ⟨corner_at x b c 0 p i hi (fun j => (upto f a0 j).1 (ix3 b c 0)) ?_ ?_, corner_at x b c 1 p i hi (fun j => (upto f a0 j).2.1 (ix3 b c 0)) ?_ ?_,
    corner_at x b c 2 p i hi (fun j => (upto f a0 j).2.2.1 (ix3 b c 0)) ?_ ?_, corner_at x b c 3 p i hi (fun j => (upto f a0 j).2.2.2 (ix3 b c 0)) ?_ ?_⟩
  · show k1_pay10 (F := Ideal) (ix3 b c 0) = _
    pointwise [k1_pay10]
    exact mask_bot
  · intro k
    rw [hs]
    refine (pay16_at b c _ i _ _).trans ?_
    simp only [hb]
  · show k1_pay11 (F := Ideal) (ix3 b c 0) = _
    pointwise [k1_pay11]
    exact mask_bot
  · intro k
    rw [hs]
    refine (pay17_at b c _ i _ _).trans ?_
    simp only [hb]
  · show k1_pay12 (F := Ideal) (ix3 b c 0) = _
    pointwise [k1_pay12]
    exact mask_bot
  · intro k
    rw [hs]
    refine (pay18_at b c _ i _ _).trans ?_
    simp only [hb]
  · show k1_pay13 (F := Ideal) (ix3 b c 0) = _
    pointwise [k1_pay13]
    exact mask_bot
  · intro k
    rw [hs]
    refine (pay19_at b c _ i _ _).trans ?_
    simp only [hb]

open Classical in
/-- What a round leaves of the scores: what neither overlaps the box of the pick nor is the pick. -/
theorem cleared_at (i : IVec S2x80x1 32) (b0 b1 b2 b3 : FVec Ideal S2x80x1 .f32) (n : Fin 49152) :
    line (cleared x i b0 b1 b2 b3 s) b c n = if overlap (b0 (ix3 b c 0)) (b1 (ix3 b c 0)) (b2 (ix3 b c 0)) (b3 (ix3 b c 0))
        (row x b 0 n) (row x b 1 n) (row x b 2 n) (row x b 3 n) (row x b 4 n) ∨ BitVec.ofNat 32 n.val = i (ix3 b c 0) then ⊥ else line s b c n := by
  have key := run_induct (n := k1_t10_loop.trips) 8 trips10 (fun k s => VecWindow.put (s := S8x2x80x6144) s (k1_off7 k) S1x2x80x6144.size
    (k1_pay21 (F := Ideal) (k1_pay1 (scoreChunk s (k1_off7 k) (k1_off7_inb k)))
      (k1_pay2 i b0 b1 b2 b3 (k1_pay20 b0 b1 b2 b3) 0#32 1#32 k (boxChunk x (k1_off8 k) (k1_off8_inb k))) (k1_pay3 (F := Ideal)))) s
    (fun j a => ∀ (k : Fin 8) (l : Fin 6144), a (ix4 k b c l) = if k.val < j then
      (if overlap (b0 (ix3 b c 0)) (b1 (ix3 b c 0)) (b2 (ix3 b c 0)) (b3 (ix3 b c 0))
        (row x b 0 (at' k l)) (row x b 1 (at' k l)) (row x b 2 (at' k l)) (row x b 3 (at' k l)) (row x b 4 (at' k l)) ∨
          BitVec.ofNat 32 (at' k l).val = i (ix3 b c 0) then ⊥ else s (ix4 k b c l)) else s (ix4 k b c l))
    (fun k l => (if_neg (Nat.not_lt_zero _)).symm)
    (fun j a ih k l => by
      have hj : j.val < 8 := trips10 ▸ j.isLt
      rw [put_at _ _ ⟨j.val, hj⟩ (off7_eq j)]
      by_cases hk : k = ⟨j.val, hj⟩
      · subst hk
        rw [if_pos rfl, if_pos (Nat.lt_succ_self _), pay21_at, chunk_at a _ _ ⟨j.val, hj⟩ (off7_eq j), ih, if_neg (lt_irrefl _),
          index_word ⟨j.val, hj⟩ l, negInf]
        simp only [boxChunk_at x _ _ ⟨j.val, hj⟩ (off8_eq j), row_at]
        have e : IntOp.cmpi .eq (BitVec.ofNat 32 (at' ⟨j.val, hj⟩ l).val) (i (ix3 b c 0)) = BitVec.ofBool (decide (BitVec.ofNat 32 (at' ⟨j.val, hj⟩ l).val = i (ix3 b c 0))) := by
          show BitVec.ofBool (_ == _) = _
          rw [beq_eq_decide]
        rw [e, ofBool_or, select_ofBool]
      · have hk' : k.val ≠ j.val := fun e => hk (Fin.ext e)
        rw [if_neg hk, ih]
        by_cases hlt : k.val < j.val
        · rw [if_pos hlt, if_pos (Nat.lt_succ_of_lt hlt)]
        · rw [if_neg hlt, if_neg (fun h => hlt (lt_of_le_of_ne (Nat.le_of_lt_succ h) hk'))])
  obtain ⟨k, l, rfl⟩ := at'_split n
  rw [line_at, line_at, cleared, key, if_pos k.isLt]

theorem word_ne {p n : Fin 49152} : BitVec.ofNat 32 n.val = BitVec.ofNat 32 p.val ↔ n = p := by
  rw [eq_ofNat _ _ (by have := n.isLt; omega) (by have := p.isLt; omega)]
  exact Fin.ext_iff.symm

/-- What a round records in its column. -/
def record (m y : EReal) (z : EReal) : EReal := open Classical in if Ideal.ofBits .f32 1028443341#32 ≤ m then y else z

section
variable (v38 : IVec S2x80x128 32) (hv : ∀ b c j, v38 (ix3 b c j) = BitVec.ofNat 32 j.val) (w : Work Ideal) (k : Fin k1_t7_loop.trips) (j : Fin 128)
include hv

theorem hit_col : IntOp.cmpi .eq (v38 (ix3 b c j)) (Scf.iv 0#32 1#32 k.val) = BitVec.ofBool (decide (j.val = k.val)) := by
  have hk : k.val < 100 := trips7 ▸ k.isLt
  rw [hv, iv_ofNat, cmpi_eq_ofNat _ _ (by have := j.isLt; omega) (by omega)]

theorem round_pc : (round v38 x k w).pc (ix3 b c j) = if j.val = k.val then record ((best w.sc).1 (ix3 b c 0)) ((best w.sc).1 (ix3 b c 0)) (Ideal.ofBits .f32 3212836864#32)
    else w.pc (ix3 b c j) := by
  refine (pay25_at b c j _ _ _ k).trans ?_
  rw [hit_col b c v38 hv k j, select_ofBool]
  unfold record
  congr

theorem round_x1 : (round v38 x k w).x1 (ix3 b c j) = if j.val = k.val then record ((best w.sc).1 (ix3 b c 0)) ((corners x (best w.sc).2).1 (ix3 b c 0)) 0
    else w.x1 (ix3 b c j) := by
  refine (pay26_at b c j _ _ _ _ k).trans ?_
  rw [hit_col b c v38 hv k j, select_ofBool]
  unfold record
  congr

theorem round_y1 : (round v38 x k w).y1 (ix3 b c j) = if j.val = k.val then record ((best w.sc).1 (ix3 b c 0)) ((corners x (best w.sc).2).2.1 (ix3 b c 0)) 0
    else w.y1 (ix3 b c j) := by
  refine (pay27_at b c j _ _ _ _ k).trans ?_
  rw [hit_col b c v38 hv k j, select_ofBool]
  unfold record
  congr

theorem round_x2 : (round v38 x k w).x2 (ix3 b c j) = if j.val = k.val then record ((best w.sc).1 (ix3 b c 0)) ((corners x (best w.sc).2).2.2.1 (ix3 b c 0)) 0
    else w.x2 (ix3 b c j) := by
  refine (pay28_at b c j _ _ _ _ k).trans ?_
  rw [hit_col b c v38 hv k j, select_ofBool]
  unfold record
  congr

theorem round_y2 : (round v38 x k w).y2 (ix3 b c j) = if j.val = k.val then record ((best w.sc).1 (ix3 b c 0)) ((corners x (best w.sc).2).2.2.2 (ix3 b c 0)) 0
    else w.y2 (ix3 b c j) := by
  refine (pay64_at b c j _ _ _ _ k).trans ?_
  rw [hit_col b c v38 hv k j, select_ofBool]
  unfold record
  congr
end

end Cert.KernelIdeal.Nms

end
-- ==== Proof.RStep.lean ====
/- One round of the reference: which box it picks, what it records, what it masks. -/
module

public import proofs.«01_k».proof.Proof.Gen.ReferenceIdeal.Run
public import proofs.«01_k».proof.Proof.KRound
public import proofs.«01_k».proof.Proof.Boxes
public import Idealize.ShloMosaic.PureOps.IdealRules
public import Idealize.ShloMosaic.Lib.Pointwise

@[expose] public section

set_option maxRecDepth 16384
set_option maxHeartbeats 4000000

noncomputable section

open Idealize.ShloMosaic Idealize.ShloMosaic.TcCoe

namespace Cert.ReferenceIdeal.Value

open Cert.ReferenceIdeal Cert.ReferenceIdeal.Gen Cert.Folds Cert.Order
open Cert.KernelIdeal.Nms (overlap record)

/-- A slab written into one place of a stack of a hundred. -/
theorem slab_at {α : Type} (x : S100x2x80.Idx → α) (u : S1x2x80.Idx → α) (st : Fin S100x2x80.rank → Int) (h : S100x2x80.Slices (fun _ => 0) S1x2x80)
    (r : ℕ) (hr : r < 100) (h0 : st 0 = r) (h1 : st 1 = 0) (h2 : st 2 = 0) (j : Fin 100) (b : Fin 2) (c : Fin 80) :
    Host.dynamicUpdateSlice x u st h (ix3 j b c) = if j.val = r then u (ix3 0 b c) else x (ix3 j b c) := by
  have c0 : Host.clampedStart S100x2x80 S1x2x80 h.1 st (0 : Fin 3) = r := Host.clampedStart_of_le h.1 st 0 r h0 (by show r + 1 ≤ 100; omega)
  have c1 : Host.clampedStart S100x2x80 S1x2x80 h.1 st (1 : Fin 3) = 0 := Host.clampedStart_of_le h.1 st 1 0 h1 (by show 0 + 2 ≤ 2; omega)
  have c2 : Host.clampedStart S100x2x80 S1x2x80 h.1 st (2 : Fin 3) = 0 := Host.clampedStart_of_le h.1 st 2 0 h2 (by show 0 + 80 ≤ 80; omega)
  have hb := b.isLt
  have hc := c.isLt
  rw [Host.dynamicUpdateSlice_apply]
  by_cases hj : j.val = r
  · rw [if_pos hj, dif_pos]
    · congr 1
      funext a
      apply Fin.ext
      match a with
      | ⟨0, _⟩ => show j.val - Host.clampedStart S100x2x80 S1x2x80 h.1 st (0 : Fin 3) = 0; omega
      | ⟨1, _⟩ => show b.val - Host.clampedStart S100x2x80 S1x2x80 h.1 st (1 : Fin 3) = b.val; omega
      | ⟨2, _⟩ => show c.val - Host.clampedStart S100x2x80 S1x2x80 h.1 st (2 : Fin 3) = c.val; omega
    · intro a
      match a with
      | ⟨0, _⟩ => show Host.clampedStart S100x2x80 S1x2x80 h.1 st (0 : Fin 3) ≤ j.val ∧ j.val < Host.clampedStart S100x2x80 S1x2x80 h.1 st (0 : Fin 3) + 1; omega
      | ⟨1, _⟩ => show Host.clampedStart S100x2x80 S1x2x80 h.1 st (1 : Fin 3) ≤ b.val ∧ b.val < Host.clampedStart S100x2x80 S1x2x80 h.1 st (1 : Fin 3) + 2; omega
      | ⟨2, _⟩ => show Host.clampedStart S100x2x80 S1x2x80 h.1 st (2 : Fin 3) ≤ c.val ∧ c.val < Host.clampedStart S100x2x80 S1x2x80 h.1 st (2 : Fin 3) + 80; omega
  · rw [if_neg hj, dif_neg]
    intro hin
    have := hin 0
    have : Host.clampedStart S100x2x80 S1x2x80 h.1 st (0 : Fin 3) ≤ j.val ∧ j.val < Host.clampedStart S100x2x80 S1x2x80 h.1 st (0 : Fin 3) + 1 := hin 0
    omega

theorem last_axis : S2x80x1000.Reduces [(2 : Fin 3)] S2x80 := ⟨rfl, by decide, by decide⟩

theorem last_lift (b : Fin 2) (c : Fin 80) (k : Fin 1000) : last_axis.lift (ix2 b c) k = ix3 b c k := by
  funext a
  apply Fin.ext
  match a with
  | ⟨0, _⟩ => rfl
  | ⟨1, _⟩ => rfl
  | ⟨2, _⟩ => rfl

/-- Reducing the last axis, entry by entry. -/
theorem last_fold {α : Type} (f : α → α → α) [Std.Commutative f] [Std.Associative f] (x : S2x80x1000.Idx → α) (init : S_.Idx → α) (b : Fin 2) (c : Fin 80) :
    Host.reduce f x init reducesTo_S2x80x1000_S2x80_d2 h_S_ (ix2 b c)
      = Finset.fold f (init (Shape.Idx.first h_S_)) (fun k => x (ix3 b c k)) Finset.univ := by
  refine (Host.reduce_eq_fold_single f x init _ last_axis _ _).trans ?_
  exact congrArg (fun g => Finset.fold f (init (Shape.Idx.first h_S_)) g Finset.univ) (funext fun k => congrArg x (last_lift b c k))

variable (V : Valuation τ sig (Elt Ideal))

/-- The scores left. -/
def sc (b : Fin 2) (c : Fin 80) (k : Fin 1000) : EReal := V (Proc.devRef .tc main_v87_6) (ix3 b c k)

/-- The corners of the candidates. -/
def bx : Fin 4 → Fin 2 → Fin 80 → Fin 1000 → EReal :=
  ![fun b c k => V (Proc.devRef .tc main_v87_1) (ix3 b c k), fun b c k => V (Proc.devRef .tc main_v87_2) (ix3 b c k),
    fun b c k => V (Proc.devRef .tc main_v87_3) (ix3 b c k), fun b c k => V (Proc.devRef .tc main_v87_4) (ix3 b c k)]

/-- The scores recorded. -/
def rs (j : Fin 100) (b : Fin 2) (c : Fin 80) : EReal := V (Proc.devRef .tc main_v87_7) (ix3 j b c)

/-- The corners recorded. -/
def rx : Fin 4 → Fin 100 → Fin 2 → Fin 80 → EReal :=
  ![fun j b c => V (Proc.devRef .tc main_v87_8) (ix3 j b c), fun j b c => V (Proc.devRef .tc main_v87_9) (ix3 j b c),
    fun j b c => V (Proc.devRef .tc main_v87_10) (ix3 j b c), fun j b c => V (Proc.devRef .tc main_v87_11) (ix3 j b c)]

/-- Whether a record stands for a pick. -/
def rf (j : Fin 100) (b : Fin 2) (c : Fin 80) : BitVec 1 := V (Proc.devRef .tc main_v87_12) (ix3 j b c)

/-- The least score picked. -/
abbrev bar : EReal := Ideal.ofBits .f32 1028443341#32

section
variable (b : Fin 2) (c : Fin 80) (p : Fin 1000) (hp : IsPick (sc V b c) p)
include hp

theorem most : (res_main_while0b_v126 V (ix2 b c) : EReal) = sc V b c p := by
  unfold res_main_while0b_v126
  refine (last_fold (α := EReal) max _ _ b c).trans ?_
  exact fold_max_eq (fun k => sc V b c k) _ (fun k => (hp k).1) p rfl

variable (hI : ∀ b c k, (V (Proc.devRef .tc main_v87_0) (ix3 b c k) : BitVec 32) = BitVec.ofNat 32 k.val)
include hI

theorem chosen (k : Fin 1000) : (res_main_while0b_v134 V (ix3 b c k) : BitVec 1) = BitVec.ofBool (decide (k = p)) := by
  classical
  have e : (res_main_while0b_v134 V (ix3 b c k) : BitVec 1) = IntOp.cmpi .eq (V (Proc.devRef .tc main_v87_0) (ix3 b c k) : BitVec 32)
      (Host.reduce IntOp.minsi (select (cmpf .oeq (V (Proc.devRef .tc main_v87_6) : FVec Ideal S2x80x1000 .f32) (broadcastInDim S2x80x1000 ![0, 1, 2] bcast_S2x80x1_S2x80x1000_0_1_2 (broadcastInDim S2x80x1 ![0, 1] bcast_S2x80_S2x80x1_0_1 (res_main_while0b_v126 V)))) (V (Proc.devRef .tc main_v87_0) : IVec S2x80x1000 32) (broadcastInDim S2x80x1000 ![] bcast_S_S2x80x1000 (id (constantI S_ 32 1000#32))))
        (constantI S_ 32 2147483647#32) reducesTo_S2x80x1000_S2x80_d2 h_S_ (ix2 b c)) := by
    have l : ∀ (a : IVec S2x80x1000 32) (R : IVec S2x80 32), cmpi .eq a (broadcastInDim S2x80x1000 ![0, 1, 2] bcast_S2x80x1_S2x80x1000_0_1_2 (broadcastInDim S2x80x1 ![0, 1] bcast_S2x80_S2x80x1_0_1 R)) (ix3 b c k)
        = IntOp.cmpi .eq (a (ix3 b c k)) (R (ix2 b c)) := by
      intro a R
      pointwise
    unfold res_main_while0b_v134
    exact l _ _
  rw [e, last_fold, hI]
  have f : ∀ k' : Fin 1000, (select (cmpf .oeq (V (Proc.devRef .tc main_v87_6) : FVec Ideal S2x80x1000 .f32) (broadcastInDim S2x80x1000 ![0, 1, 2] bcast_S2x80x1_S2x80x1000_0_1_2 (broadcastInDim S2x80x1 ![0, 1] bcast_S2x80_S2x80x1_0_1 (res_main_while0b_v126 V)))) (V (Proc.devRef .tc main_v87_0) : IVec S2x80x1000 32) (broadcastInDim S2x80x1000 ![] bcast_S_S2x80x1000 (id (constantI S_ 32 1000#32)))) (ix3 b c k')
      = BitVec.ofNat 32 (if sc V b c k' = sc V b c p then k'.val else 1000) := by
    intro k'
    have e2 : (select (cmpf .oeq (V (Proc.devRef .tc main_v87_6) : FVec Ideal S2x80x1000 .f32) (broadcastInDim S2x80x1000 ![0, 1, 2] bcast_S2x80x1_S2x80x1000_0_1_2 (broadcastInDim S2x80x1 ![0, 1] bcast_S2x80_S2x80x1_0_1 (res_main_while0b_v126 V)))) (V (Proc.devRef .tc main_v87_0) : IVec S2x80x1000 32) (broadcastInDim S2x80x1000 ![] bcast_S_S2x80x1000 (id (constantI S_ 32 1000#32)))) (ix3 b c k')
        = if (V (Proc.devRef .tc main_v87_6) (ix3 b c k') : EReal) = res_main_while0b_v126 V (ix2 b c) then (V (Proc.devRef .tc main_v87_0) (ix3 b c k') : BitVec 32) else 1000#32 := by
      generalize res_main_while0b_v126 V = X
      pointwise [id_eq]
    rw [e2, most V b c p hp, hI]
    show (if sc V b c k' = sc V b c p then _ else _) = _
    split <;> rfl
  have m := fold_minsi (fun k' : Fin 1000 => _) (fun k' => if sc V b c k' = sc V b c p then k'.val else 1000) f (fun k' => by
    have := k'.isLt
    show (if sc V b c k' = sc V b c p then k'.val else 1000) < 2 ^ 31
    split <;> omega)
  have m2 := m.1
  rw [fold_min_eq (fun k' : Fin 1000 => if sc V b c k' = sc V b c p then k'.val else 1000) p.val (by omega) (fun k' => by
    show p.val ≤ (if sc V b c k' = sc V b c p then k'.val else 1000)
    split
    · next h => exact (hp k').2 h
    · omega) p (if_pos rfl)] at m2
  refine (congrArg (IntOp.cmpi .eq (BitVec.ofNat 32 k.val)) m2).trans ?_
  rw [cmpi_eq_ofNat _ _ (by omega) (by omega)]
  exact congrArg BitVec.ofBool (decide_eq_decide.2 Fin.ext_iff.symm)

theorem one_hot (g : Fin 1000 → EReal) : (∑ x, Scalar.select (res_main_while0b_v134 V (ix3 b c x) : BitVec 1) (g x) 0) = g p := by
  rw [Finset.sum_eq_single p]
  · rw [chosen V b c p hp hI, decide_eq_true rfl]; rfl
  · intro k _ hk
    rw [chosen V b c p hp hI, decide_eq_false hk]; rfl
  · intro h; exact absurd (Finset.mem_univ p) h

theorem box0 : (res_main_while0b_v136 V (ix2 b c) : EReal) = bx V 0 b c p := by
  refine Eq.trans ?_ (one_hot V b c p hp hI (bx V 0 b c))
  unfold res_main_while0b_v136
  generalize res_main_while0b_v134 V = X
  pointwise [id_eq]
  rfl

theorem box1 : (res_main_while0b_v138 V (ix2 b c) : EReal) = bx V 1 b c p := by
  refine Eq.trans ?_ (one_hot V b c p hp hI (bx V 1 b c))
  unfold res_main_while0b_v138
  generalize res_main_while0b_v134 V = X
  pointwise [id_eq]
  rfl

theorem box2 : (res_main_while0b_v140 V (ix2 b c) : EReal) = bx V 2 b c p := by
  refine Eq.trans ?_ (one_hot V b c p hp hI (bx V 2 b c))
  unfold res_main_while0b_v140
  generalize res_main_while0b_v134 V = X
  pointwise [id_eq]
  rfl

theorem box3 : (res_main_while0b_v142 V (ix2 b c) : EReal) = bx V 3 b c p := by
  refine Eq.trans ?_ (one_hot V b c p hp hI (bx V 3 b c))
  unfold res_main_while0b_v142
  generalize res_main_while0b_v134 V = X
  pointwise [id_eq]
  rfl

open Classical in
theorem passes : (res_main_while0b_v187 V (ix2 b c) : BitVec 1) = BitVec.ofBool (decide (bar ≤ sc V b c p)) := by
  rw [← most V b c p hp]
  pointwise [res_main_while0b_v187]

open Classical in
theorem step_sc (k : Fin 1000) : (step_main_v87_6 V (ix3 b c k) : EReal)
    = if overlap (bx V 0 b c p) (bx V 1 b c p) (bx V 2 b c p) (bx V 3 b c p) (bx V 0 b c k) (bx V 1 b c k) (bx V 2 b c k) (bx V 3 b c k)
        (Table.area (bx V 0 b c k) (bx V 1 b c k) (bx V 2 b c k) (bx V 3 b c k)) ∨ k = p then ⊥ else sc V b c k := by
  rw [← box0 V b c p hp hI, ← box1 V b c p hp hI, ← box2 V b c p hp hI, ← box3 V b c p hp hI]
  have e : (step_main_v87_6 V (ix3 b c k) : EReal) = Scalar.select (IntOp.ori (BitVec.ofBool (decide
      (overlap (res_main_while0b_v136 V (ix2 b c)) (res_main_while0b_v138 V (ix2 b c)) (res_main_while0b_v140 V (ix2 b c)) (res_main_while0b_v142 V (ix2 b c))
        (V (Proc.devRef .tc main_v87_1) (ix3 b c k)) (V (Proc.devRef .tc main_v87_2) (ix3 b c k)) (V (Proc.devRef .tc main_v87_3) (ix3 b c k)) (V (Proc.devRef .tc main_v87_4) (ix3 b c k))
        (Table.area (V (Proc.devRef .tc main_v87_1) (ix3 b c k)) (V (Proc.devRef .tc main_v87_2) (ix3 b c k)) (V (Proc.devRef .tc main_v87_3) (ix3 b c k)) (V (Proc.devRef .tc main_v87_4) (ix3 b c k))))))
        (res_main_while0b_v134 V (ix3 b c k))) (Ideal.ofBits .f32 4286578688#32) (V (Proc.devRef .tc main_v87_6) (ix3 b c k)) := by
    unfold overlap Table.area
    pointwise [step_main_v87_6, res_main_while0b_v161, res_main_while0b_v143, res_main_while0b_v144, res_main_while0b_v145, res_main_while0b_v146, id_eq]
    congr
  refine e.trans ?_
  rw [chosen V b c p hp hI, ofBool_or, select_ofBool, negInf]
  rfl

variable (r : ℕ) (hr : r < 100) (hctr : ∀ i, (V (Proc.devRef .tc main_v87_5) i : BitVec 32) = BitVec.ofNat 32 r) (j : Fin 100)
include hr hctr

omit hp hI in
theorem start0 : (V (Proc.devRef .tc main_v87_5) (Shape.Idx.first h_S_) : BitVec 32).toInt = r := by
  rw [hctr, BitVec.toInt_eq_toNat_of_lt] <;> simp <;> omega

theorem step_rs : (step_main_v87_7 V (ix3 j b c) : EReal) = if j.val = r then record (sc V b c p) (sc V b c p) (Ideal.ofBits .f32 3212836864#32) else rs V j b c := by
  unfold step_main_v87_7
  refine (slab_at (α := EReal) _ _ _ _ r hr (start0 V r hr hctr) rfl rfl j b c).trans ?_
  refine if_congr Iff.rfl ?_ rfl
  have e : ∀ (g : IVec S2x80 1) (m : FVec Ideal S2x80 .f32), (broadcastInDim S1x2x80 ![1, 2] bcast_S2x80_S1x2x80_1_2 (select g m (broadcastInDim S2x80 ![] bcast_S_S2x80 (id (constant (F := Ideal) S_ .f32 0xBF800000#32)))) (ix3 0 b c) : EReal)
      = Scalar.select (g (ix2 b c)) (m (ix2 b c)) (Ideal.ofBits .f32 3212836864#32) := by
    intro g m
    pointwise [id_eq]
  refine (e _ _).trans ?_
  rw [passes V b c p hp hI, most V b c p hp, select_ofBool]
  rfl

omit hp hI hr hctr in
theorem zero_slab (g : IVec S2x80 1) (m : FVec Ideal S2x80 .f32) : (broadcastInDim S1x2x80 ![1, 2] bcast_S2x80_S1x2x80_1_2 (select g m (broadcastInDim S2x80 ![] bcast_S_S2x80 (id (constant (F := Ideal) S_ .f32 0x00000000#32)))) (ix3 0 b c) : EReal)
      = Scalar.select (g (ix2 b c)) (m (ix2 b c)) 0 := by
  pointwise [id_eq]

theorem step_rx0 : (step_main_v87_8 V (ix3 j b c) : EReal) = if j.val = r then record (sc V b c p) (bx V 0 b c p) 0 else rx V 0 j b c := by
  unfold step_main_v87_8
  refine (slab_at (α := EReal) _ _ _ _ r hr (start0 V r hr hctr) rfl rfl j b c).trans ?_
  refine if_congr Iff.rfl ?_ rfl
  refine (zero_slab b c _ _).trans ?_
  rw [passes V b c p hp hI, box0 V b c p hp hI, select_ofBool]
  rfl

theorem step_rx1 : (step_main_v87_9 V (ix3 j b c) : EReal) = if j.val = r then record (sc V b c p) (bx V 1 b c p) 0 else rx V 1 j b c := by
  unfold step_main_v87_9
  refine (slab_at (α := EReal) _ _ _ _ r hr (start0 V r hr hctr) rfl rfl j b c).trans ?_
  refine if_congr Iff.rfl ?_ rfl
  refine (zero_slab b c _ _).trans ?_
  rw [passes V b c p hp hI, box1 V b c p hp hI, select_ofBool]
  rfl

theorem step_rx2 : (step_main_v87_10 V (ix3 j b c) : EReal) = if j.val = r then record (sc V b c p) (bx V 2 b c p) 0 else rx V 2 j b c := by
  unfold step_main_v87_10
  refine (slab_at (α := EReal) _ _ _ _ r hr (start0 V r hr hctr) rfl rfl j b c).trans ?_
  refine if_congr Iff.rfl ?_ rfl
  refine (zero_slab b c _ _).trans ?_
  rw [passes V b c p hp hI, box2 V b c p hp hI, select_ofBool]
  rfl

theorem step_rx3 : (step_main_v87_11 V (ix3 j b c) : EReal) = if j.val = r then record (sc V b c p) (bx V 3 b c p) 0 else rx V 3 j b c := by
  unfold step_main_v87_11
  refine (slab_at (α := EReal) _ _ _ _ r hr (start0 V r hr hctr) rfl rfl j b c).trans ?_
  refine if_congr Iff.rfl ?_ rfl
  refine (zero_slab b c _ _).trans ?_
  rw [passes V b c p hp hI, box3 V b c p hp hI, select_ofBool]
  rfl

open Classical in
theorem step_rf : (step_main_v87_12 V (ix3 j b c) : BitVec 1) = if j.val = r then BitVec.ofBool (decide (bar ≤ sc V b c p)) else rf V j b c := by
  unfold step_main_v87_12
  refine (slab_at (α := BitVec 1) _ _ _ _ r hr (start0 V r hr hctr) rfl rfl j b c).trans ?_
  refine if_congr Iff.rfl ?_ rfl
  have e : ∀ g : IVec S2x80 1, broadcastInDim S1x2x80 ![1, 2] bcast_S2x80_S1x2x80_1_2 g (ix3 0 b c) = g (ix2 b c) := by
    intro g
    pointwise
  refine (e _).trans ?_
  rw [passes V b c p hp hI]

end

end Cert.ReferenceIdeal.Value

end
-- ==== Proof.RTop.lean ====
/- What the reference makes of its records, entry by entry. -/
module

public import proofs.«01_k».proof.Proof.RStep

@[expose] public section

set_option maxRecDepth 16384
set_option maxHeartbeats 4000000

noncomputable section

open Idealize.ShloMosaic Idealize.ShloMosaic.TcCoe

namespace Cert.ReferenceIdeal.Value

open Cert.ReferenceIdeal Cert.ReferenceIdeal.Gen Cert.Folds Cert.Order

/-- The stable order of a family of numbers, greatest first. -/
def order {n : ℕ} (y : Fin n → EReal) : Fin n → Fin n := sortedFrom fun k k' => (FloatOps.cmpfTotal (F := Ideal) (φ := .f32) .gt (y k) (y k')) == 1#1

theorem order_listed {n : ℕ} (y : Fin n → EReal) : Listed y (order y) := by
  refine sorted_listed y _ fun i j => ?_
  show (BitVec.ofBool (decide (y j < y i)) == 1#1) = _
  by_cases h : y j < y i <;> simp [h]

theorem order_inj {n : ℕ} (y : Fin n → EReal) : Function.Injective (order y) := sortedFrom_injective _
theorem order_surj {n : ℕ} (y : Fin n → EReal) : Function.Surjective (order y) := sortedFrom_surjective _

theorem sort2_eq {s : Shape} (d : ℕ) (hd : d < s.rank) {α β : Type} (cmp : α × β → α × β → BitVec 1) (x : s.Idx → α) (y : s.Idx → β) :
    Host.sort2 s d cmp x y = (fun j => x (j.along ⟨d, hd⟩ (sortedFrom (fun k k' => cmp (x (j.along ⟨d, hd⟩ k), y (j.along ⟨d, hd⟩ k)) (x (j.along ⟨d, hd⟩ k'), y (j.along ⟨d, hd⟩ k')) == 1#1) (j ⟨d, hd⟩))),
      fun j => y (j.along ⟨d, hd⟩ (sortedFrom (fun k k' => cmp (x (j.along ⟨d, hd⟩ k), y (j.along ⟨d, hd⟩ k)) (x (j.along ⟨d, hd⟩ k'), y (j.along ⟨d, hd⟩ k')) == 1#1) (j ⟨d, hd⟩)))) := by
  unfold Host.sort2
  rw [dif_pos hd]

theorem sorted2 (x : FVec Ideal S2x8000 .f32) (idx : IVec S2x8000 32) (hidx : ∀ j, idx j = BitVec.ofNat 32 (j 1).val) (j : S2x8000.Idx) :
    (Host.sort2 S2x8000 1 (fun l r => FloatOps.cmpfTotal (F := Ideal) (φ := .f32) .gt l.1 r.1) x idx).1 j = x (ix2 (j 0) (order (fun n => x (ix2 (j 0) n)) (j 1))) ∧
    (Host.sort2 S2x8000 1 (fun l r => FloatOps.cmpfTotal (F := Ideal) (φ := .f32) .gt l.1 r.1) x idx).2 j = BitVec.ofNat 32 (order (fun n => x (ix2 (j 0) n)) (j 1)).val := by
  have hd : 1 < S2x8000.rank := by decide
  have h : ∀ k : Fin 8000, Shape.Idx.along (s := S2x8000) j ⟨1, hd⟩ k = ix2 (j 0) k := by
    intro k
    funext a
    match a with
    | ⟨0, _⟩ => rfl
    | ⟨1, _⟩ => rfl
  have F : ∀ A : Fin 8000 → S2x8000.Idx, A = (fun k => ix2 (j 0) k) → x (A (sortedFrom (fun k k' : Fin 8000 => FloatOps.cmpfTotal (F := Ideal) (φ := .f32) .gt (x (A k)) (x (A k')) == 1#1) (j 1))) = x (ix2 (j 0) (order (fun n => x (ix2 (j 0) n)) (j 1)))
      ∧ idx (A (sortedFrom (fun k k' : Fin 8000 => FloatOps.cmpfTotal (F := Ideal) (φ := .f32) .gt (x (A k)) (x (A k')) == 1#1) (j 1))) = BitVec.ofNat 32 (order (fun n => x (ix2 (j 0) n)) (j 1)).val := by
    rintro _ rfl
    exact ⟨rfl, hidx _⟩
  rw [sort2_eq 1 hd]
  exact F (fun k => Shape.Idx.along (s := S2x8000) j ⟨1, hd⟩ k) (funext h)

theorem top2 (x : FVec Ideal S2x8000 .f32) (b : Fin 2) (k : Fin 100) :
    (Host.topK S2x100 1 (FloatOps.cmpfTotal (F := Ideal) .gt) x sliceFits_S2x8000_S2x100).1 (ix2 b k) = x (ix2 b (order (fun n => x (ix2 b n)) ⟨k.val, by omega⟩)) ∧
    (Host.topK S2x100 1 (FloatOps.cmpfTotal (F := Ideal) .gt) x sliceFits_S2x8000_S2x100).2 (ix2 b k) = BitVec.ofNat 32 (order (fun n => x (ix2 b n)) ⟨k.val, by omega⟩).val := by
  have e : (fun a : Fin 2 => (⟨0 + (ix2 b k (a.cast sliceFits_S2x8000_S2x100.1.symm)).val, Nat.lt_of_lt_of_le (Nat.add_lt_add_left (ix2 b k _).isLt _) (sliceFits_S2x8000_S2x100.2 a)⟩ : Fin (S2x8000.size a)))
      = ix2 b (⟨k.val, by omega⟩ : Fin 8000) := by
    funext a
    apply Fin.ext
    match a with
    | ⟨0, _⟩ => exact Nat.zero_add _
    | ⟨1, _⟩ => exact Nat.zero_add _
  have s := sorted2 x (fun i => if hd : 1 < S2x8000.rank then iotaInDim S2x8000 32 ⟨1, hd⟩ i else 0#32) (fun j => by rw [dif_pos (by decide)]; rfl) (ix2 b (⟨k.val, by omega⟩ : Fin 8000))
  exact ⟨(congrArg (Host.sort2 S2x8000 1 (fun l r => FloatOps.cmpfTotal (F := Ideal) (φ := .f32) .gt l.1 r.1) x (fun i => if hd : 1 < S2x8000.rank then iotaInDim S2x8000 32 ⟨1, hd⟩ i else 0#32)).1 e).trans s.1, (congrArg (Host.sort2 S2x8000 1 (fun l r => FloatOps.cmpfTotal (F := Ideal) (φ := .f32) .gt l.1 r.1) x (fun i => if hd : 1 < S2x8000.rank then iotaInDim S2x8000 32 ⟨1, hd⟩ i else 0#32)).2 e).trans s.2⟩

theorem sorted3 (x : FVec Ideal S2x80x49104 .f32) (idx : IVec S2x80x49104 32) (hidx : ∀ j, idx j = BitVec.ofNat 32 (j 2).val) (j : S2x80x49104.Idx) :
    (Host.sort2 S2x80x49104 2 (fun l r => FloatOps.cmpfTotal (F := Ideal) (φ := .f32) .gt l.1 r.1) x idx).1 j = x (ix3 (j 0) (j 1) (order (fun n => x (ix3 (j 0) (j 1) n)) (j 2))) ∧
    (Host.sort2 S2x80x49104 2 (fun l r => FloatOps.cmpfTotal (F := Ideal) (φ := .f32) .gt l.1 r.1) x idx).2 j = BitVec.ofNat 32 (order (fun n => x (ix3 (j 0) (j 1) n)) (j 2)).val := by
  have hd : 2 < S2x80x49104.rank := by decide
  have h : ∀ k : Fin 49104, Shape.Idx.along (s := S2x80x49104) j ⟨2, hd⟩ k = ix3 (j 0) (j 1) k := by
    intro k
    funext a
    match a with
    | ⟨0, _⟩ => rfl
    | ⟨1, _⟩ => rfl
    | ⟨2, _⟩ => rfl
  have F : ∀ A : Fin 49104 → S2x80x49104.Idx, A = (fun k => ix3 (j 0) (j 1) k) → x (A (sortedFrom (fun k k' : Fin 49104 => FloatOps.cmpfTotal (F := Ideal) (φ := .f32) .gt (x (A k)) (x (A k')) == 1#1) (j 2))) = x (ix3 (j 0) (j 1) (order (fun n => x (ix3 (j 0) (j 1) n)) (j 2)))
      ∧ idx (A (sortedFrom (fun k k' : Fin 49104 => FloatOps.cmpfTotal (F := Ideal) (φ := .f32) .gt (x (A k)) (x (A k')) == 1#1) (j 2))) = BitVec.ofNat 32 (order (fun n => x (ix3 (j 0) (j 1) n)) (j 2)).val := by
    rintro _ rfl
    exact ⟨rfl, hidx _⟩
  rw [sort2_eq 2 hd]
  exact F (fun k => Shape.Idx.along (s := S2x80x49104) j ⟨2, hd⟩ k) (funext h)

theorem top3 (x : FVec Ideal S2x80x49104 .f32) (b : Fin 2) (c : Fin 80) (k : Fin 1000) :
    (Host.topK S2x80x1000 2 (FloatOps.cmpfTotal (F := Ideal) .gt) x sliceFits_S2x80x49104_S2x80x1000).1 (ix3 b c k) = x (ix3 b c (order (fun n => x (ix3 b c n)) ⟨k.val, by omega⟩)) ∧
    (Host.topK S2x80x1000 2 (FloatOps.cmpfTotal (F := Ideal) .gt) x sliceFits_S2x80x49104_S2x80x1000).2 (ix3 b c k) = BitVec.ofNat 32 (order (fun n => x (ix3 b c n)) ⟨k.val, by omega⟩).val := by
  have e : (fun a : Fin 3 => (⟨0 + (ix3 b c k (a.cast sliceFits_S2x80x49104_S2x80x1000.1.symm)).val, Nat.lt_of_lt_of_le (Nat.add_lt_add_left (ix3 b c k _).isLt _) (sliceFits_S2x80x49104_S2x80x1000.2 a)⟩ : Fin (S2x80x49104.size a)))
      = ix3 b c (⟨k.val, by omega⟩ : Fin 49104) := by
    funext a
    apply Fin.ext
    match a with
    | ⟨0, _⟩ => exact Nat.zero_add _
    | ⟨1, _⟩ => exact Nat.zero_add _
    | ⟨2, _⟩ => exact Nat.zero_add _
  have s := sorted3 x (fun i => if hd : 2 < S2x80x49104.rank then iotaInDim S2x80x49104 32 ⟨2, hd⟩ i else 0#32) (fun j => by rw [dif_pos (by decide)]; rfl) (ix3 b c (⟨k.val, by omega⟩ : Fin 49104))
  exact ⟨(congrArg (Host.sort2 S2x80x49104 2 (fun l r => FloatOps.cmpfTotal (F := Ideal) (φ := .f32) .gt l.1 r.1) x (fun i => if hd : 2 < S2x80x49104.rank then iotaInDim S2x80x49104 32 ⟨2, hd⟩ i else 0#32)).1 e).trans s.1, (congrArg (Host.sort2 S2x80x49104 2 (fun l r => FloatOps.cmpfTotal (F := Ideal) (φ := .f32) .gt l.1 r.1) x (fun i => if hd : 2 < S2x80x49104.rank then iotaInDim S2x80x49104 32 ⟨2, hd⟩ i else 0#32)).2 e).trans s.2⟩

/-- The records in the order they are merged in: a class's hundred after another's. -/
def flat {α : Type} (R : S100x2x80.Idx → α) : S2x8000.Idx → α :=
  shapeCast _ (transpose S2x80x100 [1, 2, 0] R transposes_S100x2x80_S2x80x100_1_2_0) shapeCasts_S2x80x100_S2x8000

def slotOf (n : Fin 8000) : Fin 100 := ⟨n.val % 100, by omega⟩
def classOf (n : Fin 8000) : Fin 80 := ⟨n.val / 100, by have := n.isLt; omega⟩

theorem flat_at {α : Type} (R : S100x2x80.Idx → α) (b : Fin 2) (n : Fin 8000) : flat R (ix2 b n) = R (ix3 (slotOf n) b (classOf n)) := by
  unfold slotOf classOf
  pointwise [flat]

section
variable (T : IVec S2x100 32) (R12 : IVec S100x2x80 1) (b : Fin 2) (i : Fin 100)

/-- Whether a listed place stands for a pick. -/
def okay : IVec S2x100 1 :=
  Host.reduce IntOp.ori (andi (cmpi .eq (broadcastInDim S2x100x8000 ![0, 1, 2] bcast_S2x100x1_S2x100x8000_0_1_2 (broadcastInDim S2x100x1 ![0, 1] bcast_S2x100_S2x100x1_0_1 T)) (iotaInDim S2x100x8000 32 2)) (broadcastInDim S2x100x8000 ![0, 1, 2] bcast_S2x1x8000_S2x100x8000_0_1_2 (broadcastInDim S2x1x8000 ![0, 2] bcast_S2x8000_S2x1x8000_0_2 (flat R12)))) (constantI S_ 1 0#1) reducesTo_S2x100x8000_S2x100_d2 h_S_

theorem fold_ori_single {ι : Type} [Fintype ι] (f : ι → BitVec 1) (p : ι) (h : ∀ x, x ≠ p → f x = 0#1) : Finset.fold IntOp.ori 0#1 f Finset.univ = f p := by
  classical
  have z : ∀ s : Finset ι, p ∉ s → Finset.fold IntOp.ori 0#1 f s = 0#1 := by
    intro s
    induction s using Finset.induction_on with
    | empty => intro _; rfl
    | insert a s ha ih =>
      intro hs
      rw [Finset.fold_insert ha, ih (fun h => hs (Finset.mem_insert_of_mem h)), h a (fun e => hs (e ▸ Finset.mem_insert_self a s))]
      rfl
  rw [← Finset.insert_erase (Finset.mem_univ p), Finset.fold_insert (Finset.notMem_erase p _), z _ (Finset.notMem_erase p _)]
  rcases BitVec.eq_zero_or_eq_one (f p) with e | e <;> rw [e] <;> rfl

variable (p : Fin 8000) (hT : T (ix2 b i) = BitVec.ofNat 32 p.val)
include hT

theorem word_hit (n : Fin 8000) : IntOp.cmpi .eq (T (ix2 b i)) (BitVec.ofNat 32 n.val) = BitVec.ofBool (decide (n = p)) := by
  rw [hT, cmpi_eq_ofNat _ _ (by omega) (by omega)]
  exact congrArg BitVec.ofBool (decide_eq_decide.2 ⟨fun h => Fin.ext h.symm, fun h => congrArg Fin.val h.symm⟩)

theorem okay_at : okay T R12 (ix2 b i) = R12 (ix3 (slotOf p) b (classOf p)) := by
  have e : okay T R12 (ix2 b i) = Finset.fold IntOp.ori (0#1)
      (fun x : Fin 8000 => IntOp.andi (IntOp.cmpi CmpIPredicate.eq (T (ix2 b i)) (BitVec.ofNat 32 x.val)) (flat R12 (ix2 b x))) Finset.univ := by
    unfold okay
    generalize flat R12 = G
    pointwise
  rw [e, fold_ori_single _ p (fun n hn => ?_)]
  · show IntOp.andi (IntOp.cmpi CmpIPredicate.eq (T (ix2 b i)) (BitVec.ofNat 32 p.val)) (flat R12 (ix2 b p)) = _
    rw [word_hit T b i p hT, decide_eq_true rfl, flat_at]
    generalize R12 _ = z
    rcases BitVec.eq_zero_or_eq_one z with e | e <;> rw [e] <;> rfl
  · show IntOp.andi (IntOp.cmpi CmpIPredicate.eq (T (ix2 b i)) (BitVec.ofNat 32 n.val)) (flat R12 (ix2 b n)) = _
    rw [word_hit T b i p hT, decide_eq_false hn]
    generalize flat R12 _ = z
    rcases BitVec.eq_zero_or_eq_one z with e | e <;> rw [e] <;> rfl

theorem place_sum (g : Fin 8000 → EReal) : (∑ x : Fin 8000, Scalar.select (IntOp.cmpi .eq (T (ix2 b i)) (BitVec.ofNat 32 x.val)) (g x) 0) = g p := by
  rw [Finset.sum_eq_single p]
  · rw [word_hit T b i p hT, decide_eq_true rfl]; rfl
  · intro k _ hk
    rw [word_hit T b i p hT, decide_eq_false hk]; rfl
  · intro h; exact absurd (Finset.mem_univ p) h

/-- The corners at the listed places. -/
def places (R8 R9 R10 R11 : FVec Ideal S100x2x80 .f32) : FVec Ideal S4x2x100 .f32 :=
  (Host.reduceAdd (select (broadcastInDim S4x2x100x8000 ![1, 2, 3] bcast_S2x100x8000_S4x2x100x8000_1_2_3 (cmpi .eq (broadcastInDim S2x100x8000 ![0, 1, 2] bcast_S2x100x1_S2x100x8000_0_1_2 (broadcastInDim S2x100x1 ![0, 1] bcast_S2x100_S2x100x1_0_1 T)) (iotaInDim S2x100x8000 32 2))) (broadcastInDim S4x2x100x8000 ![0, 1, 2, 3] bcast_S4x2x1x8000_S4x2x100x8000_0_1_2_3 (broadcastInDim S4x2x1x8000 ![0, 1, 3] bcast_S4x2x8000_S4x2x1x8000_0_1_3 (shapeCast _ (transpose S4x2x80x100 [0, 2, 3, 1] ((concatenate S4x100x2x80 0 [⟨S1x100x2x80, ((broadcastInDim S1x100x2x80 ![1, 2, 3] bcast_S100x2x80_S1x100x2x80_1_2_3 R8) : (⟨S1x100x2x80, .f32⟩ : BufTy).Contents (Elt Ideal))⟩, ⟨S1x100x2x80, ((broadcastInDim S1x100x2x80 ![1, 2, 3] bcast_S100x2x80_S1x100x2x80_1_2_3 R9) : (⟨S1x100x2x80, .f32⟩ : BufTy).Contents (Elt Ideal))⟩, ⟨S1x100x2x80, ((broadcastInDim S1x100x2x80 ![1, 2, 3] bcast_S100x2x80_S1x100x2x80_1_2_3 R10) : (⟨S1x100x2x80, .f32⟩ : BufTy).Contents (Elt Ideal))⟩, ⟨S1x100x2x80, ((broadcastInDim S1x100x2x80 ![1, 2, 3] bcast_S100x2x80_S1x100x2x80_1_2_3 R11) : (⟨S1x100x2x80, .f32⟩ : BufTy).Contents (Elt Ideal))⟩] concatenates_S1x100x2x80_S1x100x2x80_S1x100x2x80_S1x100x2x80_S4x100x2x80_d0 : (⟨S4x100x2x80, .f32⟩ : BufTy).Contents (Elt Ideal))) transposes_S4x100x2x80_S4x2x80x100_0_2_3_1) shapeCasts_S4x2x80x100_S4x2x8000))) (broadcastInDim S4x2x100x8000 ![] bcast_S_S4x2x100x8000 (constant (F := Ideal) S_ .f32 0x00000000#32))) (constant (F := Ideal) S_ .f32 0x00000000#32) reducesTo_S4x2x100x8000_S4x2x100_d3 h_S_)

theorem places_at0 (R8 R9 R10 R11 : FVec Ideal S100x2x80 .f32) : places T R8 R9 R10 R11 (ix3 0 b i) = R8 (ix3 (slotOf p) b (classOf p)) := by
  refine Eq.trans ?_ (place_sum T b i p hT fun n => R8 (ix3 (slotOf n) b (classOf n)))
  unfold slotOf classOf
  pointwise [places]

theorem places_at1 (R8 R9 R10 R11 : FVec Ideal S100x2x80 .f32) : places T R8 R9 R10 R11 (ix3 1 b i) = R9 (ix3 (slotOf p) b (classOf p)) := by
  refine Eq.trans ?_ (place_sum T b i p hT fun n => R9 (ix3 (slotOf n) b (classOf n)))
  unfold slotOf classOf
  pointwise [places]

theorem places_at2 (R8 R9 R10 R11 : FVec Ideal S100x2x80 .f32) : places T R8 R9 R10 R11 (ix3 2 b i) = R10 (ix3 (slotOf p) b (classOf p)) := by
  refine Eq.trans ?_ (place_sum T b i p hT fun n => R10 (ix3 (slotOf n) b (classOf n)))
  unfold slotOf classOf
  pointwise [places]

theorem places_at3 (R8 R9 R10 R11 : FVec Ideal S100x2x80 .f32) : places T R8 R9 R10 R11 (ix3 3 b i) = R11 (ix3 (slotOf p) b (classOf p)) := by
  refine Eq.trans ?_ (place_sum T b i p hT fun n => R11 (ix3 (slotOf n) b (classOf n)))
  unfold slotOf classOf
  pointwise [places]

end

section
variable (V : Valuation τ sig (Elt Ideal)) (b : Fin 2) (i : Fin 100)

/-- The scores recorded, in the order they are merged in. -/
def recs (n : Fin 8000) : EReal := rs V (slotOf n) b (classOf n)

/-- The place listed in a row. -/
def placeOf : Fin 8000 := order (recs V b) ⟨i.val, by omega⟩

/-- The list of the reference. -/
def listing : FVec Ideal S2x100 .f32 × IVec S2x100 32 :=
  Host.topK S2x100 1 (FloatOps.cmpfTotal (F := Ideal) .gt) (flat (V (Proc.devRef .tc main_v87_7) : FVec Ideal S100x2x80 .f32)) sliceFits_S2x8000_S2x100

theorem recs_eq : (fun n : Fin 8000 => flat (V (Proc.devRef .tc main_v87_7) : FVec Ideal S100x2x80 .f32) (ix2 b n)) = recs V b := funext fun n => flat_at _ b n

theorem listing_score : (listing V).1 (ix2 b i) = recs V b (placeOf V b i) := by
  have := (top2 (flat (V (Proc.devRef .tc main_v87_7) : FVec Ideal S100x2x80 .f32)) b i).1
  rw [recs_eq, flat_at] at this
  exact this

theorem listing_place : (listing V).2 (ix2 b i) = BitVec.ofNat 32 (placeOf V b i).val := by
  have := (top2 (flat (V (Proc.devRef .tc main_v87_7) : FVec Ideal S100x2x80 .f32)) b i).2
  rw [recs_eq] at this
  exact this

/-- The flag of the place listed in a row. -/
def flagOf : BitVec 1 := rf V (slotOf (placeOf V b i)) b (classOf (placeOf V b i))

theorem okay_flag : okay (listing V).2 (V (Proc.devRef .tc main_v87_12) : IVec S100x2x80 1) (ix2 b i) = flagOf V b i :=
  okay_at _ _ b i _ (listing_place V b i)

theorem out_score : (out_main_v114 V (ix2 b i) : EReal) = Scalar.select (flagOf V b i) (recs V b (placeOf V b i)) 0 := by
  have e : (out_main_v114 V : FVec Ideal S2x100 .f32) = select (okay (listing V).2 (V (Proc.devRef .tc main_v87_12) : IVec S100x2x80 1)) (listing V).1 (broadcastInDim S2x100 ![] bcast_S_S2x100 (constant (F := Ideal) S_ .f32 0x00000000#32)) := by
    unfold out_main_v114 okay listing flat
    with_reducible rfl
  rw [e]
  have l : ∀ (g : IVec S2x100 1) (m : FVec Ideal S2x100 .f32), (select g m (broadcastInDim S2x100 ![] bcast_S_S2x100 (constant (F := Ideal) S_ .f32 0x00000000#32)) (ix2 b i) : EReal)
      = Scalar.select (g (ix2 b i)) (m (ix2 b i)) 0 := by
    intro g m
    pointwise
  rw [l, okay_flag, listing_score]

theorem word_toInt (z : ℕ) (h : z < 2 ^ 31) : (BitVec.ofNat 32 z).toInt = (z : ℤ) := by
  rw [BitVec.toInt_eq_toNat_of_lt] <;> rw [BitVec.toNat_ofNat, Nat.mod_eq_of_lt (by omega)]
  omega

theorem quotient : ∀ n : Fin 8000, Host.divsi (fun _ : S2x100.Idx => BitVec.ofNat 32 n.val) (fun _ => 100#32) (ix2 0 0) = BitVec.ofNat 32 (n.val / 100) := by decide +kernel

theorem out_class : (out_main_v123 V (ix2 b i) : EReal) = Scalar.select (flagOf V b i) (((classOf (placeOf V b i)).val : ℝ) : EReal) 0 := by
  have e : (out_main_v123 V : FVec Ideal S2x100 .f32) = select (okay (listing V).2 (V (Proc.devRef .tc main_v87_12) : IVec S100x2x80 1)) (sitofp (F := Ideal) .f32 (Host.divsi (listing V).2 (broadcastInDim S2x100 ![] bcast_S_S2x100 (constantI S_ 32 100#32)))) (broadcastInDim S2x100 ![] bcast_S_S2x100 (constant (F := Ideal) S_ .f32 0x00000000#32)) := by
    unfold out_main_v123 okay listing flat
    with_reducible rfl
  rw [e]
  have l : ∀ (g : IVec S2x100 1) (m : FVec Ideal S2x100 .f32), (select g m (broadcastInDim S2x100 ![] bcast_S_S2x100 (constant (F := Ideal) S_ .f32 0x00000000#32)) (ix2 b i) : EReal)
      = Scalar.select (g (ix2 b i)) (m (ix2 b i)) 0 := by
    intro g m
    pointwise
  rw [l, okay_flag]
  refine congrArg (fun z : EReal => Scalar.select (flagOf V b i) z 0) ?_
  have q := quotient (placeOf V b i)
  rw [← listing_place V b i] at q
  have l2 : ∀ T : IVec S2x100 32, (sitofp (F := Ideal) .f32 (Host.divsi T (broadcastInDim S2x100 ![] bcast_S_S2x100 (constantI S_ 32 100#32))) (ix2 b i) : EReal)
      = FloatOps.sitofp (F := Ideal) .f32 (Host.divsi (fun _ : S2x100.Idx => T (ix2 b i)) (fun _ => 100#32) (ix2 0 0)) := by
    intro T
    pointwise
  rw [l2, q]
  generalize placeOf V b i = p
  have hp := p.isLt
  show (((BitVec.ofNat 32 (p.val / 100)).toInt : ℝ) : EReal) = (((p.val / 100 : ℕ) : ℝ) : EReal)
  rw [word_toInt _ (by omega), Int.cast_natCast]

theorem out_count : (out_main_v125 V (ix1 b) : BitVec 32) = BitVec.ofNat 32 (Finset.univ.filter fun i : Fin 100 => flagOf V b i = 1#1).card := by
  have e : (out_main_v125 V : IVec S2 32) = Host.reduce IntOp.addi (extui 32 (okay (listing V).2 (V (Proc.devRef .tc main_v87_12) : IVec S100x2x80 1)) natLt_1_32) (constantI S_ 32 0#32) reducesTo_S2x100_S2_d1 h_S_ := by
    unfold out_main_v125 okay listing flat
    with_reducible rfl
  rw [e]
  have l : ∀ (g : IVec S2x100 1), Host.reduce IntOp.addi (extui 32 g natLt_1_32) (constantI S_ 32 0#32) reducesTo_S2x100_S2_d1 h_S_ (ix1 b)
      = Finset.fold IntOp.addi 0#32 (fun i : Fin 100 => BitVec.setWidth 32 (g (ix2 b i))) Finset.univ := by
    intro g
    pointwise
  rw [l]
  refine fold_count (fun i : Fin 100 => flagOf V b i = 1#1) _ fun i => ?_
  rw [okay_flag]
  rcases BitVec.eq_zero_or_eq_one (flagOf V b i) with e | e <;> rw [e] <;> rfl

theorem out_box (a : Fin 4) : (out_main_v118 V (ix3 b i a) : EReal) = Scalar.select (flagOf V b i) (rx V a (slotOf (placeOf V b i)) b (classOf (placeOf V b i))) 0 := by
  have e : (out_main_v118 V : FVec Ideal S2x100x4 .f32) = transpose S2x100x4 [1, 2, 0] (select (broadcastInDim S4x2x100 ![1, 2] bcast_S2x100_S4x2x100_1_2 (okay (listing V).2 (V (Proc.devRef .tc main_v87_12) : IVec S100x2x80 1)))
      (places (listing V).2 (V (Proc.devRef .tc main_v87_8)) (V (Proc.devRef .tc main_v87_9)) (V (Proc.devRef .tc main_v87_10)) (V (Proc.devRef .tc main_v87_11)))
      (broadcastInDim S4x2x100 ![] bcast_S_S4x2x100 (constant (F := Ideal) S_ .f32 0x00000000#32))) transposes_S4x2x100_S2x100x4_1_2_0 := by
    unfold out_main_v118 okay listing flat places
    with_reducible rfl
  rw [e]
  have l : ∀ (g : IVec S2x100 1) (m : FVec Ideal S4x2x100 .f32), (transpose S2x100x4 [1, 2, 0] (select (broadcastInDim S4x2x100 ![1, 2] bcast_S2x100_S4x2x100_1_2 g) m
      (broadcastInDim S4x2x100 ![] bcast_S_S4x2x100 (constant (F := Ideal) S_ .f32 0x00000000#32))) transposes_S4x2x100_S2x100x4_1_2_0 (ix3 b i a) : EReal)
      = Scalar.select (g (ix2 b i)) (m (ix3 a b i)) 0 := by
    intro g m
    pointwise
  rw [l, okay_flag]
  congr 1
  match a with
  | 0 => exact places_at0 _ b i _ (listing_place V b i) ..
  | 1 => exact places_at1 _ b i _ (listing_place V b i) ..
  | 2 => exact places_at2 _ b i _ (listing_place V b i) ..
  | 3 => exact places_at3 _ b i _ (listing_place V b i) ..
end

end Cert.ReferenceIdeal.Value

end
-- ==== Proof.Sim.lean ====
/- The kernel's picking rounds beside the reference's: the same picks, recorded alike. -/
module

public import proofs.«01_k».proof.Proof.KRound
public import proofs.«01_k».proof.Proof.RStep

@[expose] public section

set_option maxRecDepth 16384
set_option maxHeartbeats 4000000

noncomputable section

open Idealize.ShloMosaic Idealize.ShloMosaic.TcCoe

namespace Cert.Sim

open Cert.Folds Cert.Order Cert.Loop
open Cert.KernelIdeal (S2x80x128 S8x2x8x6144 S8x2x80x6144)
open Cert.KernelIdeal.Nms (overlap record line row round Work best best_pick best_none corners corners_at cleared cleared_at picked)
open Cert.ReferenceIdeal (τ sig)
open Cert.ReferenceIdeal.Value (sc bx rs rx rf bar STEP step_sc step_rs step_rx0 step_rx1 step_rx2 step_rx3 step_rf)

/-- The filler of the records. -/
abbrev none' : EReal := Ideal.ofBits .f32 3212836864#32

theorem none_eq : none' = ((-1 : ℝ) : EReal) := by
  simp [none', Ideal.ofBits, Ideal.ieee]
  norm_cast
  norm_num

theorem bar_pos : (0 : EReal) < bar := by
  simp [bar, Ideal.ofBits, Ideal.ieee]
  norm_cast
  norm_num

theorem bar_bot : ¬ bar ≤ ⊥ := fun h => absurd (bar_pos.trans_le h) (by simp)

theorem bar_none : ¬ bar ≤ none' := fun h => by
  have := bar_pos.trans_le h
  rw [none_eq] at this
  have : (0 : ℝ) < -1 := by exact_mod_cast this
  norm_num at this

theorem exists_pick {n : ℕ} (x : Fin (n + 1) → EReal) : ∃ p, IsPick x p := by
  classical
  obtain ⟨q, -, hq⟩ := Finset.exists_max_image Finset.univ x ⟨0, Finset.mem_univ _⟩
  obtain ⟨p, hp, hm⟩ := Finset.exists_min_image (Finset.univ.filter fun i => x i = x q) id ⟨q, Finset.mem_filter.2 ⟨Finset.mem_univ _, rfl⟩⟩
  have e := (Finset.mem_filter.1 hp).2
  exact ⟨p, fun j => ⟨e ▸ hq j (Finset.mem_univ j), fun h => hm j (Finset.mem_filter.2 ⟨Finset.mem_univ _, h.trans e⟩)⟩⟩

/-- A record slot's column. -/
def col (j : Fin 100) : Fin 128 := ⟨j.val, by omega⟩

/-- What the two have in common after some rounds, in one class of one image: the candidates of the reference stand in the kernel's line at `σ`. -/
structure Alike (b : Fin 2) (c : Fin 80) (σ : Fin 1000 → Fin 49152) (s0 : Fin 49152 → EReal) (r : ℕ) (w : Work Ideal) (V : Valuation τ sig (Elt Ideal)) : Prop where
  inn : ∀ k, line w.sc b c (σ k) = sc V b c k
  out : ∀ n, (∀ k, σ k ≠ n) → line w.sc b c n = ⊥
  old : ∀ k, sc V b c k = ⊥ ∨ sc V b c k = s0 (σ k)
  pc : ∀ j : Fin 100, j.val < r → w.pc (ix3 b c (col j)) = rs V j b c
  rest : ∀ j : Fin 128, r ≤ j.val → w.pc (ix3 b c j) = ⊥
  x1 : ∀ j : Fin 100, j.val < r → w.x1 (ix3 b c (col j)) = rx V 0 j b c
  y1 : ∀ j : Fin 100, j.val < r → w.y1 (ix3 b c (col j)) = rx V 1 j b c
  x2 : ∀ j : Fin 100, j.val < r → w.x2 (ix3 b c (col j)) = rx V 2 j b c
  y2 : ∀ j : Fin 100, j.val < r → w.y2 (ix3 b c (col j)) = rx V 3 j b c
  flag : ∀ j : Fin 100, j.val < r → rf V j b c = open Classical in BitVec.ofBool (decide (bar ≤ rs V j b c))
  kind : ∀ j : Fin 100, j.val < r → rs V j b c = none' ∨ bar ≤ rs V j b c

/-- The reference's loop state after some rounds: its counter, its numbering, its boxes. -/
structure Going (V0 : Valuation τ sig (Elt Ideal)) (r : ℕ) (V : Valuation τ sig (Elt Ideal)) : Prop where
  num : ∀ b c k, (V (Proc.devRef .tc Cert.ReferenceIdeal.main_v87_0) (ix3 b c k) : BitVec 32) = BitVec.ofNat 32 k.val
  ctr : ∀ i, (V (Proc.devRef .tc Cert.ReferenceIdeal.main_v87_5) i : BitVec 32) = BitVec.ofNat 32 r
  box : bx V = bx V0

theorem Going.step {V0 V : Valuation τ sig (Elt Ideal)} {r : ℕ} (h : Going V0 r V) : Going V0 (r + 1) (STEP V) where
  num b c k := by rw [Cert.ReferenceIdeal.Value.STEP_main_v87_0]; exact h.num b c k
  ctr i := by
    rw [Cert.ReferenceIdeal.Value.STEP_main_v87_5]
    show IntOp.addi (V (Proc.devRef .tc Cert.ReferenceIdeal.main_v87_5) i : BitVec 32) 1#32 = _
    rw [h.ctr, show (1#32 : BitVec 32) = BitVec.ofNat 32 1 from rfl, addi_ofNat]
  box := by
    rw [← h.box]
    unfold bx
    rw [Cert.ReferenceIdeal.Value.STEP_main_v87_1, Cert.ReferenceIdeal.Value.STEP_main_v87_2, Cert.ReferenceIdeal.Value.STEP_main_v87_3, Cert.ReferenceIdeal.Value.STEP_main_v87_4]

theorem Going.iter {V0 : Valuation τ sig (Elt Ideal)} (h : Going V0 0 V0) : ∀ r, Going V0 r (STEP^[r] V0)
  | 0 => h
  | r + 1 => by rw [Function.iterate_succ_apply']; exact (Going.iter h r).step

section
variable (V : Valuation τ sig (Elt Ideal)) (b : Fin 2) (c : Fin 80)

theorem sc_step (k : Fin 1000) : sc (STEP V) b c k = (Cert.ReferenceIdeal.Value.step_main_v87_6 V (ix3 b c k) : EReal) := by
  unfold sc; rw [Cert.ReferenceIdeal.Value.STEP_main_v87_6]
theorem rs_step (j : Fin 100) : rs (STEP V) j b c = (Cert.ReferenceIdeal.Value.step_main_v87_7 V (ix3 j b c) : EReal) := by
  unfold rs; rw [Cert.ReferenceIdeal.Value.STEP_main_v87_7]
theorem rx0_step (j : Fin 100) : rx (STEP V) 0 j b c = (Cert.ReferenceIdeal.Value.step_main_v87_8 V (ix3 j b c) : EReal) := by
  rw [← Cert.ReferenceIdeal.Value.STEP_main_v87_8]; rfl
theorem rx1_step (j : Fin 100) : rx (STEP V) 1 j b c = (Cert.ReferenceIdeal.Value.step_main_v87_9 V (ix3 j b c) : EReal) := by
  rw [← Cert.ReferenceIdeal.Value.STEP_main_v87_9]; rfl
theorem rx2_step (j : Fin 100) : rx (STEP V) 2 j b c = (Cert.ReferenceIdeal.Value.step_main_v87_10 V (ix3 j b c) : EReal) := by
  rw [← Cert.ReferenceIdeal.Value.STEP_main_v87_10]; rfl
theorem rx3_step (j : Fin 100) : rx (STEP V) 3 j b c = (Cert.ReferenceIdeal.Value.step_main_v87_11 V (ix3 j b c) : EReal) := by
  rw [← Cert.ReferenceIdeal.Value.STEP_main_v87_11]; rfl
theorem rf_step (j : Fin 100) : rf (STEP V) j b c = (Cert.ReferenceIdeal.Value.step_main_v87_12 V (ix3 j b c) : BitVec 1) := by
  unfold rf; rw [Cert.ReferenceIdeal.Value.STEP_main_v87_12]
end

section
variable (b : Fin 2) (c : Fin 80) (σ : Fin 1000 → Fin 49152) (inj : Function.Injective σ) (s0 : Fin 49152 → EReal) (hl : Listed s0 σ)
  (x : Vec Ideal S8x2x8x6144 .f32) (V0 : Valuation τ sig (Elt Ideal))
  (hx : ∀ k, row x b 0 (σ k) = bx V0 0 b c k ∧ row x b 1 (σ k) = bx V0 1 b c k ∧ row x b 2 (σ k) = bx V0 2 b c k ∧ row x b 3 (σ k) = bx V0 3 b c k
    ∧ row x b 4 (σ k) = Table.area (bx V0 0 b c k) (bx V0 1 b c k) (bx V0 2 b c k) (bx V0 3 b c k))
  (v38 : IVec S2x80x128 32) (hv : ∀ b c j, v38 (ix3 b c j) = BitVec.ofNat 32 j.val)
include inj hl hx hv

theorem Alike.next {w : Work Ideal} {V : Valuation τ sig (Elt Ideal)} (r : Fin Cert.KernelIdeal.k1_t7_loop.trips) (hr : r.val < 100)
    (g : Going V0 r.val V) (h : Alike b c σ s0 r.val w V) : Alike b c σ s0 (r.val + 1) (round v38 x r w) (STEP V) := by
  classical
  obtain ⟨p, hp⟩ := exists_pick (sc V b c)
  rw [← g.box] at hx
  -- a pick of the reference stands where the kernel picks
  have hpick : sc V b c p ≠ ⊥ → IsPick (line w.sc b c) (σ p) := by
    intro hb n
    rw [h.inn]
    by_cases hn : ∃ k, σ k = n
    · obtain ⟨k, rfl⟩ := hn
      rw [h.inn]
      refine ⟨(hp k).1, fun e => ?_⟩
      rcases eq_or_lt_of_le ((hp k).2 e) with hk | hk
      · rw [hk]
      · have hk0 : sc V b c k = s0 (σ k) := (h.old k).resolve_left (e ▸ hb)
        have hp0 : sc V b c p = s0 (σ p) := (h.old p).resolve_left hb
        rcases hl p k hk with h1 | h1
        · rw [← hk0, ← hp0, e] at h1; exact absurd h1 (lt_irrefl _)
        · exact h1.2.le
    · rw [h.out n (not_exists.1 hn)]
      exact ⟨bot_le, fun e => absurd e.symm hb⟩
  have key : (best w.sc).1 (ix3 b c 0) = sc V b c p
      ∧ (∀ n, line (round v38 x r w).sc b c n = if overlap (bx V 0 b c p) (bx V 1 b c p) (bx V 2 b c p) (bx V 3 b c p)
          (row x b 0 n) (row x b 1 n) (row x b 2 n) (row x b 3 n) (row x b 4 n) ∨ n = σ p then ⊥ else line w.sc b c n)
      ∧ record (sc V b c p) ((corners x (best w.sc).2).1 (ix3 b c 0)) 0 = record (sc V b c p) (bx V 0 b c p) 0
      ∧ record (sc V b c p) ((corners x (best w.sc).2).2.1 (ix3 b c 0)) 0 = record (sc V b c p) (bx V 1 b c p) 0
      ∧ record (sc V b c p) ((corners x (best w.sc).2).2.2.1 (ix3 b c 0)) 0 = record (sc V b c p) (bx V 2 b c p) 0
      ∧ record (sc V b c p) ((corners x (best w.sc).2).2.2.2 (ix3 b c 0)) 0 = record (sc V b c p) (bx V 3 b c p) 0 := by
    by_cases hb : sc V b c p = ⊥
    · have all : ∀ k, sc V b c k = ⊥ := fun k => le_bot_iff.1 (hb ▸ (hp k).1)
      have alln : ∀ n, line w.sc b c n = ⊥ := fun n => by
        by_cases hn : ∃ k, σ k = n
        · obtain ⟨k, rfl⟩ := hn; rw [h.inn, all]
        · exact h.out n (not_exists.1 hn)
      have hz : ∀ y, record ⊥ y 0 = 0 := fun y => if_neg bar_bot
      rw [hb]
      refine ⟨best_none w.sc b c alln, fun n => ?_, (hz _).trans (hz _).symm, (hz _).trans (hz _).symm, (hz _).trans (hz _).symm, (hz _).trans (hz _).symm⟩
      refine (cleared_at w.sc x b c _ _ _ _ _ n).trans ?_
      rw [alln, ite_self, ite_self]
    · obtain ⟨h1, h2⟩ := best_pick w.sc b c (σ p) (hpick hb) (by rw [h.inn]; exact hb)
      obtain ⟨c0, c1, c2, c3⟩ := corners_at x b c (σ p) (best w.sc).2 h2
      obtain ⟨x0, x1, x2, x3, -⟩ := hx p
      refine ⟨h1.trans (h.inn p), fun n => ?_, by rw [c0, x0], by rw [c1, x1], by rw [c2, x2], by rw [c3, x3]⟩
      refine (cleared_at w.sc x b c _ _ _ _ _ n).trans ?_
      rw [c0, c1, c2, c3, x0, x1, x2, x3, h2]
      refine if_congr (or_congr Iff.rfl Cert.KernelIdeal.Nms.word_ne) rfl rfl
  obtain ⟨k0, kl, k1, k2, k3, k4⟩ := key
  have hcol : ∀ j : Fin 100, (col j).val = j.val := fun j => rfl
  have hin : ∀ k, line (round v38 x r w).sc b c (σ k) = sc (STEP V) b c k := by
    intro k
    obtain ⟨x0, x1, x2, x3, x4⟩ := hx k
    rw [kl, sc_step, step_sc V b c p hp g.num, x0, x1, x2, x3, x4, h.inn]
    exact if_congr (or_congr Iff.rfl inj.eq_iff) rfl rfl
  have lt_cases : ∀ j : Fin 100, j.val < r.val + 1 → j.val = r.val ∨ (j.val < r.val ∧ ¬ j.val = r.val) := fun j hj => by omega
  refine ⟨hin, fun n hn => ?_, fun k => ?_, fun j hj => ?_, fun j hj => ?_, fun j hj => ?_, fun j hj => ?_, fun j hj => ?_, fun j hj => ?_, fun j hj => ?_, fun j hj => ?_⟩
  · rw [kl, h.out n hn, ite_self]
  · rw [sc_step, step_sc V b c p hp g.num]
    split
    · exact .inl rfl
    · exact h.old k
  · rw [Cert.KernelIdeal.Nms.round_pc x b c v38 hv w r (col j), k0, rs_step, step_rs V b c p hp g.num r.val hr g.ctr]
    rcases lt_cases j hj with e | ⟨e, e'⟩
    · rw [if_pos (by rw [hcol]; exact e), if_pos e]
    · rw [if_neg (by rw [hcol]; exact e'), if_neg e', h.pc j e]
  · rw [Cert.KernelIdeal.Nms.round_pc x b c v38 hv w r j, if_neg (by omega)]
    exact h.rest j (by omega)
  · rw [Cert.KernelIdeal.Nms.round_x1 x b c v38 hv w r (col j), k0, k1, rx0_step, step_rx0 V b c p hp g.num r.val hr g.ctr]
    rcases lt_cases j hj with e | ⟨e, e'⟩
    · rw [if_pos (by rw [hcol]; exact e), if_pos e]
    · rw [if_neg (by rw [hcol]; exact e'), if_neg e', h.x1 j e]
  · rw [Cert.KernelIdeal.Nms.round_y1 x b c v38 hv w r (col j), k0, k2, rx1_step, step_rx1 V b c p hp g.num r.val hr g.ctr]
    rcases lt_cases j hj with e | ⟨e, e'⟩
    · rw [if_pos (by rw [hcol]; exact e), if_pos e]
    · rw [if_neg (by rw [hcol]; exact e'), if_neg e', h.y1 j e]
  · rw [Cert.KernelIdeal.Nms.round_x2 x b c v38 hv w r (col j), k0, k3, rx2_step, step_rx2 V b c p hp g.num r.val hr g.ctr]
    rcases lt_cases j hj with e | ⟨e, e'⟩
    · rw [if_pos (by rw [hcol]; exact e), if_pos e]
    · rw [if_neg (by rw [hcol]; exact e'), if_neg e', h.x2 j e]
  · rw [Cert.KernelIdeal.Nms.round_y2 x b c v38 hv w r (col j), k0, k4, rx3_step, step_rx3 V b c p hp g.num r.val hr g.ctr]
    rcases lt_cases j hj with e | ⟨e, e'⟩
    · rw [if_pos (by rw [hcol]; exact e), if_pos e]
    · rw [if_neg (by rw [hcol]; exact e'), if_neg e', h.y2 j e]
  · rw [rf_step, rs_step, step_rf V b c p hp g.num r.val hr g.ctr, step_rs V b c p hp g.num r.val hr g.ctr]
    rcases lt_cases j hj with e | ⟨e, e'⟩
    · rw [if_pos e, if_pos e]
      unfold record
      by_cases hb : bar ≤ sc V b c p
      · rw [if_pos hb]
      · rw [if_neg hb, decide_eq_false hb, decide_eq_false bar_none]
    · rw [if_neg e', if_neg e', h.flag j e]
  · rw [rs_step, step_rs V b c p hp g.num r.val hr g.ctr]
    rcases lt_cases j hj with e | ⟨e, e'⟩
    · rw [if_pos e]
      unfold record
      by_cases hb : bar ≤ sc V b c p
      · rw [if_pos hb]; exact .inr hb
      · rw [if_neg hb]; exact .inl rfl
    · rw [if_neg e']; exact h.kind j e

/-- After all rounds the records are alike. -/
theorem Alike.all {w : Work Ideal} (g : Going V0 0 V0) (h : Alike b c σ s0 0 w V0) :
    Alike b c σ s0 100 (picked v38 x w) (STEP^[100] V0) := by
  refine run_induct (n := Cert.KernelIdeal.k1_t7_loop.trips) 100 Cert.KernelIdeal.Nms.trips7 (fun k s => round v38 x k s) w
    (fun r w => Alike b c σ s0 r w (STEP^[r] V0)) h ?_
  intro k a ih
  rw [Function.iterate_succ_apply']
  exact Alike.next b c σ inj s0 hl x V0 hx v38 hv k (Cert.KernelIdeal.Nms.trips7 ▸ k.isLt) (g.iter k.val) ih
end

end Cert.Sim

end
-- ==== Proof.REntry.lean ====
/- What the reference's rounds start from: the candidates' scores in order, their corners, the numbering. -/
module

public import proofs.«01_k».proof.Proof.RTop
public import proofs.«01_k».proof.Proof.Sim

@[expose] public section

set_option maxRecDepth 16384
set_option maxHeartbeats 4000000

noncomputable section

open Idealize.ShloMosaic Idealize.ShloMosaic.TcCoe Idealize.ShloMosaic.StableHlo Idealize.ShloMosaic.Scf

namespace Cert.ReferenceIdeal.Value

open Cert.ReferenceIdeal Cert.ReferenceIdeal.Gen Cert.Folds Cert.Order

/-- Entries of a table taken along the last axis at given places. -/
abbrev takes (T : FVec Ideal S2x80x49104 .f32) (I : IVec S2x80x1000 32) : FVec Ideal S2x80x1000 .f32 :=
  Host.gather gather_S2x80x49104_S2x80x1000x1_S2x80x1000_n_2_01_01_2_3_111 T
    (shapeCast S2x80x1000x1 (select (cmpi .slt I (broadcastInDim S2x80x1000 ![] bcast_S_S2x80x1000 (constantI S_ 32 0#32)))
      (addi I (broadcastInDim S2x80x1000 ![] bcast_S_S2x80x1000 (constantI S_ 32 49104#32))) I) shapeCasts_S2x80x1000_S2x80x1000x1)

theorem gather_at {α : Type} (T : S2x80x49104.Idx → α) (I : IVec S2x80x1000x1 32) (b : Fin 2) (c : Fin 80) (k : Fin 1000) (n : Fin 49104)
    (h : I (ix4 b c k 0) = BitVec.ofNat 32 n.val) :
    Host.gather gather_S2x80x49104_S2x80x1000x1_S2x80x1000_n_2_01_01_2_3_111 T I (ix3 b c k) = T (ix3 b c n) := by
  unfold Host.gather
  congr 1
  funext a
  apply Fin.ext
  match a with
  | ⟨0, _⟩ => exact (show 0 + b.val + 0 = b.val by omega)
  | ⟨1, _⟩ => exact (show 0 + c.val + 0 = c.val by omega)
  | ⟨2, _⟩ =>
    have hm : (2 : Fin 3) ∈ gather_S2x80x49104_S2x80x1000x1_S2x80x1000_n_2_01_01_2_3_111.startIndexMap := List.mem_singleton.mpr rfl
    have hb : (2 : Fin 3) ∉ gather_S2x80x49104_S2x80x1000x1_S2x80x1000_n_2_01_01_2_3_111.operandBatchingDims := show (2 : Fin 3) ∉ [0, 1] by decide
    have hc : (2 : Fin 3) ∈ gather_S2x80x49104_S2x80x1000x1_S2x80x1000_n_2_01_01_2_3_111.collapsedSliceDims := List.mem_singleton.mpr rfl
    have hk : (2 : Fin 3) ∉ gather_S2x80x49104_S2x80x1000x1_S2x80x1000_n_2_01_01_2_3_111.sKept := by
      rw [GatherDims.mem_sKept]; exact fun h => h.1 hc
    have e : ∀ q, gather_S2x80x49104_S2x80x1000x1_S2x80x1000_n_2_01_01_2_3_111.siIdx (ix3 b c k) q = ix4 b c k 0 := by
      intro q
      funext a
      apply Fin.ext
      match a with
      | ⟨0, _⟩ => rfl
      | ⟨1, _⟩ => rfl
      | ⟨2, _⟩ => rfl
      | ⟨3, _⟩ => exact Nat.lt_one_iff.1 q.isLt
    show (GatherDims.operandIdx gather_S2x80x49104_S2x80x1000x1_S2x80x1000_n_2_01_01_2_3_111 (ix3 b c k) I (2 : Fin 3)).val = n.val
    simp only [GatherDims.operandIdx, GatherDims.batchCoord_eq_zero _ _ _ hb, GatherDims.offCoord_eq_zero _ _ _ hk, Nat.add_zero, GatherDims.start, dif_pos hm]
    show min (I (GatherDims.siIdx _ (ix3 b c k) _)).toInt.toNat (49104 - 1) = n.val
    rw [e, h, word_toInt _ (by omega)]
    have := n.isLt
    simp only [Int.toNat_natCast]
    omega

theorem takes_at (T : FVec Ideal S2x80x49104 .f32) (I : IVec S2x80x1000 32) (b : Fin 2) (c : Fin 80) (k : Fin 1000) (n : Fin 49104)
    (h : I (ix3 b c k) = BitVec.ofNat 32 n.val) : takes T I (ix3 b c k) = T (ix3 b c n) := by
  refine gather_at T _ b c k n ?_
  have l : (shapeCast S2x80x1000x1 (select (cmpi .slt I (broadcastInDim S2x80x1000 ![] bcast_S_S2x80x1000 (constantI S_ 32 0#32)))
      (addi I (broadcastInDim S2x80x1000 ![] bcast_S_S2x80x1000 (constantI S_ 32 49104#32))) I) shapeCasts_S2x80x1000_S2x80x1000x1) (ix4 b c k 0)
      = Scalar.select (IntOp.cmpi .slt (I (ix3 b c k)) (BitVec.ofNat 32 0)) (IntOp.addi (I (ix3 b c k)) 49104#32) (I (ix3 b c k)) := by
    pointwise
  rw [l, h, Cert.Table.slt_word _ _ (by omega) (by omega)]
  rfl

/-- A number at every place; an anchor entry at every image's place. -/
abbrev spread (b : BitVec 32) : FVec Ideal S2x49104 .f32 := broadcastInDim S2x49104 ![] bcast_S_S2x49104 (constant (F := Ideal) S_ .f32 b)
abbrev wide (v : FVec Ideal S49104 .f32) : FVec Ideal S2x49104 .f32 :=
  broadcastInDim S2x49104 ![0, 1] bcast_S1x49104_S2x49104_0_1 (broadcastInDim S1x49104 ![1] bcast_S49104_S1x49104_1 v)
/-- A value of every box, for every class. -/
abbrev stack (v : FVec Ideal S2x49104 .f32) : FVec Ideal S2x80x49104 .f32 :=
  broadcastInDim S2x80x49104 ![0, 1, 2] bcast_S2x1x49104_S2x80x49104_0_1_2 (broadcastInDim S2x1x49104 ![0, 2] bcast_S2x49104_S2x1x49104_0_2 v)

/-- A box's centre and half its extent on one axis, for all places. -/
abbrev mids (o : FVec Ideal S2x49104 .f32) (e a : FVec Ideal S49104 .f32) : FVec Ideal S2x49104 .f32 :=
  addf (F := Ideal) (φ := .f32) (mulf (F := Ideal) (φ := .f32) (mulf (F := Ideal) (φ := .f32) o (spread 0x3DCCCCCD#32)) (wide e)) (wide a)
abbrev halves (o : FVec Ideal S2x49104 .f32) (e : FVec Ideal S49104 .f32) : FVec Ideal S2x49104 .f32 :=
  Host.divf (F := Ideal) (mulf (F := Ideal) (φ := .f32) (Host.exp (F := Ideal) (mulf (F := Ideal) (φ := .f32) o (spread 0x3E4CCCCD#32))) (wide e)) (spread 0x40000000#32)

section
variable (P : FVec Ideal S2x49104x84 .f32) (A : FVec Ideal S49104x4 .f32)

abbrev p0 : FVec Ideal S2x49104 .f32 := shapeCast _ (extractStridedSlice S2x49104x1 ![0, 0, 0] P slices_S2x49104x84_S2x49104x1_0_0_0) shapeCasts_S2x49104x1_S2x49104
abbrev p1 : FVec Ideal S2x49104 .f32 := shapeCast _ (extractStridedSlice S2x49104x1 ![0, 0, 1] P slices_S2x49104x84_S2x49104x1_0_0_1) shapeCasts_S2x49104x1_S2x49104
abbrev p2 : FVec Ideal S2x49104 .f32 := shapeCast _ (extractStridedSlice S2x49104x1 ![0, 0, 2] P slices_S2x49104x84_S2x49104x1_0_0_2) shapeCasts_S2x49104x1_S2x49104
abbrev p3 : FVec Ideal S2x49104 .f32 := shapeCast _ (extractStridedSlice S2x49104x1 ![0, 0, 3] P slices_S2x49104x84_S2x49104x1_0_0_3) shapeCasts_S2x49104x1_S2x49104
abbrev a0 : FVec Ideal S49104 .f32 := shapeCast _ (extractStridedSlice S49104x1 ![0, 0] A slices_S49104x4_S49104x1_0_0) shapeCasts_S49104x1_S49104
abbrev a1 : FVec Ideal S49104 .f32 := shapeCast _ (extractStridedSlice S49104x1 ![0, 1] A slices_S49104x4_S49104x1_0_1) shapeCasts_S49104x1_S49104
abbrev a2 : FVec Ideal S49104 .f32 := shapeCast _ (extractStridedSlice S49104x1 ![0, 2] A slices_S49104x4_S49104x1_0_2) shapeCasts_S49104x1_S49104
abbrev a3 : FVec Ideal S49104 .f32 := shapeCast _ (extractStridedSlice S49104x1 ![0, 3] A slices_S49104x4_S49104x1_0_3) shapeCasts_S49104x1_S49104

abbrev x1 : FVec Ideal S2x49104 .f32 := subf (F := Ideal) (φ := .f32) (mids (p0 P) (a2 A) (a0 A)) (halves (p2 P) (a2 A))
abbrev y1 : FVec Ideal S2x49104 .f32 := subf (F := Ideal) (φ := .f32) (mids (p1 P) (a3 A) (a1 A)) (halves (p3 P) (a3 A))
abbrev x2 : FVec Ideal S2x49104 .f32 := addf (F := Ideal) (φ := .f32) (mids (p0 P) (a2 A) (a0 A)) (halves (p2 P) (a2 A))
abbrev y2 : FVec Ideal S2x49104 .f32 := addf (F := Ideal) (φ := .f32) (mids (p1 P) (a3 A) (a1 A)) (halves (p3 P) (a3 A))

/-- The scores, class by class. -/
abbrev scores : FVec Ideal S2x80x49104 .f32 :=
  transpose S2x80x49104 [0, 2, 1] (Host.divf (F := Ideal) (broadcastInDim S2x49104x80 ![] bcast_S_S2x49104x80 (constant (F := Ideal) S_ .f32 0x3F800000#32))
      (addf (F := Ideal) (φ := .f32) (broadcastInDim S2x49104x80 ![] bcast_S_S2x49104x80 (constant (F := Ideal) S_ .f32 0x3F800000#32)) (Host.exp (F := Ideal) (Host.negf
        (extractStridedSlice S2x49104x80 ![0, 0, 4] P slices_S2x49104x84_S2x49104x80_0_0_4))))) transposes_S2x49104x80_S2x80x49104_0_2_1

/-- The candidates' places. -/
abbrev indices : IVec S2x80x1000 32 := (Host.topK S2x80x1000 2 (FloatOps.cmpfTotal (F := Ideal) (φ := .f32) .gt) (scores P) sliceFits_S2x80x49104_S2x80x1000).2

theorem stack_at (v : FVec Ideal S2x49104 .f32) (b : Fin 2) (c : Fin 80) (n : Fin 49104) : stack v (ix3 b c n) = v (ix2 b n) := by pointwise

theorem scores_at (b : Fin 2) (c : Fin 80) (n : Fin 49104) : scores P (ix3 b c n) = Ideal.logistic (P (ix3 b n ⟨4 + c.val, by omega⟩)) := by
  pointwise
  simp [Ideal.logistic]

/-- The corners of every box. -/
def corner : Fin 4 → FVec Ideal S2x49104 .f32 := ![x1 P A, y1 P A, x2 P A, y2 P A]

theorem corner_at (i : Fin 4) (b : Fin 2) (n : Fin 49104) :
    corner P A i (ix2 b n) = Cert.Table.row (fun q => P (ix3 b n ⟨q.val, by omega⟩)) (fun q => A (ix2 n q)) ⟨i.val, by omega⟩ := by
  fin_cases i
  · show x1 P A (ix2 b n) = Cert.Table.low _ _ _ _
    pointwise [x1, mids, halves]
    rfl
  · show y1 P A (ix2 b n) = Cert.Table.low _ _ _ _
    pointwise [y1, mids, halves]
    rfl
  · show x2 P A (ix2 b n) = Cert.Table.high _ _ _ _
    pointwise [x2, mids, halves]
    rfl
  · show y2 P A (ix2 b n) = Cert.Table.high _ _ _ _
    pointwise [y2, mids, halves]
    rfl

end

variable (m : (ℓ : Loc nD τ sig) → Buf (Elt Ideal) ℓ) (c : Dev nD)

/-- Core `c`'s predictions and anchors. -/
abbrev preds : FVec Ideal S2x49104x84 .f32 := m ((c.tc : Thread nD τ).loc main_arg1)
abbrev anchs : FVec Ideal S49104x4 .f32 := m ((c.tc : Thread nD τ).loc main_arg2)

set_option maxRecDepth 100000 in
theorem entry_num : entryContents preI m c (Proc.devRef .tc main_v87_0) = iotaInDim S2x80x1000 32 2 := by
  simp only [entryContents, afterL_cons, afterL_nil]
  after_reads_simp
  rfl

set_option maxRecDepth 100000 in
theorem entry_scores : entryContents preI m c (Proc.devRef .tc main_v87_6) = (Host.topK S2x80x1000 2 (FloatOps.cmpfTotal (F := Ideal) (φ := .f32) .gt) (scores (preds m c)) sliceFits_S2x80x49104_S2x80x1000).1 := by
  simp only [entryContents, afterL_cons, afterL_nil]
  after_reads_simp
  rfl

set_option maxRecDepth 100000 in
theorem entry_x1 : entryContents preI m c (Proc.devRef .tc main_v87_1) = takes (stack (x1 (preds m c) (anchs m c))) (indices (preds m c)) := by
  simp only [entryContents, afterL_cons, afterL_nil]
  after_reads_simp
  simp only [StableHlo.TRef.toBuf, StableHlo.TRef.ofBuf, cast_eq, id_eq]
  rfl

set_option maxRecDepth 100000 in
theorem entry_y1 : entryContents preI m c (Proc.devRef .tc main_v87_2) = takes (stack (y1 (preds m c) (anchs m c))) (indices (preds m c)) := by
  simp only [entryContents, afterL_cons, afterL_nil]
  after_reads_simp
  simp only [StableHlo.TRef.toBuf, StableHlo.TRef.ofBuf, cast_eq, id_eq]
  rfl

set_option maxRecDepth 100000 in
theorem entry_x2 : entryContents preI m c (Proc.devRef .tc main_v87_3) = takes (stack (x2 (preds m c) (anchs m c))) (indices (preds m c)) := by
  simp only [entryContents, afterL_cons, afterL_nil]
  after_reads_simp
  simp only [StableHlo.TRef.toBuf, StableHlo.TRef.ofBuf, cast_eq, id_eq]
  rfl

set_option maxRecDepth 100000 in
theorem entry_y2 : entryContents preI m c (Proc.devRef .tc main_v87_4) = takes (stack (y2 (preds m c) (anchs m c))) (indices (preds m c)) := by
  simp only [entryContents, afterL_cons, afterL_nil]
  after_reads_simp
  simp only [StableHlo.TRef.toBuf, StableHlo.TRef.ofBuf, cast_eq, id_eq]
  rfl

/-- The scores of one class of one image, and the candidates' order. -/
def logits (b : Fin 2) (cl : Fin 80) (n : Fin 49104) : EReal := Ideal.logistic (preds m c (ix3 b n ⟨4 + cl.val, by omega⟩))
def best (b : Fin 2) (cl : Fin 80) : Fin 49104 → Fin 49104 := order (logits m c b cl)

theorem scores_line (b : Fin 2) (cl : Fin 80) : (fun n => scores (preds m c) (ix3 b cl n)) = logits m c b cl := funext fun n => scores_at _ b cl n

theorem sc_entry (b : Fin 2) (cl : Fin 80) (k : Fin 1000) : sc (entryContents preI m c) b cl k = logits m c b cl (best m c b cl ⟨k.val, by omega⟩) := by
  unfold sc
  rw [entry_scores]
  refine ((top3 (scores (preds m c)) b cl k).1).trans ?_
  rw [scores_line]
  exact scores_at _ b cl _

theorem indices_at (b : Fin 2) (cl : Fin 80) (k : Fin 1000) : indices (preds m c) (ix3 b cl k) = BitVec.ofNat 32 (best m c b cl ⟨k.val, by omega⟩).val := by
  refine ((top3 (scores (preds m c)) b cl k).2).trans ?_
  rw [scores_line]
  rfl

theorem bx_entry (i : Fin 4) (b : Fin 2) (cl : Fin 80) (k : Fin 1000) :
    bx (entryContents preI m c) i b cl k = Cert.Table.row (fun q => preds m c (ix3 b (best m c b cl ⟨k.val, by omega⟩) ⟨q.val, by omega⟩))
      (fun q => anchs m c (ix2 (best m c b cl ⟨k.val, by omega⟩) q)) ⟨i.val, by omega⟩ := by
  rw [← corner_at]
  match i with
  | 0 =>
    show (entryContents preI m c (Proc.devRef .tc main_v87_1) (ix3 b cl k) : EReal) = _
    rw [entry_x1]; exact (takes_at _ _ b cl k _ (indices_at m c b cl k)).trans (stack_at _ b cl _)
  | 1 =>
    show (entryContents preI m c (Proc.devRef .tc main_v87_2) (ix3 b cl k) : EReal) = _
    rw [entry_y1]; exact (takes_at _ _ b cl k _ (indices_at m c b cl k)).trans (stack_at _ b cl _)
  | 2 =>
    show (entryContents preI m c (Proc.devRef .tc main_v87_3) (ix3 b cl k) : EReal) = _
    rw [entry_x2]; exact (takes_at _ _ b cl k _ (indices_at m c b cl k)).trans (stack_at _ b cl _)
  | 3 =>
    show (entryContents preI m c (Proc.devRef .tc main_v87_4) (ix3 b cl k) : EReal) = _
    rw [entry_y2]; exact (takes_at _ _ b cl k _ (indices_at m c b cl k)).trans (stack_at _ b cl _)

theorem going_entry : Cert.Sim.Going (entryContents preI m c) 0 (entryContents preI m c) where
  num b cl k := by
    rw [entry_num]
    show BitVec.ofNat 32 _ = _
    rfl
  ctr i := by rw [ctr_entry]
  box := rfl

end Cert.ReferenceIdeal.Value

end
-- ==== Proof.Settled.lean ====
/- What the precondition says of a class: its thousandth best score is on a coarse grid, or stands well above the next. -/
module

public import proofs.«01_k».proof.Defs
public import proofs.«01_k».proof.Proof.REntry
public import Idealize.ShloMosaic.Lib.ReduceAll

@[expose] public section

set_option maxRecDepth 16384
set_option maxHeartbeats 4000000

noncomputable section

open Idealize.ShloMosaic Idealize.ShloMosaic.TcCoe

namespace Cert.Pre_settled

open Cert.ReferenceIdeal.Value (order sorted3 scores scores_at)

/-- The shapes of the precondition's operations fit. -/
theorem facts : Cert.Pre_settled.Facts where
  slices_S2x49104x84_S2x49104x80_0_0_4 := by decide
  bcast_S_S2x49104x80 := by decide
  transposes_S2x49104x80_S2x80x49104_0_2_1 := by decide
  sliceFits_S2x80x49104_S2x80x1001 := by decide
  slices_S2x80x1001_S2x80x1_0_0_999 := by decide
  shapeCasts_S2x80x1_S2x80 := by decide
  slices_S2x80x1001_S2x80x1_0_0_1000 := by decide
  bcast_S_S2x80 := by decide
  reducesTo_S2x80_S_d0_1 := by decide
  h_S_ := by decide

/-- The sigmoid is a number between zero and one. -/
theorem logistic_mem (x : EReal) : ∃ r : ℝ, Ideal.logistic x = (r : EReal) ∧ 0 ≤ r ∧ r ≤ 1 := by
  induction x using EReal.rec with
  | bot =>
    refine ⟨0, ?_, le_refl _, zero_le_one⟩
    unfold Ideal.logistic
    rw [EReal.neg_bot, show Ideal.exp ⊤ = ⊤ from rfl, show (1 : EReal) + ⊤ = ⊤ from rfl]
    simp [Ideal.div]
  | top =>
    refine ⟨1, ?_, zero_le_one, le_refl _⟩
    unfold Ideal.logistic
    rw [EReal.neg_top, show Ideal.exp ⊥ = 0 from rfl, add_zero]
    simp [Ideal.div]
  | coe x =>
    have hp : (0 : ℝ) < 1 + Real.exp (-x) := by positivity
    refine ⟨(1 + Real.exp (-x))⁻¹, ?_, by positivity, inv_le_one_of_one_le₀ (by have := Real.exp_pos (-x); linarith)⟩
    have e : (1 : EReal) + Ideal.exp (-(x : EReal)) = ((1 + Real.exp (-x) : ℝ) : EReal) := by
      rw [← EReal.coe_neg]
      show (1 : EReal) + ((Real.exp (-x) : ℝ) : EReal) = _
      norm_cast
    unfold Ideal.logistic Ideal.div
    rw [e, if_neg (by rw [← EReal.coe_zero, EReal.coe_eq_coe_iff]; exact hp.ne'), one_mul, ← EReal.coe_inv]

/-- On the grid of the steps just below one, or above the next by more than a step of its own. -/
def Apart (a b : ℝ) : Prop := (∃ K : ℤ, a * 2 ^ 24 = K) ∨ (a * (2 : ℝ) ^ (-23 : ℤ) < a - b ∧ (2 : ℝ) ^ (-126 : ℤ) ≤ a)

theorem bits (p q r : Prop) [Decidable p] [Decidable q] [Decidable r] :
    IntOp.ori (BitVec.ofBool (decide p)) (IntOp.andi (BitVec.ofBool (decide q)) (BitVec.ofBool (decide r))) = 1#1 ↔ p ∨ (q ∧ r) := by
  by_cases hp : p <;> by_cases hq : q <;> by_cases hr : r <;> simp [hp, hq, hr, IntOp.ori, IntOp.andi]

theorem two24 : Ideal.ofBits .f32 1266679808#32 = ((2 ^ 24 : ℝ) : EReal) := by
  simp [Ideal.ofBits, Ideal.ieee]; norm_cast
theorem two23 : Ideal.ofBits .f32 872415232#32 = (((2 : ℝ) ^ (-23 : ℤ) : ℝ) : EReal) := by
  simp [Ideal.ofBits, Ideal.ieee]; norm_cast; norm_num
theorem two126 : Ideal.ofBits .f32 8388608#32 = (((2 : ℝ) ^ (-126 : ℤ) : ℝ) : EReal) := by
  simp [Ideal.ofBits, Ideal.ieee]; norm_cast; try norm_num

section
variable [Facts]

/-- The rule the precondition applies to the two scores of every class. -/
abbrev rule (A B : FVec Ideal S2x80 .f32) : IVec S2x80 1 :=
  ori (cmpf .oeq (Host.floor (mulf A (broadcastInDim S2x80 ![] Facts.bcast_S_S2x80 (constant S_ .f32 0x4B800000#32)))) (mulf A (broadcastInDim S2x80 ![] Facts.bcast_S_S2x80 (constant S_ .f32 0x4B800000#32))))
    (andi (cmpf .ogt (subf A B) (mulf A (broadcastInDim S2x80 ![] Facts.bcast_S_S2x80 (constant S_ .f32 0x34000000#32)))) (cmpf .oge A (broadcastInDim S2x80 ![] Facts.bcast_S_S2x80 (constant S_ .f32 0x00800000#32))))

theorem rule_at (A B : FVec Ideal S2x80 .f32) (b : Fin 2) (c : Fin 80) (p q : ℝ) (hp : A (ix2 b c) = (p : EReal)) (hq : B (ix2 b c) = (q : EReal))
    (h : rule A B (ix2 b c) = 1#1) : Apart p q := by
  have e : rule A B (ix2 b c) = 1#1 ↔ (Ideal.liftRound Int.floor (A (ix2 b c) * Ideal.ofBits FTy.f32 1266679808#32) = A (ix2 b c) * Ideal.ofBits FTy.f32 1266679808#32
      ∨ (A (ix2 b c) * Ideal.ofBits FTy.f32 872415232#32 < A (ix2 b c) - B (ix2 b c) ∧ Ideal.ofBits FTy.f32 8388608#32 ≤ A (ix2 b c))) := by
    unfold rule
    pointwise
    exact bits _ _ _
  rw [e, hp, hq, two24, two23, two126] at h
  rcases h with h | ⟨h1, h2⟩
  · left
    rw [← EReal.coe_mul, Ideal.liftRound_coe] at h
    exact ⟨⌊p * 2 ^ 24⌋, (EReal.coe_eq_coe_iff.1 h).symm⟩
  · right
    rw [← EReal.coe_mul, ← EReal.coe_sub, EReal.coe_lt_coe_iff] at h1
    rw [EReal.coe_le_coe_iff] at h2
    exact ⟨h1, h2⟩

/-- The score of a rank. -/
theorem ranked (x : FVec Ideal S2x80x49104 .f32) (b : Fin 2) (c : Fin 80) (k : Fin 1001) :
    (Host.topK S2x80x1001 2 (FloatOps.cmpfTotal (F := Ideal) .gt) x Facts.sliceFits_S2x80x49104_S2x80x1001).1 (ix3 b c k) = x (ix3 b c (order (fun n => x (ix3 b c n)) ⟨k.val, by omega⟩)) := by
  have f : S2x80x49104.Slices (fun _ => 0) S2x80x1001 := Facts.sliceFits_S2x80x49104_S2x80x1001
  have e : (fun a : Fin 3 => (⟨0 + (ix3 b c k (a.cast f.1.symm)).val, Nat.lt_of_lt_of_le (Nat.add_lt_add_left (ix3 b c k _).isLt _) (f.2 a)⟩ : Fin (S2x80x49104.size a)))
      = ix3 b c (⟨k.val, by omega⟩ : Fin 49104) := by
    funext a
    apply Fin.ext
    match a with
    | ⟨0, _⟩ => exact Nat.zero_add _
    | ⟨1, _⟩ => exact Nat.zero_add _
    | ⟨2, _⟩ => exact Nat.zero_add _
  have s := sorted3 x (fun i => if hd : 2 < S2x80x49104.rank then iotaInDim S2x80x49104 32 ⟨2, hd⟩ i else 0#32) (fun j => by rw [dif_pos (by decide)]; rfl) (ix3 b c (⟨k.val, by omega⟩ : Fin 49104))
  exact (congrArg (Host.sort2 S2x80x49104 2 (fun l r => FloatOps.cmpfTotal (F := Ideal) (φ := .f32) .gt l.1 r.1) x (fun i => if hd : 2 < S2x80x49104.rank then iotaInDim S2x80x49104 32 ⟨2, hd⟩ i else 0#32)).1 e).trans s.1

theorem slot999 (T : FVec Ideal S2x80x1001 .f32) (b : Fin 2) (c : Fin 80) :
    shapeCast S2x80 (extractStridedSlice S2x80x1 ![0, 0, 999] T Facts.slices_S2x80x1001_S2x80x1_0_0_999) Facts.shapeCasts_S2x80x1_S2x80 (ix2 b c) = T (ix3 b c ⟨999, by omega⟩) := by pointwise
theorem slot1000 (T : FVec Ideal S2x80x1001 .f32) (b : Fin 2) (c : Fin 80) :
    shapeCast S2x80 (extractStridedSlice S2x80x1 ![0, 0, 1000] T Facts.slices_S2x80x1001_S2x80x1_0_0_1000) Facts.shapeCasts_S2x80x1_S2x80 (ix2 b c) = T (ix3 b c ⟨1000, by omega⟩) := by pointwise

/-- The sigmoids of one class of one image. -/
def sig (P : FVec Ideal S2x49104x84 .f32) (b : Fin 2) (c : Fin 80) (n : Fin 49104) : EReal := Ideal.logistic (P (ix3 b n ⟨4 + c.val, by omega⟩))

theorem ranked_sig (P : FVec Ideal S2x49104x84 .f32) (b : Fin 2) (c : Fin 80) (k : Fin 1001) :
    (Host.topK S2x80x1001 2 (FloatOps.cmpfTotal (F := Ideal) .gt) (scores P) Facts.sliceFits_S2x80x49104_S2x80x1001).1 (ix3 b c k) = sig P b c (order (sig P b c) ⟨k.val, by omega⟩) := by
  rw [ranked, show (fun n => scores P (ix3 b c n)) = sig P b c from funext fun n => scores_at P b c n]
  exact scores_at P b c _

/-- The precondition, read for one class of one image. -/
theorem apart (I : FVec Ideal S2x512x512x3 .f32) (P : FVec Ideal S2x49104x84 .f32) (A : FVec Ideal S49104x4 .f32) (h : fn (F := Ideal) I P A = fun _ => 1#1)
    (b : Fin 2) (c : Fin 80) (p q : ℝ) (hp : sig P b c (order (sig P b c) ⟨999, by omega⟩) = (p : EReal)) (hq : sig P b c (order (sig P b c) ⟨1000, by omega⟩) = (q : EReal)) : Apart p q := by
  have hi : ∀ i j : S_.Idx, i = j := fun i j => funext fun a => a.elim0
  haveI : Subsingleton S_.Idx := ⟨hi⟩
  set T := (Host.topK S2x80x1001 2 (FloatOps.cmpfTotal (F := Ideal) .gt) (scores P) Facts.sliceFits_S2x80x49104_S2x80x1001).1 with hT
  have g : Host.reduce IntOp.andi (rule (shapeCast S2x80 (extractStridedSlice S2x80x1 ![0, 0, 999] T Facts.slices_S2x80x1001_S2x80x1_0_0_999) Facts.shapeCasts_S2x80x1_S2x80)
      (shapeCast S2x80 (extractStridedSlice S2x80x1 ![0, 0, 1000] T Facts.slices_S2x80x1001_S2x80x1_0_0_1000) Facts.shapeCasts_S2x80x1_S2x80))
      (constantI S_ 1 1#1) Facts.reducesTo_S2x80_S_d0_1 Facts.h_S_ = fun _ => 1#1 := h
  have g' := Host.reduce_andi_all _ _ _ _ (fun a => a.elim0 : S_.Idx) (congrFun g _) (ix2 b c)
  refine rule_at _ _ b c p q ?_ ?_ g'
  · rw [slot999, hT, ranked_sig, hp]
  · rw [slot1000, hT, ranked_sig, hq]

end

end Cert.Pre_settled

end
-- ==== Proof.Candidates.lean ====
/- A line of scores and its padding: the order of the scores is the order of the line, and the precondition settles the threshold. -/
module

public import proofs.«01_k».proof.Proof.Settled
public import proofs.«01_k».proof.Proof.Steps

@[expose] public section

set_option maxRecDepth 16384
set_option maxHeartbeats 4000000

noncomputable section

open Idealize.ShloMosaic Idealize.ShloMosaic.TcCoe

namespace Cert.Padded

open Cert.Order Cert.Steps Cert.Pre_settled
open Cert.ReferenceIdeal.Value (order order_listed order_inj order_surj)

/-- A box's place in the padded line. -/
def lift {N M : ℕ} (hNM : N ≤ M) (n : Fin N) : Fin M := ⟨n.val, n.isLt.trans_le hNM⟩

/-- The ranks' places. -/
def ranks {N M : ℕ} (hNM : N ≤ M) (x : Fin N → EReal) (k : Fin N) : Fin M := lift hNM (order x k)

section
variable {N M : ℕ} (hNM : N ≤ M) (x : Fin N → EReal) (hx : ∀ n, ∃ r : ℝ, x n = (r : EReal) ∧ 0 ≤ r ∧ r ≤ 1) (w : Fin M → EReal)
  (hw : ∀ n, w (lift hNM n) = x n) (hw' : ∀ n : Fin M, N ≤ n.val → w n < 0)

theorem ranks_val (k : Fin N) : (ranks hNM x k).val = (order x k).val := rfl

theorem ranks_inj : Function.Injective (ranks hNM x) := fun a b h => by
  have e : (ranks hNM x a).val = (ranks hNM x b).val := by rw [h]
  exact order_inj x (Fin.ext e)

include hw in
theorem ranks_listed : Listed w (ranks hNM x) := by
  intro a b h
  have := order_listed x a b h
  unfold ranks
  rw [hw, hw]
  exact this

include hx in
theorem mem (n : Fin N) : 0 ≤ x n ∧ x n ≤ 1 := by
  obtain ⟨r, e, h0, h1⟩ := hx n
  rw [e]
  exact ⟨by exact_mod_cast h0, by exact_mod_cast h1⟩

include hx hw hw' in
theorem ranks_out (n : Fin M) (h : ∀ k, ranks hNM x k ≠ n) (k : Fin N) : w n < w (ranks hNM x k) := by
  have hn : N ≤ n.val := by
    by_contra hn
    obtain ⟨k, hk⟩ := order_surj x ⟨n.val, by omega⟩
    have e : (ranks hNM x k).val = n.val := by show (order x k).val = n.val; rw [hk]
    exact h k (Fin.ext e)
  unfold ranks
  rw [hw]
  exact (hw' n hn).trans_le (mem x hx _).1

include hx hw hw' in
theorem reach_iff (t : EReal) (k : Fin N) : k.val + 1 ≤ reach w t ↔ t ≤ x (order x k) := by
  rw [← hw]
  exact Listed.count_iff (ranks_listed hNM x w hw) (ranks_inj hNM x) (ranks_out hNM x hx w hw hw') (fun z => t ≤ z) (fun y z hyz hy => hy.trans hyz) k

include hx hw hw' in
theorem over_iff (t : EReal) (k : Fin N) : k.val + 1 ≤ over w t ↔ t < x (order x k) := by
  rw [← hw]
  exact Listed.count_iff (ranks_listed hNM x w hw) (ranks_inj hNM x) (ranks_out hNM x hx w hw hw') (fun z => t < z) (fun y z hyz hy => hy.trans_le hyz) k

include hx hw hw' in
theorem reach_zero (hk : 1001 ≤ N) : 1000 ≤ reach w 0 := (reach_iff hNM x hx w hw hw' 0 ⟨999, by omega⟩).2 (mem x hx _).1

include hx hw hw' in
theorem le_one (n : Fin M) : w n ≤ 1 := by
  by_cases hn : n.val < N
  · have : w n = x ⟨n.val, hn⟩ := hw ⟨n.val, hn⟩
    rw [this]; exact (mem x hx _).2
  · exact ((hw' n (by omega)).trans zero_lt_one).le

include hx hw hw' in
theorem settles (hk : 1001 ≤ N) (h : ∀ p q : ℝ, x (order x ⟨999, by omega⟩) = (p : EReal) → x (order x ⟨1000, by omega⟩) = (q : EReal) → Apart p q)
    (T : ℕ) (hT : T < 2 ^ 30) (h1 : 1000 ≤ reach w (val T)) (h2 : T + 1 = 2 ^ 30 ∨ ¬ 1000 ≤ reach w (val (T + 1))) :
    over w (val T) + 1 ≤ 1000 ∨ reach w (val T) ≤ 1000 := by
  obtain ⟨p, hp, p0, p1⟩ := hx (order x ⟨999, by omega⟩)
  obtain ⟨q, hq, q0, q1⟩ := hx (order x ⟨1000, by omega⟩)
  have lo : val T ≤ (p : EReal) := hp ▸ (reach_iff hNM x hx w hw hw' (val T) ⟨999, by omega⟩).1 h1
  have up : (p : EReal) < val (T + 1) := by
    rcases h2 with h2 | h2
    · rw [h2, val_top]
      exact lt_of_le_of_lt (show (p : EReal) ≤ ((1 : ℝ) : EReal) by exact_mod_cast p1) (by norm_cast; norm_num)
    · rw [← hp]
      exact not_le.1 fun hle => h2 ((reach_iff hNM x hx w hw hw' (val (T + 1)) ⟨999, by omega⟩).2 hle)
  rcases settle T hT p q p1 (h p q hp hq) lo up with s | s
  · left
    by_contra hc
    exact s (hp ▸ (over_iff hNM x hx w hw hw' (val T) ⟨999, by omega⟩).1 (by show 999 + 1 ≤ _; omega))
  · right
    by_contra hc
    have := (reach_iff hNM x hx w hw hw' (val T) ⟨1000, by omega⟩).1 (by show 1000 + 1 ≤ _; omega)
    rw [hq] at this
    exact absurd s (not_lt.2 this)

include hx hw hw' in
/-- What stands among the first thousand. -/
theorem first (hk : 1001 ≤ N) (n : Fin M) : place w n ≤ 1000 ↔ ∃ k : Fin 1000, ranks hNM x ⟨k.val, by omega⟩ = n := by
  rw [Listed.place_iff (ranks_listed hNM x w hw) (ranks_inj hNM x) (ranks_out hNM x hx w hw hw') 1000 (by omega)]
  constructor
  · rintro ⟨k, hk, e⟩; exact ⟨⟨k.val, hk⟩, e⟩
  · rintro ⟨k, e⟩; exact ⟨⟨k.val, by omega⟩, k.isLt, e⟩
end

end Cert.Padded

end
-- ==== Proof.KMPay.lean ====
/- The second kernel's merging expressions, entry by entry. -/
module

public import proofs.«01_k».proof.Proof.KIModel
public import proofs.«01_k».proof.Proof.Folds
public import proofs.«01_k».proof.Proof.Gen.KernelIdeal

@[expose] public section

set_option maxRecDepth 16384
set_option maxHeartbeats 4000000

noncomputable section

open Idealize.ShloMosaic Idealize.ShloMosaic.TcCoe

namespace Cert.KernelIdeal.Nms

open Cert.KernelIdeal Cert.KernelIdeal.Gen Cert.Folds

section
variable (b : Fin 2) (c : Fin 80) (j : Fin 128) (q q1 : Vec Ideal S2x80x128 .f32) (qi : IVec S2x80x128 32) (qm : IVec S2x80x128 1)
  (n n1 n2 n3 n4 n5 : FVec Ideal S2x1x1 .f32) (g0 g1 : IVec S2x1x1 32) (go : IVec S2x1x1 1) (fo : Vec Ideal S2x128x8 .f32) (z : BitVec 32)

theorem pay65_at : k1_pay65 (ix3 b c j) = IntOp.addi (IntOp.muli (BitVec.ofNat 32 c.val) 128#32) (BitVec.ofNat 32 j.val) := by pointwise [k1_pay65]

theorem pay30_at : k1_pay30 (F := Ideal) q (ix3 b 0 0) = Finset.fold max (Ideal.ofBits .f32 4286578688#32)
      (fun x => Finset.fold max (Ideal.ofBits .f32 4286578688#32) (fun y => q (ix3 b x y)) Finset.univ) Finset.univ := by pointwise [k1_pay30]

theorem pay31_at : k1_pay31 (F := Ideal) qi q (ix3 b 0 0) = Finset.fold IntOp.minsi 2147483647#32 (fun x => Finset.fold IntOp.minsi 2147483647#32 (fun y =>
      if q (ix3 b x y) = Finset.fold max (Ideal.ofBits .f32 4286578688#32)
          (fun x => Finset.fold max (Ideal.ofBits .f32 4286578688#32) (fun y => q (ix3 b x y)) Finset.univ) Finset.univ
        then qi (ix3 b x y) else 1073741824#32) Finset.univ) Finset.univ := by pointwise [k1_pay31, k1_pay30]

theorem pay32_at : k1_pay32 (F := Ideal) qi q (ix3 b c j) = IntOp.cmpi .eq (qi (ix3 b c j)) (k1_pay31 (F := Ideal) qi q (ix3 b 0 0)) := by pointwise [k1_pay32]

theorem pay33_at : k1_pay33 (F := Ideal) qi q (ix3 b c j) = Scalar.select (IntOp.cmpi .eq (qi (ix3 b c j)) (k1_pay31 (F := Ideal) qi q (ix3 b 0 0)))
      (Named.named (F := Ideal) κ "mask" (φ := .f32) 4048155338#32) (q (ix3 b c j)) := by pointwise [k1_pay33, k1_pay32]

theorem pay34_at : k1_pay34 (F := Ideal) q (ix3 b 0 0) = BitVec.ofBool (decide (Ideal.ofBits .f32 3204448256#32 < k1_pay30 (F := Ideal) q (ix3 b 0 0))) := by
  pointwise [k1_pay34]

theorem pay35_at : k1_pay35 (F := Ideal) n q (ix3 b 0 0) = n (ix3 b 0 0) + FloatOps.sitofp (F := Ideal) .f32
      (BitVec.setWidth 32 (BitVec.ofBool (decide (Ideal.ofBits .f32 3204448256#32 < k1_pay30 (F := Ideal) q (ix3 b 0 0))))) := by pointwise [k1_pay35, k1_pay34]

theorem pay36_at : k1_pay36 (F := Ideal) q (ix3 b 0 0)
    = if Ideal.ofBits .f32 3204448256#32 < k1_pay30 (F := Ideal) q (ix3 b 0 0) then k1_pay30 (F := Ideal) q (ix3 b 0 0) else 0 := by pointwise [k1_pay36, k1_pay34]

theorem pay37_at : k1_pay37 (F := Ideal) qi q q1 (ix3 b 0 0) = if Ideal.ofBits .f32 3204448256#32 < k1_pay30 (F := Ideal) q (ix3 b 0 0) then
      Finset.fold max (Ideal.ofBits .f32 4286578688#32) (fun x => Finset.fold max (Ideal.ofBits .f32 4286578688#32) (fun y =>
        Scalar.select (IntOp.cmpi .eq (qi (ix3 b x y)) (k1_pay31 (F := Ideal) qi q (ix3 b 0 0))) (q1 (ix3 b x y))
          (Named.named (F := Ideal) κ "mask" (φ := .f32) 4048155338#32)) Finset.univ) Finset.univ
    else 0 := by pointwise [k1_pay37, k1_pay34, k1_pay32]

theorem pay38_at : k1_pay38 (F := Ideal) qm go q1 (ix3 b 0 0) = Scalar.select (go (ix3 b 0 0))
      (Finset.fold max (Ideal.ofBits .f32 4286578688#32) (fun x => Finset.fold max (Ideal.ofBits .f32 4286578688#32) (fun y =>
        Scalar.select (qm (ix3 b x y)) (q1 (ix3 b x y)) (Named.named (F := Ideal) κ "mask" (φ := .f32) 4048155338#32)) Finset.univ) Finset.univ) 0 := by
  pointwise [k1_pay38]

theorem pay39_at : k1_pay39 (F := Ideal) qm go q1 (ix3 b 0 0) = Scalar.select (go (ix3 b 0 0))
      (Finset.fold max (Ideal.ofBits .f32 4286578688#32) (fun x => Finset.fold max (Ideal.ofBits .f32 4286578688#32) (fun y =>
        Scalar.select (qm (ix3 b x y)) (q1 (ix3 b x y)) (Named.named (F := Ideal) κ "mask" (φ := .f32) 4048155338#32)) Finset.univ) Finset.univ) 0 := by
  pointwise [k1_pay39]

theorem pay40_at : k1_pay40 (F := Ideal) qm go q1 (ix3 b 0 0) = Scalar.select (go (ix3 b 0 0))
      (Finset.fold max (Ideal.ofBits .f32 4286578688#32) (fun x => Finset.fold max (Ideal.ofBits .f32 4286578688#32) (fun y =>
        Scalar.select (qm (ix3 b x y)) (q1 (ix3 b x y)) (Named.named (F := Ideal) κ "mask" (φ := .f32) 4048155338#32)) Finset.univ) Finset.univ) 0 := by
  pointwise [k1_pay40]

theorem pay68_at0 : k1_pay68 (F := Ideal) z g0 go n n1 n2 n3 n4 n5 128#32 (k1_pay41 g0) (k1_pay42 g0) 0#32 fo (ix3 b j 0)
    = Scalar.select (IntOp.cmpi .eq (BitVec.ofNat 32 j.val) z) (n1 (ix3 b 0 0)) (fo (ix3 b j 0)) := by pointwise [k1_pay68]

theorem pay68_at1 : k1_pay68 (F := Ideal) z g0 go n n1 n2 n3 n4 n5 128#32 (k1_pay41 g0) (k1_pay42 g0) 0#32 fo (ix3 b j 1)
    = Scalar.select (IntOp.cmpi .eq (BitVec.ofNat 32 j.val) z) (n2 (ix3 b 0 0)) (fo (ix3 b j 1)) := by pointwise [k1_pay68]

theorem pay68_at2 : k1_pay68 (F := Ideal) z g0 go n n1 n2 n3 n4 n5 128#32 (k1_pay41 g0) (k1_pay42 g0) 0#32 fo (ix3 b j 2)
    = Scalar.select (IntOp.cmpi .eq (BitVec.ofNat 32 j.val) z) (n3 (ix3 b 0 0)) (fo (ix3 b j 2)) := by pointwise [k1_pay68]

theorem pay68_at3 : k1_pay68 (F := Ideal) z g0 go n n1 n2 n3 n4 n5 128#32 (k1_pay41 g0) (k1_pay42 g0) 0#32 fo (ix3 b j 3)
    = Scalar.select (IntOp.cmpi .eq (BitVec.ofNat 32 j.val) z) (n4 (ix3 b 0 0)) (fo (ix3 b j 3)) := by pointwise [k1_pay68]

theorem pay68_at4 : k1_pay68 (F := Ideal) z g0 go n n1 n2 n3 n4 n5 128#32 (k1_pay41 g0) (k1_pay42 g0) 0#32 fo (ix3 b j 4)
    = Scalar.select (IntOp.cmpi .eq (BitVec.ofNat 32 j.val) z) (n5 (ix3 b 0 0)) (fo (ix3 b j 4)) := by pointwise [k1_pay68]

theorem pay68_at5 : k1_pay68 (F := Ideal) z g0 go n n1 n2 n3 n4 n5 128#32 (k1_pay41 g0) (k1_pay42 g0) 0#32 fo (ix3 b j 5)
    = Scalar.select (IntOp.cmpi .eq (BitVec.ofNat 32 j.val) z)
      (Scalar.select (go (ix3 b 0 0))
        (FloatOps.sitofp (F := Ideal) .f32
          (Scalar.select
            (IntOp.andi
              (IntOp.cmpi .ne
                (IntOp.subi (BitVec.setWidth 32 (IntOp.cmpi .sgt (g0 (ix3 b 0 0)) 0#32))
                  (BitVec.setWidth 32 (IntOp.cmpi .slt (g0 (ix3 b 0 0)) 0#32)))
                (Scalar.subi (Scalar.extui (Scalar.cmpi .sgt 128#32 0#32))
                  (Scalar.extui (Scalar.cmpi .slt 128#32 0#32))))
              (IntOp.cmpi .ne (IntOp.remsi ArithUnit.vector (g0 (ix3 b 0 0)) 128#32) 0#32))
            (IntOp.subi (IntOp.divsi ArithUnit.vector (g0 (ix3 b 0 0)) 128#32) 1#32)
            (IntOp.divsi ArithUnit.vector (g0 (ix3 b 0 0)) 128#32)))
        0)
      (fo (ix3 b j 5)) := by pointwise [k1_pay68, k1_pay41, k1_pay42]

theorem pay68_at6 : k1_pay68 (F := Ideal) z g0 go n n1 n2 n3 n4 n5 128#32 (k1_pay41 g0) (k1_pay42 g0) 0#32 fo (ix3 b j 6)
    = Scalar.select (IntOp.cmpi .eq (BitVec.ofNat 32 j.val) z) (n (ix3 b 0 0)) (fo (ix3 b j 6)) := by pointwise [k1_pay68]

/-- The class of a flat place: its rounded-down quotient. -/
theorem class_word : ∀ n : Fin 10240, (Scalar.select
            (IntOp.andi
              (IntOp.cmpi .ne
                (IntOp.subi (BitVec.setWidth 32 (IntOp.cmpi .sgt (BitVec.ofNat 32 n.val) 0#32))
                  (BitVec.setWidth 32 (IntOp.cmpi .slt (BitVec.ofNat 32 n.val) 0#32)))
                (Scalar.subi (Scalar.extui (Scalar.cmpi .sgt 128#32 0#32))
                  (Scalar.extui (Scalar.cmpi .slt 128#32 0#32))))
              (IntOp.cmpi .ne (IntOp.remsi ArithUnit.vector (BitVec.ofNat 32 n.val) 128#32) 0#32))
            (IntOp.subi (IntOp.divsi ArithUnit.vector (BitVec.ofNat 32 n.val) 128#32) 1#32)
            (IntOp.divsi ArithUnit.vector (BitVec.ofNat 32 n.val) 128#32)) = BitVec.ofNat 32 (n.val / 128) := by decide +kernel
end

end Cert.KernelIdeal.Nms

end
-- ==== Proof.KMerge.lean ====
/- One merging round: the best of the picks left goes to a row of the result. -/
module

public import proofs.«01_k».proof.Proof.KMPay
public import proofs.«01_k».proof.Proof.KRound

@[expose] public section

set_option maxRecDepth 16384
set_option maxHeartbeats 4000000

noncomputable section

open Idealize.ShloMosaic Idealize.ShloMosaic.TcCoe

namespace Cert.KernelIdeal.Nms

open Cert.KernelIdeal Cert.KernelIdeal.Gen Cert.Folds Cert.Loop

theorem trips11 : k1_t11_loop.trips = 100 := by decide +kernel

theorem bot_named : Named.named (F := Ideal) κ "mask" (φ := .f32) 4048155338#32 = (⊥ : EReal) := mask_bot

section
variable (q q1 : Vec Ideal S2x80x128 .f32) (b : Fin 2) (c0 : Fin 80) (j0 : Fin 128) (M : EReal)
  (hle : ∀ c j, q (ix3 b c j) ≤ M) (hat : q (ix3 b c0 j0) = M) (hleast : ∀ c j, q (ix3 b c j) = M → c0.val * 128 + j0.val ≤ c.val * 128 + j.val)

/-- The flat place of a pick. -/
theorem flat_word (c : Fin 80) (j : Fin 128) : k1_pay65 (ix3 b c j) = BitVec.ofNat 32 (c.val * 128 + j.val) := by
  rw [pay65_at, show (128#32 : BitVec 32) = BitVec.ofNat 32 128 from rfl, muli_ofNat, addi_ofNat]

include hle hat in
theorem top_value : k1_pay30 (F := Ideal) q (ix3 b 0 0) = M :=
  (pay30_at b q).trans (fold_max_eq₂ (fun x y => q (ix3 b x y)) M hle c0 j0 hat)

include hle hat hleast in
theorem top_place : k1_pay31 (F := Ideal) k1_pay65 q (ix3 b 0 0) = BitVec.ofNat 32 (c0.val * 128 + j0.val) := by
  classical
  refine (pay31_at b q k1_pay65).trans ?_
  rw [fold_max_eq₂ (fun x y => q (ix3 b x y)) M hle c0 j0 hat]
  refine fold_minsi₂ _ (fun c j => if q (ix3 b c j) = M then c.val * 128 + j.val else 1073741824) (fun c j => ?_) (fun c j => ?_) _ (fun c j => ?_) c0 j0 ?_
  · by_cases h : q (ix3 b c j) = M
    · rw [if_pos h, if_pos h]; exact flat_word b c j
    · rw [if_neg h, if_neg h]
  · have hc := c.isLt
    have hj := j.isLt
    show (if q (ix3 b c j) = M then c.val * 128 + j.val else 1073741824) < 2 ^ 31
    split <;> omega
  · have := c0.isLt; have := j0.isLt
    show _ ≤ (if _ then _ else _)
    split
    · exact hleast c j (by assumption)
    · omega
  · show (if _ then _ else _) = _
    rw [if_pos hat]

include hle hat hleast in
theorem hit_at (c : Fin 80) (j : Fin 128) : k1_pay32 (F := Ideal) k1_pay65 q (ix3 b c j) = BitVec.ofBool (decide (c = c0 ∧ j = j0)) := by
  rw [pay32_at, top_place q b c0 j0 M hle hat hleast, flat_word,
    cmpi_eq_ofNat _ _ (by have := c.isLt; have := j.isLt; omega) (by have := c0.isLt; have := j0.isLt; omega)]
  congr 1
  refine decide_eq_decide.2 ⟨fun h => ?_, fun h => by rw [h.1, h.2]⟩
  have := j.isLt; have := j0.isLt
  exact ⟨Fin.ext (by omega), Fin.ext (by omega)⟩

include hle hat hleast in
/-- The entry of an array where the pick stands, as the greatest of it with everything else masked. -/
theorem entry_at : Finset.fold max (Ideal.ofBits .f32 4286578688#32) (fun x => Finset.fold max (Ideal.ofBits .f32 4286578688#32) (fun y =>
      Scalar.select (k1_pay32 (F := Ideal) k1_pay65 q (ix3 b x y)) (q1 (ix3 b x y)) (Named.named (F := Ideal) κ "mask" (φ := .f32) 4048155338#32)) Finset.univ) Finset.univ
    = q1 (ix3 b c0 j0) := by
  refine fold_max_eq₂ (fun x y => Scalar.select (k1_pay32 (F := Ideal) k1_pay65 q (ix3 b x y)) (q1 (ix3 b x y)) (Named.named (F := Ideal) κ "mask" (φ := .f32) 4048155338#32)) _ (fun c j => ?_) c0 j0 ?_
  · show Scalar.select _ _ _ ≤ _
    rw [hit_at q b c0 j0 M hle hat hleast, select_ofBool]
    split
    · next h => rw [h.1, h.2]
    · rw [bot_named]; exact bot_le
  · show Scalar.select _ _ _ = _
    rw [hit_at q b c0 j0 M hle hat hleast, select_ofBool, if_pos ⟨rfl, rfl⟩]
end

/-- A pick good enough to be listed. -/
def listed (M : EReal) : Prop := Ideal.ofBits .f32 3204448256#32 < M

section
variable (x1 y1 x2 y2 : Vec Ideal S2x80x128 .f32) (k : Fin k1_t11_loop.trips) (s : Merge Ideal) (b : Fin 2) (c0 : Fin 80) (j0 : Fin 128) (M : EReal)
  (hle : ∀ c j, s.pc (ix3 b c j) ≤ M) (hat : s.pc (ix3 b c0 j0) = M)
  (hleast : ∀ c j, s.pc (ix3 b c j) = M → c0.val * 128 + j0.val ≤ c.val * 128 + j.val) (r : Fin 128)

include hle hat hleast in
open Classical in
theorem merge_pc (c : Fin 80) (j : Fin 128) : (mergeRound x1 y1 x2 y2 k s).pc (ix3 b c j) = if c = c0 ∧ j = j0 then ⊥ else s.pc (ix3 b c j) := by
  refine (pay33_at b c j s.pc k1_pay65).trans ?_
  rw [← pay32_at, hit_at s.pc b c0 j0 M hle hat hleast, select_ofBool, bot_named]

include hle hat in
open Classical in
theorem merge_cnt : (mergeRound x1 y1 x2 y2 k s).cnt (ix3 b 0 0) = s.cnt (ix3 b 0 0) + (if listed M then 1 else 0) := by
  refine (pay35_at b s.pc s.cnt).trans ?_
  rw [top_value s.pc b c0 j0 M hle hat]
  congr 1
  unfold listed
  by_cases h : Ideal.ofBits .f32 3204448256#32 < M
  · rw [if_pos h, decide_eq_true h]
    show (((BitVec.setWidth 32 (BitVec.ofBool true)).toInt : ℝ) : EReal) = 1
    rw [show (BitVec.setWidth 32 (BitVec.ofBool true)).toInt = 1 by decide]
    norm_num
  · rw [if_neg h, decide_eq_false h]
    show (((BitVec.setWidth 32 (BitVec.ofBool false)).toInt : ℝ) : EReal) = 0
    rw [show (BitVec.setWidth 32 (BitVec.ofBool false)).toInt = 0 by decide]
    norm_num

theorem row_hit {α : Type} (x y : α) : Scalar.select (IntOp.cmpi .eq (BitVec.ofNat 32 r.val) (Scf.iv 0#32 1#32 k.val)) x y = if r.val = k.val then x else y := by
  have hk : k.val < 100 := trips11 ▸ k.isLt
  rw [iv_ofNat, cmpi_eq_ofNat _ _ (by have := r.isLt; omega) (by omega), select_ofBool]

include hle hat in
open Classical in
theorem ok_at {α : Type} (x y : α) : Scalar.select (k1_pay34 (F := Ideal) s.pc (ix3 b 0 0)) x y = if listed M then x else y := by
  rw [pay34_at, top_value s.pc b c0 j0 M hle hat, select_ofBool]
  unfold listed
  congr

include hle hat in
open Classical in
theorem merge_fo0 : (mergeRound x1 y1 x2 y2 k s).fo (ix3 b r 0) = if r.val = k.val then (if listed M then M else 0) else s.fo (ix3 b r 0) := by
  refine (pay68_at0 ..).trans ?_
  rw [row_hit, pay36_at, top_value s.pc b c0 j0 M hle hat]
  unfold listed
  congr

include hle hat hleast in
open Classical in
theorem merge_fo1 : (mergeRound x1 y1 x2 y2 k s).fo (ix3 b r 1) = if r.val = k.val then (if listed M then x1 (ix3 b c0 j0) else 0) else s.fo (ix3 b r 1) := by
  refine (pay68_at1 ..).trans ?_
  rw [row_hit, pay37_at, top_value s.pc b c0 j0 M hle hat]
  simp only [← pay32_at]
  rw [entry_at s.pc x1 b c0 j0 M hle hat hleast]
  unfold listed
  congr

include hle hat hleast in
open Classical in
theorem merge_fo2 : (mergeRound x1 y1 x2 y2 k s).fo (ix3 b r 2) = if r.val = k.val then (if listed M then y1 (ix3 b c0 j0) else 0) else s.fo (ix3 b r 2) := by
  refine (pay68_at2 ..).trans ?_
  rw [row_hit, pay38_at, entry_at s.pc y1 b c0 j0 M hle hat hleast, ok_at s b c0 j0 M hle hat]

include hle hat hleast in
open Classical in
theorem merge_fo3 : (mergeRound x1 y1 x2 y2 k s).fo (ix3 b r 3) = if r.val = k.val then (if listed M then x2 (ix3 b c0 j0) else 0) else s.fo (ix3 b r 3) := by
  refine (pay68_at3 ..).trans ?_
  rw [row_hit, pay39_at, entry_at s.pc x2 b c0 j0 M hle hat hleast, ok_at s b c0 j0 M hle hat]

include hle hat hleast in
open Classical in
theorem merge_fo4 : (mergeRound x1 y1 x2 y2 k s).fo (ix3 b r 4) = if r.val = k.val then (if listed M then y2 (ix3 b c0 j0) else 0) else s.fo (ix3 b r 4) := by
  refine (pay68_at4 ..).trans ?_
  rw [row_hit, pay40_at, entry_at s.pc y2 b c0 j0 M hle hat hleast, ok_at s b c0 j0 M hle hat]

include hle hat hleast in
open Classical in
theorem merge_fo5 : (mergeRound x1 y1 x2 y2 k s).fo (ix3 b r 5) = if r.val = k.val then (if listed M then ((c0.val : ℝ) : EReal) else 0) else s.fo (ix3 b r 5) := by
  refine (pay68_at5 ..).trans ?_
  rw [row_hit, ok_at s b c0 j0 M hle hat, top_place s.pc b c0 j0 M hle hat hleast]
  have hc := c0.isLt
  have hj := j0.isLt
  have h := class_word ⟨c0.val * 128 + j0.val, by omega⟩
  rw [show (c0.val * 128 + j0.val) / 128 = c0.val by omega] at h
  have e : FloatOps.sitofp (F := Ideal) .f32 (BitVec.ofNat 32 c0.val) = ((c0.val : ℝ) : EReal) := by
    show (((BitVec.ofNat 32 c0.val).toInt : ℝ) : EReal) = _
    rw [show (BitVec.ofNat 32 c0.val).toInt = (c0.val : ℤ) by rw [BitVec.toInt_eq_toNat_of_lt] <;> simp <;> omega]
    norm_num
  by_cases hr : r.val = k.val
  · rw [if_pos hr, if_pos hr]
    by_cases hM : listed M
    · rw [if_pos hM, if_pos hM, ← e]
      exact congrArg (FloatOps.sitofp (F := Ideal) .f32) h
    · rw [if_neg hM, if_neg hM]
  · rw [if_neg hr, if_neg hr]

include hle hat in
open Classical in
theorem merge_fo6 : (mergeRound x1 y1 x2 y2 k s).fo (ix3 b r 6) = if r.val = k.val then s.cnt (ix3 b 0 0) + (if listed M then 1 else 0) else s.fo (ix3 b r 6) := by
  refine (pay68_at6 ..).trans ?_
  rw [row_hit]
  have := merge_cnt x1 y1 x2 y2 k s b c0 j0 M hle hat
  rw [← this]
  rfl
end

end Cert.KernelIdeal.Nms

end
-- ==== Proof.MSim.lean ====
/- The kernel's merging rounds: a row of the result for every place of the list of all picks. -/
module

public import proofs.«01_k».proof.Proof.KMerge
public import proofs.«01_k».proof.Proof.Order

@[expose] public section

set_option maxRecDepth 16384
set_option maxHeartbeats 4000000

noncomputable section

open Idealize.ShloMosaic Idealize.ShloMosaic.TcCoe

namespace Cert.KernelIdeal.Nms

open Cert.KernelIdeal Cert.KernelIdeal.Gen Cert.Folds Cert.Loop Cert.Order

/-- The slot and the class of a place. -/
def slot8 (n : Fin 8000) : Fin 128 := ⟨n.val % 100, by omega⟩
def class8 (n : Fin 8000) : Fin 80 := ⟨n.val / 100, by have := n.isLt; omega⟩

section
variable (x1 y1 x2 y2 : Vec Ideal S2x80x128 .f32) (b : Fin 2) (y : Fin 8000 → EReal) (π : Fin 8000 → Fin 8000)

/-- The place of a row. -/
def rank (k : ℕ) (h : k < 100) : Fin 8000 := π ⟨k, by omega⟩

open Classical in
/-- How many of the first rows are listed. -/
def tally (k : ℕ) : ℕ := (Finset.univ.filter fun i : Fin 8000 => i.val < k ∧ listed (y (π i))).card

open Classical in
/-- What the merging rounds keep true. -/
structure Merging (r : ℕ) (s : Merge Ideal) : Prop where
  left : ∀ n : Fin 8000, s.pc (ix3 b (class8 n) (slot8 n)) = if ∃ i : Fin 8000, i.val < r ∧ π i = n then ⊥ else y n
  rest : ∀ c j, 100 ≤ j.val → s.pc (ix3 b c j) = ⊥
  cnt : s.cnt (ix3 b 0 0) = ((tally y π r : ℝ) : EReal)
  row0 : ∀ (k : ℕ) (h : k < 100), k < r → s.fo (ix3 b (⟨k, by omega⟩ : Fin 128) 0) = if listed (y (rank π k h)) then y (rank π k h) else 0
  row1 : ∀ (k : ℕ) (h : k < 100), k < r → s.fo (ix3 b (⟨k, by omega⟩ : Fin 128) 1) = if listed (y (rank π k h)) then x1 (ix3 b (class8 (rank π k h)) (slot8 (rank π k h))) else 0
  row2 : ∀ (k : ℕ) (h : k < 100), k < r → s.fo (ix3 b (⟨k, by omega⟩ : Fin 128) 2) = if listed (y (rank π k h)) then y1 (ix3 b (class8 (rank π k h)) (slot8 (rank π k h))) else 0
  row3 : ∀ (k : ℕ) (h : k < 100), k < r → s.fo (ix3 b (⟨k, by omega⟩ : Fin 128) 3) = if listed (y (rank π k h)) then x2 (ix3 b (class8 (rank π k h)) (slot8 (rank π k h))) else 0
  row4 : ∀ (k : ℕ) (h : k < 100), k < r → s.fo (ix3 b (⟨k, by omega⟩ : Fin 128) 4) = if listed (y (rank π k h)) then y2 (ix3 b (class8 (rank π k h)) (slot8 (rank π k h))) else 0
  row5 : ∀ (k : ℕ) (h : k < 100), k < r → s.fo (ix3 b (⟨k, by omega⟩ : Fin 128) 5) = if listed (y (rank π k h)) then (((class8 (rank π k h)).val : ℝ) : EReal) else 0
  row6 : ∀ (k : ℕ) (h : k < 100), k < r → s.fo (ix3 b (⟨k, by omega⟩ : Fin 128) 6) = ((tally y π (k + 1) : ℝ) : EReal)

open Classical in
theorem tally_succ (r : Fin 8000) : tally y π (r.val + 1) = tally y π r.val + (if listed (y (π r)) then 1 else 0) := by
  unfold tally
  by_cases h : listed (y (π r))
  · rw [if_pos h, ← Finset.card_insert_of_notMem (a := r) (fun hm => absurd (Finset.mem_filter.1 hm).2.1 (lt_irrefl _))]
    refine congrArg Finset.card (Finset.ext fun i => ?_)
    simp only [Finset.mem_filter, Finset.mem_univ, true_and, Finset.mem_insert]
    constructor
    · rintro ⟨h1, h2⟩
      rcases Nat.lt_succ_iff_lt_or_eq.1 h1 with h1 | h1
      · exact .inr ⟨h1, h2⟩
      · exact .inl (Fin.ext h1)
    · rintro (rfl | ⟨h1, h2⟩)
      · exact ⟨Nat.lt_succ_self _, h⟩
      · exact ⟨Nat.lt_succ_of_lt h1, h2⟩
  · rw [if_neg h, add_zero]
    refine congrArg Finset.card (Finset.ext fun i => ?_)
    simp only [Finset.mem_filter, Finset.mem_univ, true_and]
    constructor
    · rintro ⟨h1, h2⟩
      rcases Nat.lt_succ_iff_lt_or_eq.1 h1 with h1 | h1
      · exact ⟨h1, h2⟩
      · exact absurd h2 (Fin.ext h1 ▸ h)
    · rintro ⟨h1, h2⟩
      exact ⟨Nat.lt_succ_of_lt h1, h2⟩

variable (hl : Listed y π) (inj : Function.Injective π) (surj : Function.Surjective π) (hy : ∀ n, y n ≠ ⊥)
include hl inj surj hy

theorem Merging.next (r : Fin k1_t11_loop.trips) (hr : r.val < 100) {s : Merge Ideal} (h : Merging x1 y1 x2 y2 b y π r.val s) :
    Merging x1 y1 x2 y2 b y π (r.val + 1) (mergeRound x1 y1 x2 y2 r s) := by
  classical
  set R : Fin 8000 := ⟨r.val, by omega⟩ with hR
  set p : Fin 8000 := π R with hp
  have e : rank π r.val hr = p := rfl
  -- a slot and a class make a place
  have back : ∀ (c : Fin 80) (j : Fin 128), j.val < 100 → ∃ n : Fin 8000, class8 n = c ∧ slot8 n = j ∧ n.val = c.val * 100 + j.val := by
    intro c j hj
    have := c.isLt
    exact ⟨⟨c.val * 100 + j.val, by omega⟩, Fin.ext (by show (c.val * 100 + j.val) / 100 = c.val; omega), Fin.ext (by show (c.val * 100 + j.val) % 100 = j.val; omega), rfl⟩
  have hat : s.pc (ix3 b (class8 p) (slot8 p)) = y p := by
    rw [h.left, if_neg]
    rintro ⟨i, hi, hip⟩
    have := inj hip
    rw [this] at hi
    exact lt_irrefl _ hi
  have hle : ∀ c j, s.pc (ix3 b c j) ≤ y p := by
    intro c j
    by_cases hj : j.val < 100
    · obtain ⟨n, rfl, rfl, -⟩ := back c j hj
      rw [h.left]
      split
      · exact bot_le
      · next hn =>
        obtain ⟨i, rfl⟩ := surj n
        exact hl.le (not_lt.1 fun hi => hn ⟨i, hi, rfl⟩)
    · rw [h.rest c j (not_lt.1 hj)]; exact bot_le
  have hleast : ∀ c j, s.pc (ix3 b c j) = y p → (class8 p).val * 128 + (slot8 p).val ≤ c.val * 128 + j.val := by
    intro c j hcj
    by_cases hj : j.val < 100
    · obtain ⟨n, rfl, rfl, -⟩ := back c j hj
      rw [h.left] at hcj
      split at hcj
      · exact absurd hcj.symm (hy p)
      · next hn =>
        obtain ⟨i, rfl⟩ := surj n
        have hi : R ≤ i := not_lt.1 fun hi => hn ⟨i, hi, rfl⟩
        have hpn : p.val ≤ (π i).val := by
          rcases eq_or_lt_of_le hi with hi | hi
          · rw [hp, hi]
          · rcases hl R i hi with h1 | h1
            · rw [hcj] at h1; exact absurd h1 (lt_irrefl _)
            · exact h1.2.le
        show p.val / 100 * 128 + p.val % 100 ≤ (π i).val / 100 * 128 + (π i).val % 100
        omega
    · rw [h.rest c j (not_lt.1 hj)] at hcj
      exact absurd hcj.symm (hy p)
  have tc : (((tally y π (r.val + 1) : ℕ) : ℝ) : EReal) = ((tally y π r.val : ℝ) : EReal) + (if listed (y p) then 1 else 0) := by
    rw [tally_succ y π R]
    split <;> push_cast <;> rfl
  have hcase : ∀ k, k < r.val + 1 → k = r.val ∨ (k < r.val ∧ k ≠ r.val) := fun k hk => by omega
  refine ⟨fun n => ?_, fun c j hj => ?_, ?_, fun k hk hkr => ?_, fun k hk hkr => ?_, fun k hk hkr => ?_, fun k hk hkr => ?_, fun k hk hkr => ?_, fun k hk hkr => ?_, fun k hk hkr => ?_⟩
  · rw [merge_pc x1 y1 x2 y2 r s b _ _ _ hle hat hleast, h.left]
    have hn : (class8 n = class8 p ∧ slot8 n = slot8 p) ↔ n = p := by
      constructor
      · rintro ⟨h1, h2⟩
        have h1 : n.val / 100 = p.val / 100 := congrArg Fin.val h1
        have h2 : n.val % 100 = p.val % 100 := congrArg Fin.val h2
        exact Fin.ext (by omega)
      · rintro rfl; exact ⟨rfl, rfl⟩
    by_cases hnp : n = p
    · rw [if_pos (hn.2 hnp), if_pos ⟨R, Nat.lt_succ_self _, hnp.symm⟩]
    · rw [if_neg (fun h => hnp (hn.1 h))]
      refine if_congr ⟨fun ⟨i, hi, hip⟩ => ⟨i, Nat.lt_succ_of_lt hi, hip⟩, fun ⟨i, hi, hip⟩ => ⟨i, ?_, hip⟩⟩ rfl rfl
      rcases Nat.lt_succ_iff_lt_or_eq.1 hi with hi | hi
      · exact hi
      · exact absurd (hip.symm.trans (congrArg π (Fin.ext hi : i = R))) hnp
  · rw [merge_pc x1 y1 x2 y2 r s b _ _ _ hle hat hleast, if_neg, h.rest c j hj]
    rintro ⟨-, h2⟩
    have : j.val = p.val % 100 := congrArg Fin.val h2
    omega
  · rw [merge_cnt x1 y1 x2 y2 r s b _ _ _ hle hat, h.cnt, tc]
  · rw [merge_fo0 x1 y1 x2 y2 r s b _ _ _ hle hat]
    rcases hcase k hkr with rfl | ⟨h1, h2⟩
    · rw [if_pos rfl]; rfl
    · rw [if_neg h2, h.row0 k hk h1]
  · rw [merge_fo1 x1 y1 x2 y2 r s b _ _ _ hle hat hleast]
    rcases hcase k hkr with rfl | ⟨h1, h2⟩
    · rw [if_pos rfl]; rfl
    · rw [if_neg h2, h.row1 k hk h1]
  · rw [merge_fo2 x1 y1 x2 y2 r s b _ _ _ hle hat hleast]
    rcases hcase k hkr with rfl | ⟨h1, h2⟩
    · rw [if_pos rfl]; rfl
    · rw [if_neg h2, h.row2 k hk h1]
  · rw [merge_fo3 x1 y1 x2 y2 r s b _ _ _ hle hat hleast]
    rcases hcase k hkr with rfl | ⟨h1, h2⟩
    · rw [if_pos rfl]; rfl
    · rw [if_neg h2, h.row3 k hk h1]
  · rw [merge_fo4 x1 y1 x2 y2 r s b _ _ _ hle hat hleast]
    rcases hcase k hkr with rfl | ⟨h1, h2⟩
    · rw [if_pos rfl]; rfl
    · rw [if_neg h2, h.row4 k hk h1]
  · rw [merge_fo5 x1 y1 x2 y2 r s b _ _ _ hle hat hleast]
    rcases hcase k hkr with rfl | ⟨h1, h2⟩
    · rw [if_pos rfl]; rfl
    · rw [if_neg h2, h.row5 k hk h1]
  · rw [merge_fo6 x1 y1 x2 y2 r s b _ _ _ hle hat]
    rcases hcase k hkr with rfl | ⟨h1, h2⟩
    · rw [if_pos rfl, h.cnt, tc]
    · rw [if_neg h2, h.row6 k hk h1]

open Classical in
theorem Merging.start (s : Merge Ideal) (h1 : ∀ n : Fin 8000, s.pc (ix3 b (class8 n) (slot8 n)) = y n) (h2 : ∀ c j, 100 ≤ j.val → s.pc (ix3 b c j) = ⊥)
    (h3 : s.cnt (ix3 b 0 0) = 0) : Merging x1 y1 x2 y2 b y π 0 s := by
  refine ⟨fun n => ?_, h2, ?_, fun k _ h => absurd h (Nat.not_lt_zero _), fun k _ h => absurd h (Nat.not_lt_zero _), fun k _ h => absurd h (Nat.not_lt_zero _),
    fun k _ h => absurd h (Nat.not_lt_zero _), fun k _ h => absurd h (Nat.not_lt_zero _), fun k _ h => absurd h (Nat.not_lt_zero _), fun k _ h => absurd h (Nat.not_lt_zero _)⟩
  · rw [if_neg (fun ⟨i, hi, _⟩ => absurd hi (Nat.not_lt_zero _)), h1]
  · rw [h3]
    have : tally y π 0 = 0 := by
      unfold tally
      rw [Finset.card_eq_zero, Finset.filter_eq_empty_iff]
      intro i _ h
      exact absurd h.1 (Nat.not_lt_zero _)
    rw [this]
    norm_num

/-- After all rounds every row is written. -/
theorem Merging.all {s : Merge Ideal} (h : Merging x1 y1 x2 y2 b y π 0 s) : Merging x1 y1 x2 y2 b y π 100 (merged x1 y1 x2 y2 s) := by
  refine run_induct (n := k1_t11_loop.trips) 100 trips11 (fun k s => mergeRound x1 y1 x2 y2 k s) s (fun r s => Merging x1 y1 x2 y2 b y π r s) h ?_
  intro k a ih
  exact Merging.next x1 y1 x2 y2 b y π hl inj surj hy k (trips11 ▸ k.isLt) ih
end

end Cert.KernelIdeal.Nms

end
-- ==== Proof.KIReads.lean ====
/- The run of the second kernel's loops read back as the pure steps of the model. -/
module

public import proofs.«01_k».proof.Proof.KIModel
public import Idealize.ShloMosaic.Lib.Pipeline.Value

@[expose] public section

set_option maxRecDepth 16384
set_option maxHeartbeats 4000000

noncomputable section

namespace Cert.KernelIdeal.Nms

open Cert.KernelIdeal Cert.KernelIdeal.Gen Cert.Loop Cert.KernelIdeal.Picks
open Idealize.ShloMosaic Idealize.ShloMosaic.TcCoe

variable {F : FTy → Type} [FloatOps F] [Named F]
variable (𝒱 : Variants) (c : Dev nD) (bd : Option 𝒱.V) (arg0 : Memref sig .tc .vmem S8x2x80x6144 .f32) (harg0 : arg0.IsWhole) (arg1 : Memref sig .tc .vmem S8x2x8x6144 .f32) (harg1 : arg1.IsWhole) (arg2 : Memref sig .tc .vmem S2x128x8 .f32) (harg2 : arg2.IsWhole) (arg3 : Memref sig .tc .vmem S8x2x80x6144 .f32) (harg3 : arg3.IsWhole) (arg4 : Memref sig .tc .vmem S2x80x128 .f32) (harg4 : arg4.IsWhole)
    (arg5 : Memref sig .tc .vmem S2x80x128 .f32) (harg5 : arg5.IsWhole) (arg6 : Memref sig .tc .vmem S2x80x128 .f32) (harg6 : arg6.IsWhole) (arg7 : Memref sig .tc .vmem S2x80x128 .f32) (harg7 : arg7.IsWhole) (arg8 : Memref sig .tc .vmem S2x80x128 .f32) (harg8 : arg8.IsWhole)

theorem reach_eq (b w) (X : BufTy.Contents (Elt F) arg3.view.ty) :
    st_k1_t2 (F := F) 𝒱 c bd arg0 harg0 arg1 harg1 arg2 harg2 arg3 harg3 arg4 harg4 arg5 harg5 arg6 harg6 arg7 harg7 arg8 harg8 b w X k1_pay46 k1_t2_loop.trips = reach (arg3.view.read (Elt F) X) b w := by
  refine eq_upto _ _ (fun k => st_k1_t2 (F := F) 𝒱 c bd arg0 harg0 arg1 harg1 arg2 harg2 arg3 harg3 arg4 harg4 arg5 harg5 arg6 harg6 arg7 harg7 arg8 harg8 b w X k1_pay46 k) rfl (fun k => ?_) _ le_rfl
  rw [st_k1_t2_succ]
  unfold tripR_k1_t2 trip_k1_t2
  rfl

theorem threshold_eq (X : BufTy.Contents (Elt F) arg3.view.ty) :
    st_k1_t1 (F := F) 𝒱 c bd arg0 harg0 arg1 harg1 arg2 harg2 arg3 harg3 arg4 harg4 arg5 harg5 arg6 harg6 arg7 harg7 arg8 harg8 X k1_pay44 k1_t1_loop.trips = threshold (arg3.view.read (Elt F) X) := by
  refine eq_upto _ _ (fun k => st_k1_t1 (F := F) 𝒱 c bd arg0 harg0 arg1 harg1 arg2 harg2 arg3 harg3 arg4 harg4 arg5 harg5 arg6 harg6 arg7 harg7 arg8 harg8 X k1_pay44 k) rfl (fun k => ?_) _ le_rfl
  rw [st_k1_t1_succ, ← reach_eq 𝒱 c bd arg0 harg0 arg1 harg1 arg2 harg2 arg3 harg3 arg4 harg4 arg5 harg5 arg6 harg6 arg7 harg7 arg8 harg8 k]
  unfold tripR_k1_t1 trip_k1_t1
  rfl

theorem above_eq (t) (X : BufTy.Contents (Elt F) arg3.view.ty) :
    st_k1_t3 (F := F) 𝒱 c bd arg0 harg0 arg1 harg1 arg2 harg2 arg3 harg3 arg4 harg4 arg5 harg5 arg6 harg6 arg7 harg7 arg8 harg8 t X k1_pay50 k1_t3_loop.trips = above (arg3.view.read (Elt F) X) t := by
  refine eq_upto _ _ (fun k => st_k1_t3 (F := F) 𝒱 c bd arg0 harg0 arg1 harg1 arg2 harg2 arg3 harg3 arg4 harg4 arg5 harg5 arg6 harg6 arg7 harg7 arg8 harg8 t X k1_pay50 k) rfl (fun k => ?_) _ le_rfl
  rw [st_k1_t3_succ]
  unfold tripR_k1_t3 trip_k1_t3
  rfl

theorem tied_eq (t b w) (X : BufTy.Contents (Elt F) arg3.view.ty) :
    st_k1_t5 (F := F) 𝒱 c bd arg0 harg0 arg1 harg1 arg2 harg2 arg3 harg3 arg4 harg4 arg5 harg5 arg6 harg6 arg7 harg7 arg8 harg8 t b w X k1_pay54 k1_t5_loop.trips = tied (arg3.view.read (Elt F) X) t b w := by
  refine eq_upto _ _ (fun k => st_k1_t5 (F := F) 𝒱 c bd arg0 harg0 arg1 harg1 arg2 harg2 arg3 harg3 arg4 harg4 arg5 harg5 arg6 harg6 arg7 harg7 arg8 harg8 t b w X k1_pay54 k) rfl (fun k => ?_) _ le_rfl
  rw [st_k1_t5_succ]
  unfold tripR_k1_t5 trip_k1_t5
  rfl

theorem cutoff_eq (t g) (X : BufTy.Contents (Elt F) arg3.view.ty) :
    st_k1_t4 (F := F) 𝒱 c bd arg0 harg0 arg1 harg1 arg2 harg2 arg3 harg3 arg4 harg4 arg5 harg5 arg6 harg6 arg7 harg7 arg8 harg8 t g X k1_pay52 k1_t4_loop.trips = cutoff (arg3.view.read (Elt F) X) t g := by
  refine eq_upto _ _ (fun k => st_k1_t4 (F := F) 𝒱 c bd arg0 harg0 arg1 harg1 arg2 harg2 arg3 harg3 arg4 harg4 arg5 harg5 arg6 harg6 arg7 harg7 arg8 harg8 t g X k1_pay52 k) rfl (fun k => ?_) _ le_rfl
  rw [st_k1_t4_succ, ← tied_eq 𝒱 c bd arg0 harg0 arg1 harg1 arg2 harg2 arg3 harg3 arg4 harg4 arg5 harg5 arg6 harg6 arg7 harg7 arg8 harg8 t k]
  unfold tripR_k1_t4 trip_k1_t4
  rfl

theorem masked_eq (t u) (X : BufTy.Contents (Elt F) arg3.view.ty) :
    arg3.view.read (Elt F) (arg3.view.writes (Elt F) X (pb_k1_t6 (F := F) 𝒱 c bd arg0 harg0 arg1 harg1 arg2 harg2 arg3 harg3 arg4 harg4 arg5 harg5 arg6 harg6 arg7 harg7 arg8 harg8 t u X k1_t6_loop.trips)) =
      masked (arg3.view.read (Elt F) X) t u := by
  refine eq_upto _ _ (fun k => arg3.view.read (Elt F) (arg3.view.writes (Elt F) X (pb_k1_t6 (F := F) 𝒱 c bd arg0 harg0 arg1 harg1 arg2 harg2 arg3 harg3 arg4 harg4 arg5 harg5 arg6 harg6 arg7 harg7 arg8 harg8 t u X k))) rfl (fun k => ?_) _ le_rfl
  rw [pb_k1_t6_succ, View.writes_append]
  unfold tripL_k1_t6 trip_k1_t6
  exact View.read_writes_cons_put _ _ _ _ [] rfl

theorem best_eq (v38 i0 i1 r) (X : BufTy.Contents (Elt F) arg3.view.ty) :
    st_k1_t8 (F := F) 𝒱 c bd arg0 harg0 arg1 harg1 arg2 harg2 arg3 harg3 arg4 harg4 arg5 harg5 arg6 harg6 arg7 harg7 arg8 harg8 v38 i0 i1 r X (k1_pay4 (F := F), k1_pay5) k1_t8_loop.trips = best (arg3.view.read (Elt F) X) := by
  refine eq_upto _ _ (fun k => st_k1_t8 (F := F) 𝒱 c bd arg0 harg0 arg1 harg1 arg2 harg2 arg3 harg3 arg4 harg4 arg5 harg5 arg6 harg6 arg7 harg7 arg8 harg8 v38 i0 i1 r X (k1_pay4 (F := F), k1_pay5) k) rfl (fun k => ?_) _ le_rfl
  rw [st_k1_t8_succ]
  unfold tripR_k1_t8 trip_k1_t8
  rfl

theorem corners_eq (v38 i0 i1 r i) (X : BufTy.Contents (Elt F) arg1.view.ty) :
    st_k1_t9 (F := F) 𝒱 c bd arg0 harg0 arg1 harg1 arg2 harg2 arg3 harg3 arg4 harg4 arg5 harg5 arg6 harg6 arg7 harg7 arg8 harg8 v38 i0 i1 r i X (k1_pay10 (F := F), k1_pay11 (F := F), k1_pay12 (F := F), k1_pay13 (F := F)) k1_t9_loop.trips =
      corners (arg1.view.read (Elt F) X) i := by
  refine eq_upto _ _ (fun k => st_k1_t9 (F := F) 𝒱 c bd arg0 harg0 arg1 harg1 arg2 harg2 arg3 harg3 arg4 harg4 arg5 harg5 arg6 harg6 arg7 harg7 arg8 harg8 v38 i0 i1 r i X
    (k1_pay10 (F := F), k1_pay11 (F := F), k1_pay12 (F := F), k1_pay13 (F := F)) k) rfl (fun k => ?_) _ le_rfl
  rw [st_k1_t9_succ]
  unfold tripR_k1_t9 trip_k1_t9
  rfl

theorem cleared_eq (v38 i0 i1 r i b0 b1 b2 b3) (X1 : BufTy.Contents (Elt F) arg1.view.ty) (X : BufTy.Contents (Elt F) arg3.view.ty) :
    arg3.view.read (Elt F) (arg3.view.writes (Elt F) X (pb_k1_t10 (F := F) 𝒱 c bd arg0 harg0 arg1 harg1 arg2 harg2 arg3 harg3 arg4 harg4 arg5 harg5 arg6 harg6 arg7 harg7 arg8 harg8 v38 i0 i1 r i b0 b1 b2 b3 X1 X k1_t10_loop.trips)) =
      cleared (arg1.view.read (Elt F) X1) i b0 b1 b2 b3 (arg3.view.read (Elt F) X) := by
  refine eq_upto _ _ (fun k => arg3.view.read (Elt F) (arg3.view.writes (Elt F) X (pb_k1_t10 (F := F) 𝒱 c bd arg0 harg0 arg1 harg1 arg2 harg2 arg3 harg3 arg4 harg4 arg5 harg5 arg6 harg6 arg7 harg7 arg8 harg8 v38 i0 i1 r i b0 b1 b2 b3 X1 X k))) rfl (fun k => ?_) _ le_rfl
  rw [pb_k1_t10_succ, View.writes_append]
  unfold tripL_k1_t10 trip_k1_t10
  exact View.read_writes_cons_put _ _ _ _ [] rfl

/-- The planes, read. -/
def reading (s : Planes F arg3 arg4 arg5 arg6 arg7 arg8) : Work F :=
  ⟨arg3.view.read (Elt F) s.sc, arg4.view.read (Elt F) s.pc, arg5.view.read (Elt F) s.x1, arg6.view.read (Elt F) s.y1,
    arg7.view.read (Elt F) s.x2, arg8.view.read (Elt F) s.y2⟩

theorem hz3 : (![0, 0, 0] : Fin 3 → ℕ) = fun _ => 0 := funext fun a => by fin_cases a <;> rfl

theorem read_whole {S : Shape} (m : Memref sig .tc .vmem S .f32) (X : BufTy.Contents (Elt F) m.view.ty)
    {off : Fin S.rank → ℕ} (h : off = fun _ => 0) (hb : ∀ a, off a + S.size a ≤ S.size a) :
    m.view.readAt (Elt F) (Rect.unit (s := S) off S.size hb).toLoadRect X = m.view.read (Elt F) X :=
  (View.readAt_eq_ld _ _ _).trans (View.ld_unit_zero h hb _)

theorem hz4 : (![0, 0, 0, 0] : Fin 4 → ℕ) = fun _ => 0 := funext fun a => by fin_cases a <;> rfl

/-- A buffer stored whole, read. -/
theorem read_stored {S : Shape} (m : Memref sig .tc .vmem S .f32) (X : BufTy.Contents (Elt F) m.view.ty)
    {off : Fin S.rank → ℕ} (h : off = fun _ => 0) (hb : ∀ a, off a + S.size a ≤ S.size a) (w : Vec F S .f32) :
    m.view.read (Elt F) (m.view.writes (Elt F) X [⟨Rect.unit (s := S) off S.size hb, w⟩]) = w := by
  subst h
  exact View.read_writes_full _ _ _ _ []

theorem after_eq (v22 v38) (X1 : BufTy.Contents (Elt F) arg1.view.ty) (k : Fin k1_t7_loop.trips) (s : Planes F arg3 arg4 arg5 arg6 arg7 arg8) :
    reading arg3 arg4 arg5 arg6 arg7 arg8 (after (F := F) 𝒱 c bd arg0 harg0 arg1 harg1 arg2 harg2 arg3 harg3 arg4 harg4 arg5 harg5 arg6 harg6 arg7 harg7 arg8 harg8 v22 v38 X1 k s) =
      round v38 (arg1.view.read (Elt F) X1) k (reading arg3 arg4 arg5 arg6 arg7 arg8 s) := by
  unfold after trip reading round
  dsimp only
  rw [← best_eq 𝒱 c bd arg0 harg0 arg1 harg1 arg2 harg2 arg3 harg3 arg4 harg4 arg5 harg5 arg6 harg6 arg7 harg7 arg8 harg8 v38 0#32 1#32 k, ← corners_eq 𝒱 c bd arg0 harg0 arg1 harg1 arg2 harg2 arg3 harg3 arg4 harg4 arg5 harg5 arg6 harg6 arg7 harg7 arg8 harg8 v38 0#32 1#32 k, ← cleared_eq 𝒱 c bd arg0 harg0 arg1 harg1 arg2 harg2 arg3 harg3 arg4 harg4 arg5 harg5 arg6 harg6 arg7 harg7 arg8 harg8 v38 0#32 1#32 k]
  sl_unfold_words
  rw [← read_whole arg4 s.pc hz3 inb_S2x80x128_S2x80x128_0_0_0, ← read_whole arg5 s.x1 hz3 inb_S2x80x128_S2x80x128_0_0_0,
    ← read_whole arg6 s.y1 hz3 inb_S2x80x128_S2x80x128_0_0_0, ← read_whole arg7 s.x2 hz3 inb_S2x80x128_S2x80x128_0_0_0,
    ← read_whole arg8 s.y2 hz3 inb_S2x80x128_S2x80x128_0_0_0]
  congr 1
  all_goals first | rfl | exact View.read_writes_full _ _ _ _ []

theorem picked_eq (v22 v38) (X1 : BufTy.Contents (Elt F) arg1.view.ty) (s : Planes F arg3 arg4 arg5 arg6 arg7 arg8) :
    reading arg3 arg4 arg5 arg6 arg7 arg8 (planes (F := F) 𝒱 c bd arg0 harg0 arg1 harg1 arg2 harg2 arg3 harg3 arg4 harg4 arg5 harg5 arg6 harg6 arg7 harg7 arg8 harg8 v22 v38 X1 s k1_t7_loop.trips) =
      picked v38 (arg1.view.read (Elt F) X1) (reading arg3 arg4 arg5 arg6 arg7 arg8 s) := by
  refine eq_upto _ _ (fun k => reading arg3 arg4 arg5 arg6 arg7 arg8 (planes (F := F) 𝒱 c bd arg0 harg0 arg1 harg1 arg2 harg2 arg3 harg3 arg4 harg4 arg5 harg5 arg6 harg6 arg7 harg7 arg8 harg8 v22 v38 X1 s k)) rfl (fun k => ?_) _ le_rfl
  rw [planes_succ, after_eq]

/-- The merging loop's state, read. -/
def readingM (G2 : BufTy.Contents (Elt F) arg2.view.ty) (G4 : BufTy.Contents (Elt F) arg4.view.ty)
    (s : FVec F S2x1x1 .f32 × List (View.Piece (Elt F) S2x128x8 .f32) × List (View.Piece (Elt F) S2x80x128 .f32)) : Merge F :=
  ⟨s.1, arg2.view.read (Elt F) (arg2.view.writes (Elt F) G2 s.2.1), arg4.view.read (Elt F) (arg4.view.writes (Elt F) G4 s.2.2)⟩

theorem merged_eq (v22) (X5 : BufTy.Contents (Elt F) arg5.view.ty) (X6 : BufTy.Contents (Elt F) arg6.view.ty)
    (X7 : BufTy.Contents (Elt F) arg7.view.ty) (X8 : BufTy.Contents (Elt F) arg8.view.ty)
    (G2 : BufTy.Contents (Elt F) arg2.view.ty) (G4 : BufTy.Contents (Elt F) arg4.view.ty) (init : FVec F S2x1x1 .f32) :
    readingM arg2 arg4 G2 G4 (st_k1_t11 (F := F) 𝒱 c bd arg0 harg0 arg1 harg1 arg2 harg2 arg3 harg3 arg4 harg4 arg5 harg5 arg6 harg6 arg7 harg7 arg8 harg8 v22 X5 X6 X7 X8 G2 G4 init k1_t11_loop.trips) =
      merged (arg5.view.read (Elt F) X5) (arg6.view.read (Elt F) X6) (arg7.view.read (Elt F) X7) (arg8.view.read (Elt F) X8)
        ⟨init, arg2.view.read (Elt F) G2, arg4.view.read (Elt F) G4⟩ := by
  refine eq_upto _ _ (fun k => readingM arg2 arg4 G2 G4 (st_k1_t11 (F := F) 𝒱 c bd arg0 harg0 arg1 harg1 arg2 harg2 arg3 harg3 arg4 harg4 arg5 harg5 arg6 harg6 arg7 harg7 arg8 harg8 v22 X5 X6 X7 X8 G2 G4 init k)) rfl (fun k => ?_) _ le_rfl
  rw [st_k1_t11_succ]
  unfold readingM
  dsimp only
  generalize st_k1_t11 (F := F) 𝒱 c bd arg0 harg0 arg1 harg1 arg2 harg2 arg3 harg3 arg4 harg4 arg5 harg5 arg6 harg6 arg7 harg7 arg8 harg8 v22 X5 X6 X7 X8 G2 G4 init k.val = s
  rw [View.writes_append, View.writes_append]
  generalize arg2.view.writes (Elt F) G2 s.2.1 = f2
  generalize arg4.view.writes (Elt F) G4 s.2.2 = f4
  unfold tripR_k1_t11 trip_k1_t11 mergeRound
  dsimp only
  sl_unfold_words
  rw [← read_whole arg4 f4 hz3 inb_S2x80x128_S2x80x128_0_0_0, ← read_whole arg5 X5 hz3 inb_S2x80x128_S2x80x128_0_0_0,
    ← read_whole arg6 X6 hz3 inb_S2x80x128_S2x80x128_0_0_0, ← read_whole arg7 X7 hz3 inb_S2x80x128_S2x80x128_0_0_0,
    ← read_whole arg8 X8 hz3 inb_S2x80x128_S2x80x128_0_0_0, ← read_whole arg2 f2 hz3 inb_S2x128x8_S2x128x8_0_0_0]
  congr 1
  all_goals first | rfl | exact View.read_writes_full _ _ _ _ []

end Cert.KernelIdeal.Nms

end
-- ==== Proof.KIBody.lean ====
/- The two kernel bodies run: what each leaves in its results' staging buffers, as a function of what its operands'
   hold. -/
module

public import proofs.«01_k».proof.Proof.KIReads

@[expose] public section

set_option maxRecDepth 16384
set_option maxHeartbeats 4000000

noncomputable section

namespace Cert.KernelIdeal.Body

open Cert.KernelIdeal Cert.KernelIdeal.Gen Cert.Loop Cert.KernelIdeal.Picks Cert.KernelIdeal.Nms
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A memref's buffer on core `c`, held whole. -/
abbrev pt (c : Dev nD) {S : Shape} (m : Memref sig .tc .vmem S .f32) (f : BufTy.Contents (Elt F) m.view.ty) : sProp 𝕄 :=
  m.view.loc (c : Thread nD τ) ↦[m.view.set]{fullShare} f

/-- The second body's run: what it leaves in the result's staging buffer, found by running it. -/
@[irreducible] def nmsRun (𝒱 : Variants) (c : Dev nD) (bd : Option 𝒱.V) (arg0 : Memref sig .tc .vmem S8x2x80x6144 .f32) (harg0 : arg0.IsWhole) (arg1 : Memref sig .tc .vmem S8x2x8x6144 .f32) (harg1 : arg1.IsWhole) (arg2 : Memref sig .tc .vmem S2x128x8 .f32) (harg2 : arg2.IsWhole) (arg3 : Memref sig .tc .vmem S8x2x80x6144 .f32) (harg3 : arg3.IsWhole) (arg4 : Memref sig .tc .vmem S2x80x128 .f32) (harg4 : arg4.IsWhole)
    (arg5 : Memref sig .tc .vmem S2x80x128 .f32) (harg5 : arg5.IsWhole) (arg6 : Memref sig .tc .vmem S2x80x128 .f32) (harg6 : arg6.IsWhole) (arg7 : Memref sig .tc .vmem S2x80x128 .f32) (harg7 : arg7.IsWhole) (arg8 : Memref sig .tc .vmem S2x80x128 .f32) (harg8 : arg8.IsWhole)
    (X0 : BufTy.Contents (Elt F) arg0.view.ty) (X1 : BufTy.Contents (Elt F) arg1.view.ty) (f2 : BufTy.Contents (Elt F) arg2.view.ty)
    (f3 : BufTy.Contents (Elt F) arg3.view.ty) (f4 : BufTy.Contents (Elt F) arg4.view.ty) (f5 : BufTy.Contents (Elt F) arg5.view.ty)
    (f6 : BufTy.Contents (Elt F) arg6.view.ty) (f7 : BufTy.Contents (Elt F) arg7.view.ty) (f8 : BufTy.Contents (Elt F) arg8.view.ty) :
    { W : BufTy.Contents (Elt F) arg2.view.ty // ∀ (E : Set ℕ),
      iprop(pt (F := F) c arg0 X0 ∗ pt c arg1 X1 ∗ pt c arg2 f2 ∗ pt c arg3 f3 ∗ pt c arg4 f4 ∗ pt c arg5 f5 ∗ pt c arg6 f6 ∗ pt c arg7 f7 ∗ pt c arg8 f8)
      ⊢ wp frame (wpE (defs₀ (F := F)) 𝒱 (c : Thread nD τ) bd) E (cc1__nms_body (F := F) arg0 harg0 arg1 harg1 arg2 harg2 arg3 harg3 arg4 harg4 arg5 harg5 arg6 harg6 arg7 harg7 arg8 harg8)
          (fun _ => iprop(pt (F := F) c arg0 X0 ∗ pt c arg1 X1 ∗ pt c arg2 W ∗ (∃ f, pt c arg3 f) ∗ (∃ f, pt c arg4 f) ∗ (∃ f, pt c arg5 f) ∗
            (∃ f, pt c arg6 f) ∗ (∃ f, pt c arg7 f) ∗ (∃ f, pt c arg8 f))) } := by
  refine ⟨?_, fun E => ?run⟩
  case run =>
    iintro ⟨H0, H1, H2, H3, H4, H5, H6, H7, H8⟩
    sl_exec
    sl_step
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [H7]; · iexists _; iexact H7
    iexists _; iexact H8

/-- The merging loop after the picking loop, read. -/
theorem tail_eq (𝒱 : Variants) (c : Dev nD) (bd : Option 𝒱.V) (arg0 : Memref sig .tc .vmem S8x2x80x6144 .f32) (harg0 : arg0.IsWhole) (arg1 : Memref sig .tc .vmem S8x2x8x6144 .f32) (harg1 : arg1.IsWhole) (arg2 : Memref sig .tc .vmem S2x128x8 .f32) (harg2 : arg2.IsWhole) (arg3 : Memref sig .tc .vmem S8x2x80x6144 .f32) (harg3 : arg3.IsWhole) (arg4 : Memref sig .tc .vmem S2x80x128 .f32) (harg4 : arg4.IsWhole)
    (arg5 : Memref sig .tc .vmem S2x80x128 .f32) (harg5 : arg5.IsWhole) (arg6 : Memref sig .tc .vmem S2x80x128 .f32) (harg6 : arg6.IsWhole) (arg7 : Memref sig .tc .vmem S2x80x128 .f32) (harg7 : arg7.IsWhole) (arg8 : Memref sig .tc .vmem S2x80x128 .f32) (harg8 : arg8.IsWhole)
    (v22 : FVec F S2x80x128 .f32) (v38 : IVec S2x80x128 32) (w22 : FVec F S2x80x128 .f32) (X1 : BufTy.Contents (Elt F) arg1.view.ty)
    (G2 : BufTy.Contents (Elt F) arg2.view.ty)
    (G3 : BufTy.Contents (Elt F) arg3.view.ty) (G4 : BufTy.Contents (Elt F) arg4.view.ty) (G5 : BufTy.Contents (Elt F) arg5.view.ty)
    (G6 : BufTy.Contents (Elt F) arg6.view.ty) (G7 : BufTy.Contents (Elt F) arg7.view.ty) (G8 : BufTy.Contents (Elt F) arg8.view.ty)
    (init : FVec F S2x1x1 .f32) (p : Stores F) (hp : p = stores (F := F) 𝒱 c bd arg0 harg0 arg1 harg1 arg2 harg2 arg3 harg3 arg4 harg4 arg5 harg5 arg6 harg6 arg7 harg7 arg8 harg8 v22 v38 X1 G3 G4 G5 G6 G7 G8 k1_t7_loop.trips) :
    arg2.view.read (Elt F) (arg2.view.writes (Elt F) G2 (st_k1_t11 (F := F) 𝒱 c bd arg0 harg0 arg1 harg1 arg2 harg2 arg3 harg3 arg4 harg4 arg5 harg5 arg6 harg6 arg7 harg7 arg8 harg8 w22
      (arg5.view.writes (Elt F) G5 p.2.2.1) (arg6.view.writes (Elt F) G6 p.2.2.2.1) (arg7.view.writes (Elt F) G7 p.2.2.2.2.1)
      (arg8.view.writes (Elt F) G8 p.2.2.2.2.2) G2 (arg4.view.writes (Elt F) G4 p.2.1) init k1_t11_loop.trips).2.1) =
    (let q := picked v38 (arg1.view.read (Elt F) X1) (reading arg3 arg4 arg5 arg6 arg7 arg8 ⟨G3, G4, G5, G6, G7, G8⟩)
     (merged q.x1 q.y1 q.x2 q.y2 ⟨init, arg2.view.read (Elt F) G2, q.pc⟩).fo) := by
  have h := congrArg Merge.fo (merged_eq (F := F) 𝒱 c bd arg0 harg0 arg1 harg1 arg2 harg2 arg3 harg3 arg4 harg4 arg5 harg5 arg6 harg6 arg7 harg7 arg8 harg8 w22 (arg5.view.writes (Elt F) G5 p.2.2.1) (arg6.view.writes (Elt F) G6 p.2.2.2.1)
    (arg7.view.writes (Elt F) G7 p.2.2.2.2.1) (arg8.view.writes (Elt F) G8 p.2.2.2.2.2) G2 (arg4.view.writes (Elt F) G4 p.2.1) init)
  refine h.trans ?_
  have P := picked_eq (F := F) 𝒱 c bd arg0 harg0 arg1 harg1 arg2 harg2 arg3 harg3 arg4 harg4 arg5 harg5 arg6 harg6 arg7 harg7 arg8 harg8 v22 v38 X1 ⟨G3, G4, G5, G6, G7, G8⟩
  rw [← over_stores, ← hp] at P
  rw [← P]
  rfl

/-- The candidates that the three searches and the mask leave. -/
theorem head_eq (𝒱 : Variants) (c : Dev nD) (bd : Option 𝒱.V) (arg0 : Memref sig .tc .vmem S8x2x80x6144 .f32) (harg0 : arg0.IsWhole) (arg1 : Memref sig .tc .vmem S8x2x8x6144 .f32) (harg1 : arg1.IsWhole) (arg2 : Memref sig .tc .vmem S2x128x8 .f32) (harg2 : arg2.IsWhole) (arg3 : Memref sig .tc .vmem S8x2x80x6144 .f32) (harg3 : arg3.IsWhole) (arg4 : Memref sig .tc .vmem S2x80x128 .f32) (harg4 : arg4.IsWhole)
    (arg5 : Memref sig .tc .vmem S2x80x128 .f32) (harg5 : arg5.IsWhole) (arg6 : Memref sig .tc .vmem S2x80x128 .f32) (harg6 : arg6.IsWhole) (arg7 : Memref sig .tc .vmem S2x80x128 .f32) (harg7 : arg7.IsWhole) (arg8 : Memref sig .tc .vmem S2x80x128 .f32) (harg8 : arg8.IsWhole) (G3 : BufTy.Contents (Elt F) arg3.view.ty)
    (t g u : IVec S2x80x1 32) (ht : t = st_k1_t1 (F := F) 𝒱 c bd arg0 harg0 arg1 harg1 arg2 harg2 arg3 harg3 arg4 harg4 arg5 harg5 arg6 harg6 arg7 harg7 arg8 harg8 G3 k1_pay44 k1_t1_loop.trips)
    (hg : g = st_k1_t3 (F := F) 𝒱 c bd arg0 harg0 arg1 harg1 arg2 harg2 arg3 harg3 arg4 harg4 arg5 harg5 arg6 harg6 arg7 harg7 arg8 harg8 t G3 k1_pay50 k1_t3_loop.trips)
    (hu : u = st_k1_t4 (F := F) 𝒱 c bd arg0 harg0 arg1 harg1 arg2 harg2 arg3 harg3 arg4 harg4 arg5 harg5 arg6 harg6 arg7 harg7 arg8 harg8 t g G3 k1_pay52 k1_t4_loop.trips) :
    arg3.view.read (Elt F) (arg3.view.writes (Elt F) G3 (pb_k1_t6 (F := F) 𝒱 c bd arg0 harg0 arg1 harg1 arg2 harg2 arg3 harg3 arg4 harg4 arg5 harg5 arg6 harg6 arg7 harg7 arg8 harg8 t u G3 k1_t6_loop.trips)) =
      candidates (arg3.view.read (Elt F) G3) := by
  rw [masked_eq, hu, cutoff_eq, hg, above_eq, ht, threshold_eq]
  rfl

theorem nmsRun_eq (𝒱 : Variants) (c : Dev nD) (bd : Option 𝒱.V) (arg0 : Memref sig .tc .vmem S8x2x80x6144 .f32) (harg0 : arg0.IsWhole) (arg1 : Memref sig .tc .vmem S8x2x8x6144 .f32) (harg1 : arg1.IsWhole) (arg2 : Memref sig .tc .vmem S2x128x8 .f32) (harg2 : arg2.IsWhole) (arg3 : Memref sig .tc .vmem S8x2x80x6144 .f32) (harg3 : arg3.IsWhole) (arg4 : Memref sig .tc .vmem S2x80x128 .f32) (harg4 : arg4.IsWhole)
    (arg5 : Memref sig .tc .vmem S2x80x128 .f32) (harg5 : arg5.IsWhole) (arg6 : Memref sig .tc .vmem S2x80x128 .f32) (harg6 : arg6.IsWhole) (arg7 : Memref sig .tc .vmem S2x80x128 .f32) (harg7 : arg7.IsWhole) (arg8 : Memref sig .tc .vmem S2x80x128 .f32) (harg8 : arg8.IsWhole)
    (X0 : BufTy.Contents (Elt F) arg0.view.ty) (X1 : BufTy.Contents (Elt F) arg1.view.ty) (f2 f3 f4 f5 f6 f7 f8) :
    arg2.view.read (Elt F) (nmsRun (F := F) 𝒱 c bd arg0 harg0 arg1 harg1 arg2 harg2 arg3 harg3 arg4 harg4 arg5 harg5 arg6 harg6 arg7 harg7 arg8 harg8 X0 X1 f2 f3 f4 f5 f6 f7 f8).1 =
      out (arg0.view.read (Elt F) X0) (arg1.view.read (Elt F) X1) := by
  unfold nmsRun
  dsimp only
  sl_unfold_words
  simp only [View.writes_append]
  rw [read_whole arg0 X0 hz4 inb_S8x2x80x6144_S8x2x80x6144_0_0_0_0]
  generalize hA : arg3.view.writes (Elt F) arg3.view.junk [⟨Rect.unit ![0, 0, 0, 0] S8x2x80x6144.size inb_S8x2x80x6144_S8x2x80x6144_0_0_0_0,
    k1_pay43 (arg0.view.read (Elt F) X0)⟩] = A
  refine (tail_eq (F := F) 𝒱 c bd arg0 harg0 arg1 harg1 arg2 harg2 arg3 harg3 arg4 harg4 arg5 harg5 arg6 harg6 arg7 harg7 arg8 harg8 _ _ _ X1 _ _ _ _ _ _ _ _ _ rfl).trans ?_
  unfold out start reading
  dsimp only
  rw [head_eq (F := F) 𝒱 c bd arg0 harg0 arg1 harg1 arg2 harg2 arg3 harg3 arg4 harg4 arg5 harg5 arg6 harg6 arg7 harg7 arg8 harg8 A _ _ _ rfl rfl rfl, ← hA, read_stored arg3 _ hz4, read_stored arg4 _ hz3, read_stored arg5 _ hz3, read_stored arg6 _ hz3,
    read_stored arg7 _ hz3, read_stored arg8 _ hz3, read_stored arg2 _ hz3]

end Cert.KernelIdeal.Body

end
-- ==== Proof.KIPrep.lean ====
/- The first kernel's body run at one grid point: what it leaves in its results' staging buffers, as functions of what
   its operands' hold. -/
module

public import proofs.«01_k».proof.Proof.KIReads

@[expose] public section

set_option maxRecDepth 16384
set_option maxHeartbeats 4000000

noncomputable section

namespace Cert.KernelIdeal.Prep

open Cert.KernelIdeal Cert.KernelIdeal.Gen Cert.KernelIdeal.Nms
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A memref's buffer on core `c`, held whole. -/
abbrev pt (c : Dev nD) {S : Shape} (m : Memref sig .tc .vmem S .f32) (f : BufTy.Contents (Elt F) m.view.ty) : sProp 𝕄 :=
  m.view.loc (c : Thread nD τ) ↦[m.view.set]{fullShare} f

/-- The first body's run at one grid point: what it leaves in the two results' staging buffers, found by running it. -/
@[irreducible] def prepRun (𝒱 : Variants) (c : Dev nD) (bd : Option 𝒱.V) (i : grid0.Coords)
    (arg1 : Memref sig .tc .vmem S2x84x1024 .f32) (harg1 : arg1.IsWhole) (arg2 : Memref sig .tc .vmem S1x8x1024 .f32) (harg2 : arg2.IsWhole)
    (arg3 : Memref sig .tc .vmem S1x2x80x1024 .f32) (harg3 : arg3.IsWhole) (arg4 : Memref sig .tc .vmem S1x2x8x1024 .f32) (harg4 : arg4.IsWhole)
    (X1 : BufTy.Contents (Elt F) arg1.view.ty) (X2 : BufTy.Contents (Elt F) arg2.view.ty) (f3 : BufTy.Contents (Elt F) arg3.view.ty)
    (f4 : BufTy.Contents (Elt F) arg4.view.ty) :
    Σ' (W3 : BufTy.Contents (Elt F) arg3.view.ty), { W4 : BufTy.Contents (Elt F) arg4.view.ty // ∀ (E : Set ℕ),
      iprop(pt (F := F) c arg1 X1 ∗ pt c arg2 X2 ∗ pt c arg3 f3 ∗ pt c arg4 f4)
      ⊢ wp frame (wpE (defs₀ (F := F)) 𝒱 (c : Thread nD τ) bd) E (cc0__prep_body (F := F) i arg1 harg1 arg2 harg2 arg3 harg3 arg4 harg4)
          (fun _ => iprop(pt (F := F) c arg1 X1 ∗ pt c arg2 X2 ∗ pt c arg3 W3 ∗ pt c arg4 W4)) } := by
  refine ⟨?_, ?_, fun E => ?run⟩
  case run =>
    iintro ⟨H1, H2, H3, H4⟩
    sl_exec
    sl_step
    isplitl [H1]; · iexact H1
    isplitl [H2]; · iexact H2
    isplitl [H3]; · iexact H3
    iexact H4

/-- The masked scores of a block. -/
def scores (i : grid0.Coords) (x : Vec F S2x84x1024 .f32) : Vec F S1x2x80x1024 .f32 :=
  k0_pay2 i (View.ld x (Rect.unit (s := S2x84x1024) ![0, 4, 0] S2x80x1024.size inb_S2x84x1024_S2x80x1024_0_4_0))

/-- The boxes of a block. -/
def boxes (x : Vec F S2x84x1024 .f32) (a : Vec F S1x8x1024 .f32) : Vec F S1x2x8x1024 .f32 :=
  k0_pay1 (k0_pay9
    (k0_pay3 (View.ld a (Rect.unit (s := S1x8x1024) ![0, 0, 0] S1x1x1024.size inb_S1x8x1024_S1x1x1024_0_0_0)))
    (k0_pay4 (View.ld a (Rect.unit (s := S1x8x1024) ![0, 1, 0] S1x1x1024.size inb_S1x8x1024_S1x1x1024_0_1_0)))
    (k0_pay5 (View.ld a (Rect.unit (s := S1x8x1024) ![0, 2, 0] S1x1x1024.size inb_S1x8x1024_S1x1x1024_0_2_0)))
    (k0_pay6 (View.ld a (Rect.unit (s := S1x8x1024) ![0, 3, 0] S1x1x1024.size inb_S1x8x1024_S1x1x1024_0_3_0)))
    (k0_pay7 (View.ld x (Rect.unit (s := S2x84x1024) ![0, 0, 0] S2x1x1024.size inb_S2x84x1024_S2x1x1024_0_0_0)))
    (k0_pay8 (View.ld x (Rect.unit (s := S2x84x1024) ![0, 1, 0] S2x1x1024.size inb_S2x84x1024_S2x1x1024_0_1_0)))
    (Scalar.ofBits .f32 0x3DCCCCCD#32)
    (View.ld x (Rect.unit (s := S2x84x1024) ![0, 2, 0] S2x1x1024.size inb_S2x84x1024_S2x1x1024_0_2_0))
    (View.ld x (Rect.unit (s := S2x84x1024) ![0, 3, 0] S2x1x1024.size inb_S2x84x1024_S2x1x1024_0_3_0)))

theorem prepRun_scores (𝒱 : Variants) (c : Dev nD) (bd : Option 𝒱.V) (i : grid0.Coords)
    (arg1 : Memref sig .tc .vmem S2x84x1024 .f32) (harg1 : arg1.IsWhole) (arg2 : Memref sig .tc .vmem S1x8x1024 .f32) (harg2 : arg2.IsWhole)
    (arg3 : Memref sig .tc .vmem S1x2x80x1024 .f32) (harg3 : arg3.IsWhole) (arg4 : Memref sig .tc .vmem S1x2x8x1024 .f32) (harg4 : arg4.IsWhole)
    (X1 : BufTy.Contents (Elt F) arg1.view.ty) (X2 : BufTy.Contents (Elt F) arg2.view.ty) (f3 : BufTy.Contents (Elt F) arg3.view.ty)
    (f4 : BufTy.Contents (Elt F) arg4.view.ty) :
    arg3.view.read (Elt F) (prepRun (F := F) 𝒱 c bd i arg1 harg1 arg2 harg2 arg3 harg3 arg4 harg4 X1 X2 f3 f4).1 = scores i (arg1.view.read (Elt F) X1) := by
  unfold prepRun
  dsimp only
  sl_unfold_words
  exact read_stored arg3 _ hz4 _ _

theorem prepRun_boxes (𝒱 : Variants) (c : Dev nD) (bd : Option 𝒱.V) (i : grid0.Coords)
    (arg1 : Memref sig .tc .vmem S2x84x1024 .f32) (harg1 : arg1.IsWhole) (arg2 : Memref sig .tc .vmem S1x8x1024 .f32) (harg2 : arg2.IsWhole)
    (arg3 : Memref sig .tc .vmem S1x2x80x1024 .f32) (harg3 : arg3.IsWhole) (arg4 : Memref sig .tc .vmem S1x2x8x1024 .f32) (harg4 : arg4.IsWhole)
    (X1 : BufTy.Contents (Elt F) arg1.view.ty) (X2 : BufTy.Contents (Elt F) arg2.view.ty) (f3 : BufTy.Contents (Elt F) arg3.view.ty)
    (f4 : BufTy.Contents (Elt F) arg4.view.ty) :
    arg4.view.read (Elt F) (prepRun (F := F) 𝒱 c bd i arg1 harg1 arg2 harg2 arg3 harg3 arg4 harg4 X1 X2 f3 f4).2.1 =
      boxes (arg1.view.read (Elt F) X1) (arg2.view.read (Elt F) X2) := by
  unfold prepRun
  dsimp only
  sl_unfold_words
  exact read_stored arg4 _ hz4 _ _

end Cert.KernelIdeal.Prep

end
-- ==== Proof.KIRegion.lean ====
/- The two kernel regions: what each kernel's windows hold around its body, and each region as a segment of the program
   from the unscoped buffers at one valuation to the same buffers at the next. -/
module

public import proofs.«01_k».proof.Proof.KIBody
public import proofs.«01_k».proof.Proof.KIPrep
public import proofs.«01_k».proof.Proof.Gen.KernelIdeal.Regions
public import proofs.«01_k».proof.Proof.Gen.KernelIdeal.Points
public import Idealize.ShloMosaic.Lib.Pipeline.FrameTail
public import Idealize.ShloMosaic.Lib.Pipeline.RegionArraysS

@[expose] public section

set_option maxRecDepth 16384
set_option maxHeartbeats 4000000

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf afterRegion afterRegion_arr afterRegion_of_not_arr)

variable {F : FTy → Type} [FloatOps F] [Named F]

local notation "𝕄" => MT nD τ sig Unit (Elt F) ℕ (UR sig nD τ) ℕ

abbrev 𝒱₀ : Variants := Variants.none
/-- No core owes another anything: no level is assigned. -/
abbrev L : GSem nD τ sig → Finset Unit := fun _ => ∅
abbrev lv : GSem nD τ sig → Unit → ℕ := fun _ _ => 0

variable (V : Dev nD → Valuation τ sig (Elt F))

/-! ## The first region -/

/-- The predictions' block at a point. -/
abbrev predBlock (c : Dev nD) (t : Fin cfg0.N) : Vec F S2x84x1024 .f32 :=
  ((cfg0.win 0).blk t).view.read (Elt F) (V c main_v4)
/-- The anchors' block at a point. -/
abbrev ancBlock (c : Dev nD) (t : Fin cfg0.N) : Vec F S1x8x1024 .f32 :=
  ((cfg0.win 1).blk t).view.read (Elt F) (V c main_v2)

/-- The first region's windows around its body, from the valuation at entry. -/
def dat0 (c : Dev nD) : Dat τ (Elt F) Unit ℕ (UR sig nD τ) ℕ cfg0 c where
  A w := V c (Pipeline.arrRef spec0 w)
  after w t := match w with
    | ⟨0, _⟩ => predBlock V c t
    | ⟨1, _⟩ => ancBlock V c t
    | ⟨2, _⟩ => Prep.scores (grid0.coords t) (predBlock V c t)
    | ⟨3, _⟩ => Prep.boxes (predBlock V c t) (ancBlock V c t)
  Φ _ := Pipeline.scopedRest (Ix := Unit) (Name := ℕ) (U := UR sig nD τ) (Lvl := ℕ) (Val := Elt F) spec0 c
  q _ := fullShare
  owed _ := 0

theorem before0_0 (c : Dev nD) (t : Fin cfg0.N) (d) : (dat0 V c).before 0 t d = predBlock V c t := by
  unfold Dat.before; rw [if_pos (fetch0_0 t)]; rfl
theorem before0_1 (c : Dev nD) (t : Fin cfg0.N) (d) : (dat0 V c).before 1 t d = ancBlock V c t := by
  unfold Dat.before; rw [if_pos (fetch0_1 t)]; rfl

theorem body0 (c : Dev nD) : BodyObligation (dat0 V c) (defs₀ (F := F)) 𝒱₀ () Set.univ := fun t => by
  rw [bigSep_W0, bigSep_W0]
  simp only [owns]
  rw [show (dat0 V c).Φ t.castSucc = (dat0 V c).Φ t.succ from rfl,
    show (dat0 V c).owesAt () t.succ = (dat0 V c).owesAt () t.castSucc from rfl]
  iintro ⟨HΦ, Howes, ⟨%d0, %f0, %hf0, H0⟩, ⟨%d1, %f1, %hf1, H1⟩, ⟨%d2, %f2, -, H2⟩, ⟨%d3, %f3, -, H3⟩⟩
  rw [before0_0] at hf0
  rw [before0_1] at hf1
  iapply (wp_wand_r Idealize.ShloMosaic.frame (wpE (defs₀ (F := F)) 𝒱₀ (c : Thread nD τ) none) Set.univ)
  isplitl [H0 H1 H2 H3]
  · iapply ((Prep.prepRun (F := F) 𝒱₀ c none (grid0.coords t) (st0_0 t) (hstage0_0 ((cfg0.slots t 0).cast nbuf0_0))
      (st0_1 t) (hstage0_1 ((cfg0.slots t 1).cast nbuf0_1)) (st0_2 t) (hstage0_2 ((cfg0.slots t 2).cast nbuf0_2))
      (st0_3 t) (hstage0_3 ((cfg0.slots t 3).cast nbuf0_3)) f0 f1 f2 f3).2.2 Set.univ)
    isplitl [H0]; · iexact H0
    isplitl [H1]; · iexact H1
    isplitl [H2]; · iexact H2
    iexact H3
  · iintro %u ⟨H0, H1, H2, H3⟩
    isplitl [HΦ]; · iexact HΦ
    isplitl [Howes]; · iexact Howes
    isplitl [H0]; · iexists _; isplitr; swap; (· iexact H0); ipureintro; exact hf0
    isplitl [H1]; · iexists _; isplitr; swap; (· iexact H1); ipureintro; exact hf1
    isplitl [H2]
    · iexists _; isplitr; swap; (· iexact H2); ipureintro
      exact (Prep.prepRun_scores (F := F) 𝒱₀ c none (grid0.coords t) _ _ _ _ _ _ _ _ f0 f1 f2 f3).trans (congrArg (Prep.scores (grid0.coords t)) hf0)
    iexists _; isplitr; swap; (· iexact H3); ipureintro
    exact (Prep.prepRun_boxes (F := F) 𝒱₀ c none (grid0.coords t) _ _ _ _ _ _ _ _ f0 f1 f2 f3).trans (congrArg₂ Prep.boxes hf0 hf1)

/-! ## The second region -/

/-- The scores as staged. -/
abbrev scoreBlock (c : Dev nD) (t : Fin cfg1.N) : Vec F S8x2x80x6144 .f32 :=
  ((cfg1.win 0).blk t).view.read (Elt F) (V c main_v5_0)
/-- The boxes as staged. -/
abbrev boxBlock (c : Dev nD) (t : Fin cfg1.N) : Vec F S8x2x8x6144 .f32 :=
  ((cfg1.win 1).blk t).view.read (Elt F) (V c main_v5_1)

/-- The second region's windows around its body, from the valuation at entry. -/
def dat1 (c : Dev nD) : Dat τ (Elt F) Unit ℕ (UR sig nD τ) ℕ cfg1 c where
  A w := V c (Pipeline.arrRef spec1 w)
  after w t := match w with
    | ⟨0, _⟩ => scoreBlock V c t
    | ⟨1, _⟩ => boxBlock V c t
    | ⟨2, _⟩ => Nms.out (scoreBlock V c t) (boxBlock V c t)
  Φ _ := Pipeline.scopedRest (Ix := Unit) (Name := ℕ) (U := UR sig nD τ) (Lvl := ℕ) (Val := Elt F) spec1 c
  q _ := fullShare
  owed _ := 0

theorem before1_0 (c : Dev nD) (t : Fin cfg1.N) (d) : (dat1 V c).before 0 t d = scoreBlock V c t := by
  unfold Dat.before; rw [if_pos (fetch1_0 t)]; rfl
theorem before1_1 (c : Dev nD) (t : Fin cfg1.N) (d) : (dat1 V c).before 1 t d = boxBlock V c t := by
  unfold Dat.before; rw [if_pos (fetch1_1 t)]; rfl

/-- Memref `r` whole on core `c`, held at some contents. -/
abbrev some_pt (c : Dev nD) (r : Ref sig .tc) : sProp 𝕄 := iprop(∃ f : Buf (Elt F) ((c : Thread nD τ).loc r), ((c : Thread nD τ).loc r) ↦{fullShare} f)

/-- The scoped buffers the second region does not stage: the first region's, and the kernel's scratch through its whole memrefs. -/
theorem rest1_eq (c : Dev nD) :
    (Pipeline.scopedRest (Ix := Unit) (Name := ℕ) (U := UR sig nD τ) (Lvl := ℕ) (Val := Elt F) spec1 c : sProp 𝕄) =
      iprop(some_pt (F := F) c cc0_stg0_0 ∗ some_pt (F := F) c cc0_stg0_1 ∗ some_pt (F := F) c cc0_stg1_0 ∗ some_pt (F := F) c cc0_stg1_1 ∗
        some_pt (F := F) c cc0_stg2_0 ∗ some_pt (F := F) c cc0_stg2_1 ∗ some_pt (F := F) c cc0_stg3_0 ∗ some_pt (F := F) c cc0_stg3_1 ∗
        (∃ f, Body.pt (F := F) c (Memref.whole cc1_scratch0) f) ∗ (∃ f, Body.pt (F := F) c (Memref.whole cc1_scratch1) f) ∗
        (∃ f, Body.pt (F := F) c (Memref.whole cc1_scratch2) f) ∗ (∃ f, Body.pt (F := F) c (Memref.whole cc1_scratch3) f) ∗
        (∃ f, Body.pt (F := F) c (Memref.whole cc1_scratch4) f) ∗ (∃ f, Body.pt (F := F) c (Memref.whole cc1_scratch5) f)) := by
  rw [scopedRest1_eq]
  simp only [Body.pt, some_pt, Memref.view_whole, View.set_whole]

set_option maxHeartbeats 400000 in
theorem body1 (c : Dev nD) : BodyObligation (dat1 V c) (defs₀ (F := F)) 𝒱₀ () Set.univ := fun t => by
  rw [bigSep_W1, bigSep_W1]
  simp only [owns]
  rw [show (dat1 V c).Φ t.castSucc = (dat1 V c).Φ t.succ from rfl,
    show (dat1 V c).owesAt () t.succ = (dat1 V c).owesAt () t.castSucc from rfl,
    show (dat1 V c).Φ t.succ = Pipeline.scopedRest (Ix := Unit) (Name := ℕ) (U := UR sig nD τ) (Lvl := ℕ) (Val := Elt F) spec1 c from rfl,
    rest1_eq]
  iintro ⟨⟨Ha, Hb, Hc, Hd, He, Hf, Hg, Hh, ⟨%g3, G3⟩, ⟨%g4, G4⟩, ⟨%g5, G5⟩, ⟨%g6, G6⟩, ⟨%g7, G7⟩, ⟨%g8, G8⟩⟩, Howes, ⟨%d0, %f0, %hf0, H0⟩, ⟨%d1, %f1, %hf1, H1⟩, ⟨%d2, %f2, -, H2⟩⟩
  rw [before1_0] at hf0
  rw [before1_1] at hf1
  iapply (wp_wand_r Idealize.ShloMosaic.frame (wpE (defs₀ (F := F)) 𝒱₀ (c : Thread nD τ) none) Set.univ)
  isplitl [H0 H1 H2 G3 G4 G5 G6 G7 G8]
  · iapply ((Body.nmsRun (F := F) 𝒱₀ c none (st1_0 t) (hstage1_0 0) (st1_1 t) (hstage1_1 0) (st1_2 t) (hstage1_2 0)
      (Memref.whole cc1_scratch0) (Memref.isWhole_whole _) (Memref.whole cc1_scratch1) (Memref.isWhole_whole _) (Memref.whole cc1_scratch2) (Memref.isWhole_whole _)
      (Memref.whole cc1_scratch3) (Memref.isWhole_whole _) (Memref.whole cc1_scratch4) (Memref.isWhole_whole _) (Memref.whole cc1_scratch5) (Memref.isWhole_whole _)
      f0 f1 f2 g3 g4 g5 g6 g7 g8).2 Set.univ)
    isplitl [H0]; · iexact H0
    isplitl [H1]; · iexact H1
    isplitl [H2]; · iexact H2
    isplitl [G3]; · iexact G3
    isplitl [G4]; · iexact G4
    isplitl [G5]; · iexact G5
    isplitl [G6]; · iexact G6
    isplitl [G7]; · iexact G7
    iexact G8
  · iintro %u ⟨H0, H1, H2, G3, G4, G5, G6, G7, G8⟩
    isplitl [Ha Hb Hc Hd He Hf Hg Hh G3 G4 G5 G6 G7 G8]
    · isplitl [Ha]; · iexact Ha
      isplitl [Hb]; · iexact Hb
      isplitl [Hc]; · iexact Hc
      isplitl [Hd]; · iexact Hd
      isplitl [He]; · iexact He
      isplitl [Hf]; · iexact Hf
      isplitl [Hg]; · iexact Hg
      isplitl [Hh]; · iexact Hh
      isplitl [G3]; · iexact G3
      isplitl [G4]; · iexact G4
      isplitl [G5]; · iexact G5
      isplitl [G6]; · iexact G6
      isplitl [G7]; · iexact G7
      iexact G8
    isplitl [Howes]; · iexact Howes
    isplitl [H0]; · iexists _; isplitr; swap; (· iexact H0); ipureintro; exact hf0
    isplitl [H1]; · iexists _; isplitr; swap; (· iexact H1); ipureintro; exact hf1
    iexists _; isplitr; swap; (· iexact H2); ipureintro
    refine (Body.nmsRun_eq (F := F) 𝒱₀ c none (st1_0 t) (hstage1_0 0) (st1_1 t) (hstage1_1 0) (st1_2 t) (hstage1_2 0)
      (Memref.whole cc1_scratch0) (Memref.isWhole_whole _) (Memref.whole cc1_scratch1) (Memref.isWhole_whole _) (Memref.whole cc1_scratch2) (Memref.isWhole_whole _)
      (Memref.whole cc1_scratch3) (Memref.isWhole_whole _) (Memref.whole cc1_scratch4) (Memref.isWhole_whole _) (Memref.whole cc1_scratch5) (Memref.isWhole_whole _)
      f0 f1 f2 g3 g4 g5 g6 g7 g8).trans ?_
    exact congrArg₂ (Nms.out (F := F)) hf0 hf1

/-! ## The two regions, one after the other -/

variable (m : (ℓ : Loc nD τ sig) → Buf (Elt F) ℓ)

/-- What the first region leaves, as the valuation after it. -/
def outs0 : Outs (F := F) := fun _ r c => afterRegion (dat0 (V5 m) c) (V5 m c) (Proc.devRef .tc r)

/-- What the regions leave in the arrays they write: the first region's at item 6, the second's (run from what the first left) at item 7. -/
def outs : Outs (F := F) := fun J r c => match J with
  | 6 => afterRegion (dat0 (V5 m) c) (V5 m c) (Proc.devRef .tc r)
  | _ => afterRegion (dat1 (V6 m (outs0 m)) c) (V6 m (outs0 m) c) (Proc.devRef .tc r)

theorem V6_outs (c : Dev nD) : V6 m (outs m) c = V6 m (outs0 m) c := rfl

/-- Both regions' windows. -/
def pdats : (p : Fin 2) → (c : Dev nD) → Dat τ (Elt F) Unit ℕ (UR sig nD τ) ℕ (cfgs p) c
  | ⟨0, _⟩ => fun c => dat0 (V5 m) c
  | ⟨1, _⟩ => fun c => dat1 (V6 m (outs0 m)) c

/-- Between two items, beside the buffers: the core owes nothing. -/
abbrev idle (c : Dev nD) : sProp 𝕄 := iprop(∃ W, owes (c : Thread nD τ) (0 : CellTallies nD τ sig Unit) W)

theorem V6_after (c : Dev nD) (b : Ref sig .tc) : V6 m (outs m) c b = afterRegion (dat0 (V5 m) c) (V5 m c) (Proc.devRef .tc b) := by
  by_cases h1 : b = main_v5_1
  · subst h1; exact Function.update_self _ _ _
  by_cases h0 : b = main_v5_0
  · subst h0
    refine (Function.update_of_ne (StableHlo.devRef_ne_of_ne h1) _ _).trans (Function.update_self _ _ _)
  rw [V6_of m (outs m) c b (by simp [h0, h1])]
  by_cases h4 : b = main_v4
  · subst h4; exact (((dat0 (V5 m) c).arrAt_in 0 rfl _).symm.trans (afterRegion_arr (dat0 (V5 m) c) (V5 m c) launch0.win.arr_inj 0).symm)
  by_cases h2 : b = main_v2
  · subst h2; exact (((dat0 (V5 m) c).arrAt_in 1 rfl _).symm.trans (afterRegion_arr (dat0 (V5 m) c) (V5 m c) launch0.win.arr_inj 1).symm)
  refine (afterRegion_of_not_arr (dat0 (V5 m) c) (V5 m c) (fun w => ?_)).symm
  fin_cases w
  exacts [h4, h2, h0, h1]

theorem V7_after (c : Dev nD) (b : Ref sig .tc) : V7 m (outs m) c b = afterRegion (dat1 (V6 m (outs0 m)) c) (V6 m (outs0 m) c) (Proc.devRef .tc b) := by
  by_cases h6 : b = main_v6
  · subst h6; exact Function.update_self _ _ _
  rw [V7_of m (outs m) c b (by simp [h6]), V6_outs]
  by_cases h0 : b = main_v5_0
  · subst h0; exact (((dat1 (V6 m (outs0 m)) c).arrAt_in 0 rfl _).symm.trans (afterRegion_arr (dat1 (V6 m (outs0 m)) c) (V6 m (outs0 m) c) launch1.win.arr_inj 0).symm)
  by_cases h1 : b = main_v5_1
  · subst h1; exact (((dat1 (V6 m (outs0 m)) c).arrAt_in 1 rfl _).symm.trans (afterRegion_arr (dat1 (V6 m (outs0 m)) c) (V6 m (outs0 m) c) launch1.win.arr_inj 1).symm)
  refine (afterRegion_of_not_arr (dat1 (V6 m (outs0 m)) c) (V6 m (outs0 m) c) (fun w => ?_)).symm
  fin_cases w
  exacts [h0, h1, h6]

set_option backward.isDefEq.respectTransparency.types false in
/-- The first region: the buffers at one valuation on entry, at the next on leaving. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body0 (V5 m) c).loose
  hwaits := Pipeline.hwaits_of_owed_zero _ _ _ _ L lv 0 fun _ _ => rfl
  pre c := iprop(unscopedBufs c (fun b => (V5 m) c b) ∗ idle c)
  post c := iprop(unscopedBufs c (fun b => (V6 m (outs m)) c b) ∗ idle c)
  X _ := BI.emp
  Y _ := BI.emp
  Z c := Pipeline.unscopedRest (Ix := Unit) (Name := ℕ) (U := UR sig nD τ) (Lvl := ℕ) spec0 c (fun b => (V5 m) c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => (V5 m) c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none, show (pdats m 0 c).Φ (Fin.last _) = Pipeline.scopedRest (Ix := Unit) (Name := ℕ) (U := UR sig nD τ) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UR sig nD τ) (Lvl := ℕ) launch0.win launch0.arr_whole c
      (pdats m) ((pdats m 0 c).share_full fun _ => rfl) (fun b => (V5 m) c b) (fun b => (V6 m (outs m)) c b) ((pdats m 0 c).arrAt · cfg0.N)
      (fun w => (afterRegion_arr (pdats m 0 c) ((V5 m) c) launch0.win.arr_inj w).symm.trans (V6_after m c _).symm)
      (fun b hb => (V6_after m c b).trans (afterRegion_of_not_arr (pdats m 0 c) ((V5 m) c) fun w h => hb (h ▸ Finset.mem_image.mpr ⟨w, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- The second region: the buffers at one valuation on entry, at the next on leaving. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body1 (V6 m (outs0 m)) c).loose
  hwaits := Pipeline.hwaits_of_owed_zero _ _ _ _ L lv 1 fun _ _ => rfl
  pre c := iprop(unscopedBufs c (fun b => (V6 m (outs0 m)) c b) ∗ idle c)
  post c := iprop(unscopedBufs c (fun b => (V7 m (outs m)) c b) ∗ idle c)
  X _ := BI.emp
  Y _ := BI.emp
  Z c := Pipeline.unscopedRest (Ix := Unit) (Name := ℕ) (U := UR sig nD τ) (Lvl := ℕ) spec1 c (fun b => (V6 m (outs0 m)) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => (V6 m (outs0 m)) c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = Pipeline.scopedRest (Ix := Unit) (Name := ℕ) (U := UR sig nD τ) (Lvl := ℕ) (Val := Elt F) spec1 c from rfl]
    iintro ⟨-, -, Hr⟩; iexact Hr
  hout c := by
    rw [Pipeline.ownSems0_none, show (pdats m 1 c).Φ (Fin.last _) = Pipeline.scopedRest (Ix := Unit) (Name := ℕ) (U := UR sig nD τ) (Lvl := ℕ) (Val := Elt F) spec1 c from rfl]
    iintro Hr
    isplitr; · iempintro
    isplitr; · iempintro
    iexact Hr
  hexit c := by
    have hjoin := Pipeline.unscopedBufs_of_arrays (p := 1) (pcfgs (F := F)) adm (Ix := Unit) (Name := ℕ) (U := UR sig nD τ) (Lvl := ℕ) launch1.win launch1.arr_whole c
      (pdats m) ((pdats m 1 c).share_full fun _ => rfl) (fun b => (V6 m (outs0 m)) c b) (fun b => (V7 m (outs m)) c b) ((pdats m 1 c).arrAt · cfg1.N)
      (fun w => (afterRegion_arr (pdats m 1 c) ((V6 m (outs0 m)) c) launch1.win.arr_inj w).symm.trans (V7_after m c _).symm)
      (fun b hb => (V7_after m c b).trans (afterRegion_of_not_arr (pdats m 1 c) ((V6 m (outs0 m)) c) fun w h => hb (h ▸ Finset.mem_image.mpr ⟨w, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.Region

end
-- ==== Proof.KIRun.lean ====
/- The run of the whole program: every weakly fair execution terminates, and every buffer ends at the last valuation. -/
module

public import proofs.«01_k».proof.Proof.KIRegion

@[expose] public section

set_option maxRecDepth 16384
set_option maxHeartbeats 400000

noncomputable section

namespace Cert.KernelIdeal.Run

open Cert.KernelIdeal Cert.KernelIdeal.Gen Cert.KernelIdeal.Region
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

theorem of_held (c : Dev nD) (W : Valuation τ sig (Elt F)) :
    iprop(StableHlo.held (c : Thread nD τ) (Pipeline.ucRefs τ sig) W ∗ idle c) ⊢ (iprop(unscopedBufs c (fun b => W b) ∗ idle c) : sProp 𝕄) := by
  rw [Pipeline.unscopedBufs_held (Ix := Unit) (Name := ℕ) (U := UR sig nD τ) (Lvl := ℕ) c W]

theorem to_held (c : Dev nD) (W : Valuation τ sig (Elt F)) :
    iprop(unscopedBufs c (fun b => W b) ∗ idle c) ⊢ (iprop(StableHlo.held (c : Thread nD τ) (Pipeline.ucRefs τ sig) W ∗ idle c) : sProp 𝕄) := by
  rw [Pipeline.unscopedBufs_held (Ix := Unit) (Name := ℕ) (U := UR sig nD τ) (Lvl := ℕ) c W]

theorem from_launch (c : Dev nD) (W : Valuation τ sig (Elt F)) (ρ : PrngReg) :
    iprop((unscopedBufs c (fun b => W b) ∗ unscopedSems0 c ∗ owes (c : Thread nD τ) (0 : CellTallies nD τ sig Unit) ∅ ∗
      Pipeline.launchCred (0 : Dev nD → CellTallies nD τ sig Unit) c ∗ prngReg c ρ ∗ emp) ∗ levAts L lv)
      ⊢ (|={Set.univ}=> iprop(StableHlo.held (c : Thread nD τ) (Pipeline.ucRefs τ sig) W ∗ idle c) : sProp 𝕄) := by
  rw [Pipeline.unscopedBufs_held (Ix := Unit) (Name := ℕ) (U := UR sig nD τ) (Lvl := ℕ) c W]
  iintro ⟨⟨Hh, -, HO, -, -, -⟩, -⟩
  imodintro
  isplitl [Hh]; · iexact Hh
  iexists _; iexact HO

theorem read_held (c : Dev nD) (W : Valuation τ sig (Elt F)) (s' : Phys nD τ sig (Elt F)) :
    iprop(StableHlo.held (c : Thread nD τ) (Pipeline.ucRefs τ sig) W ∗ SI s')
      ⊢ (|={Set.univ}=> iprop(⌜∀ b ∈ Pipeline.ucRefs τ sig, s'.mem.mem ((c.tc : Thread nD τ).1, b) = W b⌝ ∗ SI s') : sProp 𝕄) := by
  unfold StableHlo.held
  iintro ⟨Hh, HSI⟩
  ihave Hr := (pointsTo_read_all (Pipeline.ucRefs τ sig) (fun b => ((c.tc : Thread nD τ).1, b)) W s') $$ [Hh HSI]
  · isplitl [Hh] <;> iassumption
  imodintro; iexact Hr

set_option backward.isDefEq.respectTransparency.types false in
/-- Every execution ends with every unscoped buffer at the last valuation and every semaphore at zero. -/
theorem run (m : (ℓ : Loc nD τ sig) → Buf (Elt F) ℓ) (ρ : Dev nD → PrngReg) :
    θ_run defs (onTc (τ := τ) (main (F := F))) ⟨m, fun _ => 0, ρ⟩ (fun r =>
      (∀ (c : Dev nD), ∀ b ∈ Pipeline.ucRefs τ sig, r.2.mem ((c.tc : Thread nD τ).1, b) = V8 m (outs m) c b) ∧ r.2.sem = fun _ => 0) := by
  refine Pipeline.θ_run_regions_kit_dev_sems (pcfgs (F := F)) adm (pdats m) () cellOf_inj emb₁ defs₀ 𝒱₀ L lv m ρ main
    (segs m (outs m) 𝒱₀ L lv (fun _ => idle) () (pdats m) (reg0 m) (reg1 m))
    (fun c Q => by
      rewrite [main_chain c, Seg.run_eq_chain,
        show (segs m (outs m) 𝒱₀ L lv (fun _ => idle) () (pdats m) (reg0 m) (reg1 m) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) 0 (fun _ _ => rfl)
    (fun _ => iprop(emp)) (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ idle c))
    (Tₙ := fun c => StableHlo.held (c : Thread nD τ) (Pipeline.ucRefs τ sig) (V8 m (outs m) c))
    (hch := fun c => ⟨.rfl, .rfl, .rfl, .rfl, .rfl, ?_, ?_, ?_, .rfl⟩)
    (hinit := ?_) (QY := fun c s => ∀ b ∈ Pipeline.ucRefs τ sig, s.mem ((c.tc : Thread nD τ).1, b) = V8 m (outs m) c b)
    (hfin := fun c s' => ?_) (hQ := fun _ h hz => ⟨h, funext fun g => hz g (.inr (regions_no_unscoped g.2))⟩)
  · exact of_held c (V5 m c)
  · exact .rfl
  · exact to_held c (V7 m (outs m) c)
  · exact Pipeline.initEach L lv fun c => from_launch c (V0 m c) (ρ c)
  · exact read_held c (V8 m (outs m) c) s'

/-- The arguments end as launched and every semaphore counter reads zero. -/
theorem quiescent (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨(h.1 c (Proc.devRef .tc main_arg0) (Finset.mem_filter.mpr ⟨StableHlo.devRef_mem_tcRefs main_arg0, by decide⟩)).trans (V8_main_arg0 m (outs m) c),
     (h.1 c (Proc.devRef .tc main_arg1) (Finset.mem_filter.mpr ⟨StableHlo.devRef_mem_tcRefs main_arg1, by decide⟩)).trans (V8_main_arg1 m (outs m) c),
     (h.1 c (Proc.devRef .tc main_arg2) (Finset.mem_filter.mpr ⟨StableHlo.devRef_mem_tcRefs main_arg2, by decide⟩)).trans (V8_main_arg2 m (outs m) c)⟩, h.2⟩) (run m ρ)

end Cert.KernelIdeal.Run

end
-- ==== Proof.KPrepValue.lean ====
/- What the first call leaves in its two arrays: the scores and the boxes of the table, chunk by chunk. -/
module

public import proofs.«01_k».proof.Proof.KIRun
public import proofs.«01_k».proof.Proof.Boxes
public import proofs.«01_k».proof.Proof.Folds
public import Idealize.ShloMosaic.Lib.Pipeline.ValueKit
public import Idealize.ShloMosaic.Lib.Claim
public import Idealize.ShloMosaic.Lib.Pointwise

@[expose] public section

set_option maxRecDepth 16384
set_option maxHeartbeats 4000000

noncomputable section

open Idealize.ShloMosaic Idealize.ShloMosaic.TcCoe Idealize.SL.Sem
open Idealize.ShloMosaic.Pipeline (Dat afterRegion afterRegion_arr)
open Cert.Table Cert.Folds

namespace Cert.KernelIdeal.Table

open Cert.KernelIdeal Cert.KernelIdeal.Gen Cert.KernelIdeal.Region

variable (m : (ℓ : Loc nD τ sig) → Buf (Elt Ideal) ℓ)

/-- Where every window stands at a grid point. -/
theorem idx : ∀ t : Fin cfg0.N, win0_0.index t = ![0, 0, t.val] ∧ win0_1.index t = ![0, 0, t.val]
    ∧ win0_2.index t = ![t.val / 6, 0, 0, t.val % 6] ∧ win0_3.index t = ![t.val / 6, 0, 0, t.val % 6] :=
  (by decide +kernel : ∀ t : Fin grid0.N, _)

theorem coord : ∀ t : Fin cfg0.N, (grid0.coords t 0).val = t.val :=
  (by decide +kernel : ∀ t : Fin grid0.N, _)

/-- The filled-up predictions, and the filled-up anchors. -/
def preds (x : Vec Ideal S2x49104x84 .f32) : Vec Ideal S2x49152x84 .f32 :=
  pad S2x49152x84 ![0, 0, 0] ![0, 48, 0] ![0, 0, 0] x (sitofp (F := Ideal) .f32 (constantI S_ 32 0#32)) pads_S2x49104x84_S2x49152x84_000_0480_000 h_S_

def anchs (x : Vec Ideal S49104x4 .f32) : Vec Ideal S49152x8 .f32 :=
  pad S49152x8 ![0, 0] ![48, 4] ![0, 0] x (constant (F := Ideal) S_ .f32 0x3F800000#32) pads_S49104x4_S49152x8_0480_040 h_S_

theorem preds_at (x : Vec Ideal S2x49104x84 .f32) (b : Fin 2) (n : Fin 49152) (n' : Fin 49104) (e : n.val = n'.val) (q : Fin 84) :
    preds x (ix3 b n q) = x (ix3 b n' q) := by
  obtain ⟨n, hn⟩ := n
  obtain rfl : n = n'.val := e
  have := n'.isLt
  unfold preds
  pointwise

theorem anchs_at (x : Vec Ideal S49104x4 .f32) (n : Fin 49152) (n' : Fin 49104) (e : n.val = n'.val) (q : Fin 4) :
    anchs x (ix2 n ⟨q.val, by omega⟩) = x (ix2 n' q) := by
  obtain ⟨n, hn⟩ := n
  obtain rfl : n = n'.val := e
  have := n'.isLt
  have := q.isLt
  unfold anchs
  pointwise

/-- The predictions as the first call reads them: filled up with zeros, transposed. -/
theorem entry0 (c : Dev nD) : V5 m c main_v4 = transpose S2x84x49152 [0, 2, 1]
    (preds (m ((c : Thread nD τ).loc main_arg1))) transposes_S2x49152x84_S2x84x49152_0_2_1 := by
  simp only [hostOps0, hostOps0_1, hostOps0_2, hostOps0_3, hostOps0_4, List.flatten_cons, List.flatten_nil, List.append_nil, List.cons_append,
    List.nil_append, StableHlo.TRef.binary, StableHlo.TRef.ternary, StableHlo.TRef.unary, StableHlo.TRef.toBuf, StableHlo.TRef.ofBuf, cast_eq]
  after_results_simp
  all_goals rfl

/-- The anchors as the first call reads them: filled up with ones, transposed. -/
theorem entry1 (c : Dev nD) : V5 m c main_v2 = broadcastInDim S1x8x49152 ![1, 2] bcast_S8x49152_S1x8x49152_1_2 (transpose S8x49152 [1, 0]
    (anchs (m ((c : Thread nD τ).loc main_arg2))) transposes_S49152x8_S8x49152_1_0) := by
  simp only [hostOps0, hostOps0_1, hostOps0_2, hostOps0_3, hostOps0_4, List.flatten_cons, List.flatten_nil, List.append_nil, List.cons_append,
    List.nil_append, StableHlo.TRef.binary, StableHlo.TRef.ternary, StableHlo.TRef.unary, StableHlo.TRef.toBuf, StableHlo.TRef.ofBuf, cast_eq]
  after_results_simp
  all_goals rfl

/-- Block `t` of the predictions holds the columns from `1024 t`. -/
theorem block0 (V : Dev nD → Valuation τ sig (Elt Ideal)) (c : Dev nD) (t : Fin cfg0.N) (b : Fin 2) (r : Fin 84) (l : Fin 1024) (n : Fin 49152) (hn : n.val = 1024 * t.val + l.val) :
    predBlock V c t (ix3 b r l) = V c main_v4 (ix3 b r n) := by
  have := (idx t).1
  unfold predBlock
  blk_ext! [idx t]

theorem block1 (V : Dev nD → Valuation τ sig (Elt Ideal)) (c : Dev nD) (t : Fin cfg0.N) (r : Fin 8) (l : Fin 1024) (n : Fin 49152) (hn : n.val = 1024 * t.val + l.val) :
    ancBlock V c t (ix3 0 r l) = V c main_v2 (ix3 0 r n) := by
  unfold ancBlock
  blk_ext! [idx t]

/-- The transposed predictions read at a place. -/
theorem transpose_at (P : Vec Ideal S2x49152x84 .f32) (b : Fin 2) (r : Fin 84) (n : Fin 49152) :
    transpose S2x84x49152 [0, 2, 1] P transposes_S2x49152x84_S2x84x49152_0_2_1 (ix3 b r n) = P (ix3 b n r) := by
  pointwise

/-- The scores the call leaves are any array that holds the table's scores, place by place. -/
theorem final2 (c : Dev nD) (G : Vec Ideal S8x2x80x6144 .f32)
    (hG : ∀ (k : Fin 8) (b : Fin 2) (r : Fin 80) (l : Fin 6144) (n : Fin 49152), n.val = k.val * 6144 + l.val →
      G (ix4 k b r l) = score n (preds (m ((c : Thread nD τ).loc main_arg1)) (ix3 b n ⟨4 + r.val, by omega⟩))) :
    (dat0 (V5 m) c).arrAt 2 cfg0.N = G := by
  refine (dat0 (V5 m) c).arrAt_eq_of_covers 2 G (by decide +kernel) fun t hf y => ?_
  blk_simp
  rw [show (dat0 (V5 m) c).after 2 t = Prep.scores (grid0.coords t) (predBlock (V5 m) c t) from rfl]
  unfold Prep.scores
  frame_out
  idx_vars y
  have ht : t.val < 48 := t.isLt
  have e : ((View.whole main_v5_0).slice (win0_2.rect t)).emb (ix4 y0 y1 y2 y3) = ix4 (⟨t.val / 6, by omega⟩ : Fin 8) y1 y2 (⟨t.val % 6 * 1024 + y3.val, by omega⟩ : Fin 6144) := by
    blk_ext [idx t]
  rw [e, hG _ _ _ _ ⟨1024 * t.val + y3.val, by omega⟩ (by show 1024 * t.val + y3.val = t.val / 6 * 6144 + (t.val % 6 * 1024 + y3.val); omega)]
  pointwise [k0_pay2]
  rw [block0 (V5 m) c t y1 ⟨4 + y2.val, by omega⟩ y3 ⟨1024 * t.val + y3.val, by omega⟩ rfl, entry0, coord]
  have w : IntOp.addi (BitVec.ofNat 32 y3.val) (Scalar.muli (BitVec.ofNat 32 t.val) 1024#32) = BitVec.ofNat 32 (1024 * t.val + y3.val) := by
    show BitVec.ofNat 32 y3.val + BitVec.ofNat 32 t.val * BitVec.ofNat 32 1024 = _
    rw [← BitVec.ofNat_mul, ← BitVec.ofNat_add]; congr 1; omega
  rw [w, slt_word _ _ (by omega) (by omega)]
  rw [transpose_at]
  unfold score
  by_cases h : 1024 * t.val + y3.val < 49104 <;> simp [h, Scalar.select]

/-- The boxes the call leaves are any array that holds the table's columns, place by place. -/
theorem final3 (c : Dev nD) (G : Vec Ideal S8x2x8x6144 .f32)
    (hG : ∀ (k : Fin 8) (b : Fin 2) (r : Fin 8) (l : Fin 6144) (n : Fin 49152), n.val = k.val * 6144 + l.val →
      G (ix4 k b r l) = row (fun q => preds (m ((c : Thread nD τ).loc main_arg1)) (ix3 b n ⟨q.val, by omega⟩))
        (fun q => anchs (m ((c : Thread nD τ).loc main_arg2)) (ix2 n ⟨q.val, by omega⟩)) r) :
    (dat0 (V5 m) c).arrAt 3 cfg0.N = G := by
  refine (dat0 (V5 m) c).arrAt_eq_of_covers 3 G (by decide +kernel) fun t hf y => ?_
  blk_simp
  rw [show (dat0 (V5 m) c).after 3 t = Prep.boxes (predBlock (V5 m) c t) (ancBlock (V5 m) c t) from rfl]
  unfold Prep.boxes
  frame_out
  idx_vars y
  have ht : t.val < 48 := t.isLt
  have e : ((View.whole main_v5_1).slice (win0_3.rect t)).emb (ix4 y0 y1 y2 y3) = ix4 (⟨t.val / 6, by omega⟩ : Fin 8) y1 y2 (⟨t.val % 6 * 1024 + y3.val, by omega⟩ : Fin 6144) := by
    blk_ext [idx t]
  rw [e, hG _ _ _ _ ⟨1024 * t.val + y3.val, by omega⟩ (by show 1024 * t.val + y3.val = t.val / 6 * 6144 + (t.val % 6 * 1024 + y3.val); omega)]
  clear hG hf e
  have q0 : ∀ r : Fin 84, predBlock (V5 m) c t (ix3 y1 r y3) = preds (m ((c : Thread nD τ).loc main_arg1)) (ix3 y1 ⟨1024 * t.val + y3.val, by omega⟩ r) := by
    intro r
    rw [block0 (V5 m) c t y1 r y3 ⟨1024 * t.val + y3.val, by omega⟩ rfl, entry0]
    pointwise
  have q1 : ∀ r : Fin 8, ancBlock (V5 m) c t (ix3 0 r y3) = anchs (m ((c : Thread nD τ).loc main_arg2)) (ix2 ⟨1024 * t.val + y3.val, by omega⟩ r) := by
    intro r
    rw [block1 (V5 m) c t r y3 ⟨1024 * t.val + y3.val, by omega⟩ rfl, entry1]
    pointwise
  generalize predBlock (V5 m) c t = B0 at q0 ⊢
  generalize ancBlock (V5 m) c t = B1 at q1 ⊢
  generalize (preds (m ((c : Thread nD τ).loc main_arg1))) = P at q0 ⊢
  generalize (anchs (m ((c : Thread nD τ).loc main_arg2))) = A at q1 ⊢
  obtain rfl := Subsingleton.elim y0 0
  fin_cases y2 <;> pointwise [k0_pay1, k0_pay9, k0_pay3, k0_pay4, k0_pay5, k0_pay6, k0_pay7, k0_pay8] <;> (try simp only [q0, q1]) <;>
    first | rfl | (simp [row, Table.low, Table.high, Table.area, Table.centre, Table.half]; done)

/-- The second call's window holds the whole array of scores, and of boxes. -/
theorem whole1 : ∀ t : Fin cfg1.N, win1_0.index t = ![0, 0, 0, 0] ∧ win1_1.index t = ![0, 0, 0, 0] ∧ win1_2.index t = ![0, 0, 0] :=
  (by decide +kernel : ∀ t : Fin grid1.N, _)

/-- The scores and the box columns of the table, of the arguments. -/
def scoreOf (c : Dev nD) (b : Fin 2) (r : Fin 80) (n : Fin 49152) : EReal :=
  score n (preds (m ((c : Thread nD τ).loc main_arg1)) (ix3 b n ⟨4 + r.val, by omega⟩))

def columnOf (c : Dev nD) (b : Fin 2) (r : Fin 8) (n : Fin 49152) : EReal :=
  row (fun q => preds (m ((c : Thread nD τ).loc main_arg1)) (ix3 b n ⟨q.val, by omega⟩))
    (fun q => anchs (m ((c : Thread nD τ).loc main_arg2)) (ix2 n ⟨q.val, by omega⟩)) r

/-- A score the second call reads. -/
theorem score_at (c : Dev nD) (t : Fin cfg1.N) (k : Fin 8) (b : Fin 2) (r : Fin 80) (l : Fin 6144) :
    scoreBlock (V6 m (outs0 m)) c t (ix4 k b r l) = scoreOf m c b r (at' k l) := by
  have e : scoreBlock (V6 m (outs0 m)) c t (ix4 k b r l) = V6 m (outs0 m) c main_v5_0 (ix4 k b r l) := by
    unfold scoreBlock
    blk_ext! [whole1 t]
  rw [e, ← V6_outs, V6_after]
  have f := final2 m c (fun i => scoreOf m c (i 1) (i 2) (at' (i 0) (i 3))) (fun k b r l n hn => by
    obtain rfl : at' k l = n := Fin.ext hn.symm
    rfl)
  exact congrFun ((afterRegion_arr (dat0 (V5 m) c) (V5 m c) launch0.win.arr_inj 2).trans f) (ix4 k b r l)

/-- A box's column the second call reads. -/
theorem box_at (c : Dev nD) (t : Fin cfg1.N) (k : Fin 8) (b : Fin 2) (r : Fin 8) (l : Fin 6144) :
    boxBlock (V6 m (outs0 m)) c t (ix4 k b r l) = columnOf m c b r (at' k l) := by
  have e : boxBlock (V6 m (outs0 m)) c t (ix4 k b r l) = V6 m (outs0 m) c main_v5_1 (ix4 k b r l) := by
    unfold boxBlock
    blk_ext! [whole1 t]
  rw [e, ← V6_outs, V6_after]
  have f := final3 m c (fun i => columnOf m c (i 1) (i 2) (at' (i 0) (i 3))) (fun k b r l n hn => by
    obtain rfl : at' k l = n := Fin.ext hn.symm
    rfl)
  exact congrFun ((afterRegion_arr (dat0 (V5 m) c) (V5 m c) launch0.win.arr_inj 3).trans f) (ix4 k b r l)

/-- What the second call leaves. -/
theorem final6 (c : Dev nD) : ∃ t : Fin cfg1.N, V7 m (outs m) c main_v6 = Nms.out (scoreBlock (V6 m (outs0 m)) c t) (boxBlock (V6 m (outs0 m)) c t) := by
  refine ⟨t1_0, ?_⟩
  rw [V7_after]
  refine (afterRegion_arr (dat1 (V6 m (outs0 m)) c) (V6 m (outs0 m) c) launch1.win.arr_inj 2).trans ?_
  generalize hO : Nms.out (scoreBlock (V6 m (outs0 m)) c t1_0) (boxBlock (V6 m (outs0 m)) c t1_0) = O
  refine (dat1 (V6 m (outs0 m)) c).arrAt_eq_of_covers 2 O (by decide +kernel) fun t hf y => ?_
  obtain rfl : t = t1_0 := fin_N1 t
  blk_simp
  rw [show (dat1 (V6 m (outs0 m)) c).after 2 t1_0 = Nms.out (scoreBlock (V6 m (outs0 m)) c t1_0) (boxBlock (V6 m (outs0 m)) c t1_0) from rfl, hO]
  idx_vars y
  blk_ext! [whole1 t1_0]

end Cert.KernelIdeal.Table

end
-- ==== Proof.Join.lean ====
/- The kernel's second call against the reference's rounds and list: the same rows. -/
module

public import proofs.«01_k».proof.Proof.Candidates
public import proofs.«01_k».proof.Proof.KSel
public import proofs.«01_k».proof.Proof.MSim
public import proofs.«01_k».proof.Proof.KPrepValue

@[expose] public section

set_option maxRecDepth 16384
set_option maxHeartbeats 4000000

noncomputable section

open Idealize.ShloMosaic Idealize.ShloMosaic.TcCoe Idealize.ShloMosaic.StableHlo Idealize.ShloMosaic.Scf

namespace Cert.Join

open Cert.Folds Cert.Order Cert.Sim Cert.Padded Cert.Pre_settled
open Cert.KernelIdeal (S8x2x80x6144 S8x2x8x6144 S2x128x8 S2x80x128)
open Cert.KernelIdeal.Gen (iota_S2x80x128_d2_w32)
open Cert.KernelIdeal.Nms (line line_at candidates candidates_at start picked merged Merge Merging tally rank slot8 class8 listed Work)
open Cert.ReferenceIdeal.Value (sc bx rs rx rf bar STEP preds anchs logits best sc_entry bx_entry going_entry order order_listed order_inj order_surj recs placeOf flagOf
  slotOf classOf out_score out_class out_count out_box out_main_v114 out_main_v118 out_main_v123 out_main_v125)

theorem seat : 99 < 128 := by decide

theorem fewer : 49104 ≤ 49152 := by decide

theorem minus_one : Ideal.ofBits .f32 0xBF800000#32 < 0 := by
  rw [show Ideal.ofBits .f32 0xBF800000#32 = ((-1 : ℝ) : EReal) from none_eq]
  norm_cast

theorem half_eq : Ideal.ofBits .f32 3204448256#32 = ((-(1 / 2) : ℝ) : EReal) := by
  simp [Ideal.ofBits, Ideal.ieee]
  norm_cast
  norm_num

theorem listed_bar (y : EReal) (h : bar ≤ y) : listed y := by
  unfold listed
  rw [half_eq]
  refine lt_of_lt_of_le ?_ (bar_pos.le.trans h)
  norm_cast
  norm_num

theorem listed_none : ¬ listed none' := by
  unfold listed
  rw [half_eq, none_eq, EReal.coe_lt_coe_iff]
  norm_num

/-- A small count, rounded to a word. -/
theorem fptosi_nat (n : ℕ) (h : n < 2 ^ 30) : Ideal.fptosi 32 ((n : ℝ) : EReal) = BitVec.ofNat 32 n := by
  have e : Ideal.toIntClamped (-(2 ^ (32 - 1) : ℕ)) ((2 ^ (32 - 1) : ℕ) - 1) ((n : ℝ) : EReal) = (n : ℤ) := by
    show max _ (min _ (if (0 : ℝ) ≤ (n : ℝ) then ⌊(n : ℝ)⌋ else ⌈(n : ℝ)⌉)) = _
    rw [if_pos (Nat.cast_nonneg n), Int.floor_natCast, min_eq_right (by first | (norm_num; done) | (norm_num; omega)), max_eq_right (by first | (norm_num; done) | (norm_num; omega))]
  unfold Ideal.fptosi
  rw [e, BitVec.ofInt_natCast]

section
variable (S : Vec Ideal S8x2x80x6144 .f32) (X : Vec Ideal S8x2x8x6144 .f32)
  (m : (ℓ : Loc Cert.ReferenceIdeal.nD Cert.ReferenceIdeal.τ Cert.ReferenceIdeal.sig) → Buf (Elt Ideal) ℓ) (c : Dev Cert.ReferenceIdeal.nD)

/-- The array holds the table's scores. -/
abbrev ScoresAre : Prop := ∀ b cl n, line (Cert.KernelIdeal.Gen.k1_pay43 S) b cl n = Cert.Table.score n.val (Cert.KernelIdeal.Table.preds (preds m c) (ix3 b n ⟨4 + cl.val, by omega⟩))

/-- The array holds the table's boxes. -/
abbrev BoxesAre : Prop := ∀ b r n, Cert.KernelIdeal.Nms.row X b r n = Cert.Table.row (fun q => Cert.KernelIdeal.Table.preds (preds m c) (ix3 b n ⟨q.val, by omega⟩))
    (fun q => Cert.KernelIdeal.Table.anchs (anchs m c) (ix2 n ⟨q.val, by omega⟩)) r

/-- Every class has a clear cut after its thousandth best score. -/
abbrev ClearCut : Prop := ∀ b cl (p q : ℝ), sig (preds m c) b cl (order (sig (preds m c) b cl) ⟨999, by omega⟩) = (p : EReal) →
    sig (preds m c) b cl (order (sig (preds m c) b cl) ⟨1000, by omega⟩) = (q : EReal) → Apart p q

variable (hS : ScoresAre S m c) (hX : BoxesAre X m c) (hpre : ClearCut m c)

/-- The candidates' places in the kernel's line. -/
def places (b : Fin 2) (cl : Fin 80) (k : Fin 1000) : Fin 49152 := ranks fewer (logits m c b cl) ⟨k.val, by omega⟩

theorem places_inj (b : Fin 2) (cl : Fin 80) : Function.Injective (places m c b cl) := by
  intro i j h
  have := ranks_inj fewer (logits m c b cl) h
  exact Fin.ext (Fin.mk.inj_iff.1 this)

theorem logits_mem (b : Fin 2) (cl : Fin 80) (n : Fin 49104) : ∃ r : ℝ, logits m c b cl n = (r : EReal) ∧ 0 ≤ r ∧ r ≤ 1 := logistic_mem _

include hS in
theorem line_in (b : Fin 2) (cl : Fin 80) (n : Fin 49104) : line (Cert.KernelIdeal.Gen.k1_pay43 S) b cl (lift fewer n) = logits m c b cl n := by
  rw [hS]
  unfold Cert.Table.score
  rw [if_pos (show (lift fewer n).val < 49104 from n.isLt), Cert.KernelIdeal.Table.preds_at (preds m c) b (lift fewer n) n rfl]
  rfl

include hS in
theorem line_out (b : Fin 2) (cl : Fin 80) (n : Fin 49152) (h : 49104 ≤ n.val) : line (Cert.KernelIdeal.Gen.k1_pay43 S) b cl n < 0 := by
  rw [hS]
  unfold Cert.Table.score
  rw [if_neg (not_lt.2 h)]
  exact minus_one

include hS in
theorem places_listed (b : Fin 2) (cl : Fin 80) : Listed (line (Cert.KernelIdeal.Gen.k1_pay43 S) b cl) (places m c b cl) := by
  intro i j h
  exact ranks_listed fewer (logits m c b cl) _ (line_in S m c hS b cl) ⟨i.val, by omega⟩ ⟨j.val, by omega⟩ h

theorem places_val (b : Fin 2) (cl : Fin 80) (k : Fin 1000) : (places m c b cl k).val = (best m c b cl ⟨k.val, by omega⟩).val := by
  unfold places best
  rw [ranks_val]

include hX in
theorem boxes_in (b : Fin 2) (cl : Fin 80) (k : Fin 1000) (r : Fin 8) :
    Cert.KernelIdeal.Nms.row X b r (places m c b cl k) = Cert.Table.row (fun q => preds m c (ix3 b (best m c b cl ⟨k.val, by omega⟩) ⟨q.val, by omega⟩))
      (fun q => anchs m c (ix2 (best m c b cl ⟨k.val, by omega⟩) q)) r := by
  rw [hX]
  exact congrArg₂ (fun p a => Cert.Table.row p a r) (funext fun q => Cert.KernelIdeal.Table.preds_at _ b _ _ (places_val m c b cl k) _)
    (funext fun q => Cert.KernelIdeal.Table.anchs_at _ _ _ (places_val m c b cl k) q)

include hS hpre in
theorem alike_start (b : Fin 2) (cl : Fin 80) :
    Alike b cl (places m c b cl) (line (Cert.KernelIdeal.Gen.k1_pay43 S) b cl) 0 (start S) (entryContents Cert.ReferenceIdeal.Value.preI m c) := by
  have hc := candidates_at (Cert.KernelIdeal.Gen.k1_pay43 S) b cl
    (reach_zero fewer (logits m c b cl) (logits_mem m c b cl) _ (line_in S m c hS b cl) (line_out S m c hS b cl) (by decide))
    (le_one fewer (logits m c b cl) (logits_mem m c b cl) _ (line_in S m c hS b cl) (line_out S m c hS b cl))
    (settles fewer (logits m c b cl) (logits_mem m c b cl) _ (line_in S m c hS b cl) (line_out S m c hS b cl) (by decide) (hpre b cl))
  have hf := first fewer (logits m c b cl) (logits_mem m c b cl) _ (line_in S m c hS b cl) (line_out S m c hS b cl) (by decide)
  have hin : ∀ k, line (Cert.KernelIdeal.Gen.k1_pay43 S) b cl (places m c b cl k) = sc (entryContents Cert.ReferenceIdeal.Value.preI m c) b cl k := fun k =>
    (line_in S m c hS b cl _).trans (sc_entry m c b cl k).symm
  refine ⟨fun k => ?_, fun n hn => ?_, fun k => .inr (hin k).symm, fun j hj => absurd hj (Nat.not_lt_zero _), fun j _ => ?_, fun j hj => absurd hj (Nat.not_lt_zero _),
    fun j hj => absurd hj (Nat.not_lt_zero _), fun j hj => absurd hj (Nat.not_lt_zero _), fun j hj => absurd hj (Nat.not_lt_zero _), fun j hj => absurd hj (Nat.not_lt_zero _),
    fun j hj => absurd hj (Nat.not_lt_zero _)⟩
  · show line (candidates (Cert.KernelIdeal.Gen.k1_pay43 S)) b cl _ = _
    rw [hc, if_pos (show place _ (places m c b cl k) ≤ 1000 from (hf _).2 ⟨k, rfl⟩)]
    exact hin k
  · show line (candidates (Cert.KernelIdeal.Gen.k1_pay43 S)) b cl n = _
    rw [hc, if_neg fun h => ?_]
    obtain ⟨k, hk⟩ := (hf n).1 h
    exact hn k hk
  · show Cert.KernelIdeal.Gen.k1_pay58 (F := Ideal) (ix3 b cl j) = _
    pointwise [Cert.KernelIdeal.Gen.k1_pay58]
    rfl

/-- The kernel's buffers after its picking rounds, and the reference's after its own. -/
abbrev pickedK : Work Ideal := picked (iota .tc S2x80x128 32 [2] iota_S2x80x128_d2_w32) X (start S)
abbrev ended : Valuation Cert.ReferenceIdeal.τ Cert.ReferenceIdeal.sig (Elt Ideal) := STEP^[100] (entryContents Cert.ReferenceIdeal.Value.preI m c)

include hS hX hpre in
theorem alike (b : Fin 2) (cl : Fin 80) :
    Alike b cl (places m c b cl) (line (Cert.KernelIdeal.Gen.k1_pay43 S) b cl) 100 (pickedK S X) (ended m c) := by
  refine Alike.all b cl _ (places_inj m c b cl) _ (places_listed S m c hS b cl) X _ (fun k => ?_) _ (fun b cl j => ?_) (going_entry m c) (alike_start S m c hS hpre b cl)
  · simp only [bx_entry, boxes_in X m c hX]
    exact ⟨rfl, rfl, rfl, rfl, rfl⟩
  · pointwise

theorem slot_col (n : Fin 8000) : slot8 n = col (slotOf n) := rfl
theorem class_eq (n : Fin 8000) : class8 n = classOf n := rfl

include hS hX hpre in
theorem recs_kind (b : Fin 2) (n : Fin 8000) : recs (ended m c) b n = none' ∨ bar ≤ recs (ended m c) b n :=
  (alike S X m c hS hX hpre b (classOf n)).kind (slotOf n) (slotOf n).isLt

include hS hX hpre in
theorem recs_bot (b : Fin 2) (n : Fin 8000) : recs (ended m c) b n ≠ ⊥ := by
  intro e
  rcases recs_kind S X m c hS hX hpre b n with h | h
  · rw [e, none_eq] at h; exact absurd h.symm (EReal.coe_ne_bot _)
  · rw [e] at h; exact bar_bot h

include hS hX hpre in
theorem listed_flag (b : Fin 2) (n : Fin 8000) : listed (recs (ended m c) b n) ↔ rf (ended m c) (slotOf n) b (classOf n) = 1#1 := by
  rw [(alike S X m c hS hX hpre b (classOf n)).flag (slotOf n) (slotOf n).isLt]
  change listed (recs (ended m c) b n) ↔ BitVec.ofBool (decide (bar ≤ recs (ended m c) b n)) = 1#1
  rcases recs_kind S X m c hS hX hpre b n with h | h
  · rw [h]
    simp [listed_none, bar_none]
  · simp [listed_bar _ h, h]

include hS hX hpre in
theorem sel_flag (b : Fin 2) (n : Fin 8000) (u v : EReal) :
    (open Classical in if listed (recs (ended m c) b n) then u else v) = Scalar.select (rf (ended m c) (slotOf n) b (classOf n)) u v := by
  by_cases h : listed (recs (ended m c) b n)
  · rw [if_pos h, (listed_flag S X m c hS hX hpre b n).1 h]; rfl
  · rw [if_neg h, (BitVec.eq_zero_or_eq_one (rf (ended m c) (slotOf n) b (classOf n))).resolve_right fun e => h ((listed_flag S X m c hS hX hpre b n).2 e)]; rfl

include hS hX hpre in
theorem merging (b : Fin 2) : Merging (pickedK S X).x1 (pickedK S X).y1 (pickedK S X).x2 (pickedK S X).y2 b (recs (ended m c) b) (order (recs (ended m c) b)) 100
    (merged (pickedK S X).x1 (pickedK S X).y1 (pickedK S X).x2 (pickedK S X).y2 ⟨Cert.KernelIdeal.Gen.k1_pay67 (F := Ideal), Cert.KernelIdeal.Gen.k1_pay66 (F := Ideal), (pickedK S X).pc⟩) := by
  refine Merging.all _ _ _ _ b _ _ (order_listed _) (order_inj _) (order_surj _) (recs_bot S X m c hS hX hpre b) (Merging.start _ _ _ _ b _ _ (order_listed _) (order_inj _) (order_surj _) (recs_bot S X m c hS hX hpre b) _ (fun n => ?_) (fun cl j hj => ?_) ?_)
  · exact (alike S X m c hS hX hpre b (classOf n)).pc (slotOf n) (slotOf n).isLt
  · exact (alike S X m c hS hX hpre b cl).rest j hj
  · show Cert.KernelIdeal.Gen.k1_pay67 (F := Ideal) (ix3 b 0 0) = 0
    pointwise [Cert.KernelIdeal.Gen.k1_pay67]

theorem rank_place (b : Fin 2) (i : Fin 100) : rank (order (recs (ended m c) b)) i.val i.isLt = placeOf (ended m c) b i := by
  unfold rank placeOf
  rfl

include hS hX hpre in
theorem score_row (b : Fin 2) (i : Fin 100) : Cert.KernelIdeal.Nms.out S X (ix3 b (⟨i.val, by omega⟩ : Fin 128) 0) = (out_main_v114 (ended m c) (ix2 b i) : EReal) := by
  refine ((merging S X m c hS hX hpre b).row0 i.val i.isLt i.isLt).trans ?_
  rw [out_score, rank_place]
  exact sel_flag S X m c hS hX hpre b _ _ _

include hS hX hpre in
theorem class_row (b : Fin 2) (i : Fin 100) : Cert.KernelIdeal.Nms.out S X (ix3 b (⟨i.val, by omega⟩ : Fin 128) 5) = (out_main_v123 (ended m c) (ix2 b i) : EReal) := by
  refine ((merging S X m c hS hX hpre b).row5 i.val i.isLt i.isLt).trans ?_
  rw [out_class, rank_place]
  exact sel_flag S X m c hS hX hpre b _ _ _

include hS hX hpre in
theorem box_row (b : Fin 2) (i : Fin 100) (a : Fin 4) :
    Cert.KernelIdeal.Nms.out S X (ix3 b (⟨i.val, by omega⟩ : Fin 128) ⟨1 + a.val, by omega⟩) = (out_main_v118 (ended m c) (ix3 b i a) : EReal) := by
  rw [out_box]
  have h := alike S X m c hS hX hpre b (classOf (placeOf (ended m c) b i))
  have hs := (slotOf (placeOf (ended m c) b i)).isLt
  match a with
  | 0 =>
    refine ((merging S X m c hS hX hpre b).row1 i.val i.isLt i.isLt).trans ?_
    rw [rank_place, slot_col, class_eq, h.x1 _ hs]
    exact sel_flag S X m c hS hX hpre b _ _ _
  | 1 =>
    refine ((merging S X m c hS hX hpre b).row2 i.val i.isLt i.isLt).trans ?_
    rw [rank_place, slot_col, class_eq, h.y1 _ hs]
    exact sel_flag S X m c hS hX hpre b _ _ _
  | 2 =>
    refine ((merging S X m c hS hX hpre b).row3 i.val i.isLt i.isLt).trans ?_
    rw [rank_place, slot_col, class_eq, h.x2 _ hs]
    exact sel_flag S X m c hS hX hpre b _ _ _
  | 3 =>
    refine ((merging S X m c hS hX hpre b).row4 i.val i.isLt i.isLt).trans ?_
    rw [rank_place, slot_col, class_eq, h.y2 _ hs]
    exact sel_flag S X m c hS hX hpre b _ _ _

include hS hX hpre in
theorem tally_flags (b : Fin 2) : tally (recs (ended m c) b) (order (recs (ended m c) b)) 100 = (Finset.univ.filter fun i : Fin 100 => flagOf (ended m c) b i = 1#1).card := by
  classical
  unfold tally
  symm
  refine Finset.card_bij (fun (i : Fin 100) _ => (⟨i.val, by omega⟩ : Fin 8000)) (fun i hi => ?_) (fun i _ j _ h => ?_) (fun n hn => ?_)
  · have := (Finset.mem_filter.1 hi).2
    exact Finset.mem_filter.2 ⟨Finset.mem_univ _, i.isLt, (listed_flag S X m c hS hX hpre b _).2 this⟩
  · exact Fin.ext (Fin.mk.inj_iff.1 h)
  · have h := (Finset.mem_filter.1 hn).2
    exact ⟨⟨n.val, h.1⟩, Finset.mem_filter.2 ⟨Finset.mem_univ _, (listed_flag S X m c hS hX hpre b _).1 h.2⟩, rfl⟩

include hS hX hpre in
theorem count_row (b : Fin 2) : Ideal.fptosi 32 (Cert.KernelIdeal.Nms.out S X (ix3 b (⟨99, seat⟩ : Fin 128) 6)) = (out_main_v125 (ended m c) (ix1 b) : BitVec 32) := by
  rw [out_count, ← tally_flags S X m c hS hX hpre b]
  have e : Cert.KernelIdeal.Nms.out S X (ix3 b (⟨99, seat⟩ : Fin 128) 6) = ((tally (recs (ended m c) b) (order (recs (ended m c) b)) 100 : ℝ) : EReal) :=
    (merging S X m c hS hX hpre b).row6 99 (by omega) (by omega)
  rw [e, fptosi_nat]
  rw [tally_flags S X m c hS hX hpre b]
  exact lt_of_le_of_lt (Finset.card_le_univ _) (by simp)
end

end Cert.Join

end
-- ==== Proof.Tail.lean ====
/- The kernel program's results, of the array its second call leaves. -/
module

public import proofs.«01_k».proof.Proof.KPrepValue

@[expose] public section

set_option maxRecDepth 16384
set_option maxHeartbeats 4000000

noncomputable section

open Idealize.ShloMosaic Idealize.ShloMosaic.TcCoe

namespace Cert.KernelIdeal.Tail

open Cert.KernelIdeal Cert.KernelIdeal.Gen Cert.KernelIdeal.Region

variable (m : (ℓ : Loc nD τ sig) → Buf (Elt Ideal) ℓ) (c : Dev nD) (o : Vec Ideal S2x128x8 .f32) (ho : V7 m (outs m) c main_v6 = o)
include ho

theorem scores_at (b : Fin 2) (i : Fin 100) : V8 m (outs m) c main_v8 (ix2 b i) = o (ix3 b (⟨i.val, by omega⟩ : Fin 128) 0) := by
  unfold V8 hostOps2
  after_results_simp
  rw [ho]
  have l : ∀ z : Vec Ideal S2x128x8 .f32, shapeCast S2x100 (extractStridedSlice S2x100x1 ![0, 0, 0] z slices_S2x128x8_S2x100x1_0_0_0) shapeCasts_S2x100x1_S2x100 (ix2 b i) = z (ix3 b (⟨i.val, by omega⟩ : Fin 128) 0) := by
    intro z; pointwise
  exact l o

theorem boxes_at (b : Fin 2) (i : Fin 100) (a : Fin 4) : V8 m (outs m) c main_v9 (ix3 b i a) = o (ix3 b (⟨i.val, by omega⟩ : Fin 128) ⟨1 + a.val, by omega⟩) := by
  unfold V8 hostOps2
  after_results_simp
  rw [ho]
  have l : ∀ z : Vec Ideal S2x128x8 .f32, extractStridedSlice S2x100x4 ![0, 0, 1] z slices_S2x128x8_S2x100x4_0_0_1 (ix3 b i a) = z (ix3 b (⟨i.val, by omega⟩ : Fin 128) ⟨1 + a.val, by omega⟩) := by
    intro z; pointwise
  exact l o

theorem classes_at (b : Fin 2) (i : Fin 100) : V8 m (outs m) c main_v11 (ix2 b i) = o (ix3 b (⟨i.val, by omega⟩ : Fin 128) 5) := by
  unfold V8 hostOps2
  after_results_simp
  rw [ho]
  have l : ∀ z : Vec Ideal S2x128x8 .f32, shapeCast S2x100 (extractStridedSlice S2x100x1 ![0, 0, 5] z slices_S2x128x8_S2x100x1_0_0_5) shapeCasts_S2x100x1_S2x100 (ix2 b i) = z (ix3 b (⟨i.val, by omega⟩ : Fin 128) 5) := by
    intro z; pointwise
  exact l o

theorem counts_at (b : Fin 2) : V8 m (outs m) c main_v14 (ix1 b) = Ideal.fptosi 32 (o (ix3 b (⟨99, by omega⟩ : Fin 128) 6)) := by
  unfold V8 hostOps2
  after_results_simp
  rw [ho]
  have l : ∀ z : Vec Ideal S2x128x8 .f32, fptosi (F := Ideal) (φ := .f32) 32 (shapeCast S2 (extractStridedSlice S2x1x1 ![0, 99, 6] z slices_S2x128x8_S2x1x1_0_99_6) shapeCasts_S2x1x1_S2) (ix1 b) = Ideal.fptosi 32 (z (ix3 b (⟨99, by omega⟩ : Fin 128) 6)) := by
    intro z; pointwise; rfl
  exact l o

end Cert.KernelIdeal.Tail

end
-- ==== Proof.Pair.lean ====
/- The two programs' results are the same. -/
module

public import proofs.«01_k».proof.Proof.Join
public import proofs.«01_k».proof.Proof.Tail
public import proofs.«01_k».proof.Proof.Gen.ReferenceIdeal.Run
public import Idealize.ShloMosaic.Lib.Claim

@[expose] public section

set_option maxRecDepth 16384
set_option maxHeartbeats 4000000

noncomputable section

open Idealize.ShloMosaic Idealize.ShloMosaic.TcCoe Idealize.SL.Sem

namespace Cert.Pair

open Cert.Folds
open Cert.KernelIdeal (S8x2x80x6144 S8x2x8x6144 S2x128x8 S2x80x128)
open Cert.KernelIdeal.Gen (V6 V7 V8)
open Cert.KernelIdeal.Region (outs outs0)
open Cert.KernelIdeal.Table (scoreOf columnOf score_at box_at final6)
open Cert.ReferenceIdeal.Value (preds anchs out_main_v114 out_main_v118 out_main_v123 out_main_v125)

/-- The scores are passed on as they are. -/
theorem pass (s : Vec Ideal S8x2x80x6144 .f32) (k : Fin 8) (b : Fin 2) (c : Fin 80) (l : Fin 6144) :
    Cert.KernelIdeal.Gen.k1_pay43 s (ix4 k b c l) = s (ix4 k b c l) := by pointwise [Cert.KernelIdeal.Gen.k1_pay43]

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (h1 : preds m' c = m ((c.tc : Thread Cert.KernelIdeal.nD Cert.KernelIdeal.τ).loc Cert.KernelIdeal.main_arg1))
  (h2 : anchs m' c = m ((c.tc : Thread Cert.KernelIdeal.nD Cert.KernelIdeal.τ).loc Cert.KernelIdeal.main_arg2))
  [hs : Cert.Pre_settled.Facts]
  (h : Cert.Pre_settled.fn (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) (m ((c.tc : Thread Cert.KernelIdeal.nD Cert.KernelIdeal.τ).loc Cert.KernelIdeal.main_arg2)) = fun _ => 1#1)
include h1 h2 h

/-- Everything the reference's results are compared with, at once. -/
theorem rows : ∃ o : Vec Ideal S2x128x8 .f32, V7 m (outs m) c Cert.KernelIdeal.main_v6 = o ∧
    (∀ (b : Fin 2) (i : Fin 100), o (ix3 b (⟨i.val, by omega⟩ : Fin 128) 0) = (out_main_v114 (Cert.Join.ended m' c) (ix2 b i) : EReal)) ∧
    (∀ (b : Fin 2) (i : Fin 100), o (ix3 b (⟨i.val, by omega⟩ : Fin 128) 5) = (out_main_v123 (Cert.Join.ended m' c) (ix2 b i) : EReal)) ∧
    (∀ (b : Fin 2) (i : Fin 100) (a : Fin 4), o (ix3 b (⟨i.val, by omega⟩ : Fin 128) ⟨1 + a.val, by omega⟩) = (out_main_v118 (Cert.Join.ended m' c) (ix3 b i a) : EReal)) ∧
    (∀ b : Fin 2, Ideal.fptosi 32 (o (ix3 b (⟨99, by omega⟩ : Fin 128) 6)) = (out_main_v125 (Cert.Join.ended m' c) (ix1 b) : BitVec 32)) := by
  obtain ⟨t, ht⟩ := final6 m c
  have hS : ∀ b cl n, Cert.KernelIdeal.Nms.line (Cert.KernelIdeal.Gen.k1_pay43 (Cert.KernelIdeal.Region.scoreBlock (V6 m (outs0 m)) c t)) b cl n
      = Cert.Table.score n.val (Cert.KernelIdeal.Table.preds (preds m' c) (ix3 b n ⟨4 + cl.val, by omega⟩)) := by
    intro b cl n
    obtain ⟨k, l, rfl⟩ := at'_split n
    rw [Cert.KernelIdeal.Nms.line_at, pass, score_at, h1]
    rfl
  have hX : ∀ b r n, Cert.KernelIdeal.Nms.row (Cert.KernelIdeal.Region.boxBlock (V6 m (outs0 m)) c t) b r n
      = Cert.Table.row (fun q => Cert.KernelIdeal.Table.preds (preds m' c) (ix3 b n ⟨q.val, by omega⟩)) (fun q => Cert.KernelIdeal.Table.anchs (anchs m' c) (ix2 n ⟨q.val, by omega⟩)) r := by
    intro b r n
    obtain ⟨k, l, rfl⟩ := at'_split n
    rw [Cert.KernelIdeal.Nms.row_at, box_at, h1, h2]
    rfl
  have hpre := fun b cl (p q : ℝ) => Cert.Pre_settled.apart _ _ _ h b cl p q
  rw [← h1] at hpre
  exact ⟨_, ht, Cert.Join.score_row _ _ m' c hS hX hpre, Cert.Join.class_row _ _ m' c hS hX hpre, Cert.Join.box_row _ _ m' c hS hX hpre, Cert.Join.count_row _ _ m' c hS hX hpre⟩

theorem scores_same : (V8 m (outs m) c Cert.KernelIdeal.main_v8 : FVec Ideal Cert.KernelIdeal.S2x100 .f32) = out_main_v114 (Cert.Join.ended m' c) := by
  obtain ⟨o, ho, r0, -⟩ := rows m m' c h1 h2 h
  funext i
  idx_vars i
  exact (Cert.KernelIdeal.Tail.scores_at m c o ho i0 i1).trans (r0 i0 i1)

theorem classes_same : (V8 m (outs m) c Cert.KernelIdeal.main_v11 : FVec Ideal Cert.KernelIdeal.S2x100 .f32) = out_main_v123 (Cert.Join.ended m' c) := by
  obtain ⟨o, ho, -, r5, -⟩ := rows m m' c h1 h2 h
  funext i
  idx_vars i
  exact (Cert.KernelIdeal.Tail.classes_at m c o ho i0 i1).trans (r5 i0 i1)

theorem boxes_same : (V8 m (outs m) c Cert.KernelIdeal.main_v9 : FVec Ideal Cert.KernelIdeal.S2x100x4 .f32) = out_main_v118 (Cert.Join.ended m' c) := by
  obtain ⟨o, ho, -, -, r1, -⟩ := rows m m' c h1 h2 h
  funext i
  idx_vars i
  exact (Cert.KernelIdeal.Tail.boxes_at m c o ho i0 i1 i2).trans (r1 i0 i1 i2)

theorem counts_same : (V8 m (outs m) c Cert.KernelIdeal.main_v14 : IVec Cert.KernelIdeal.S2 32) = out_main_v125 (Cert.Join.ended m' c) := by
  obtain ⟨o, ho, -, -, -, r6⟩ := rows m m' c h1 h2 h
  funext i
  idx_vars i
  exact (Cert.KernelIdeal.Tail.counts_at m c o ho i0).trans (r6 i0)

omit h1 h2 hs h in
/-- Both programs end with the same results, and keep their arguments. -/
theorem same : Cert.algebraic_KernelIdeal_ReferenceIdeal_pre_settled (hKernelIdeal := Cert.KernelIdeal.Gen.facts)
    (hReferenceIdeal := Cert.ReferenceIdeal.Gen.facts) (hPre_settled := Cert.Pre_settled.facts) := by
  intro m g m' g' hpre hagree
  haveI := Cert.Pre_settled.facts
  refine ⟨fun c => V8 m (outs m) c Cert.KernelIdeal.main_v9, fun c => V8 m (outs m) c Cert.KernelIdeal.main_v8,
    fun c => V8 m (outs m) c Cert.KernelIdeal.main_v11, fun c => V8 m (outs m) c Cert.KernelIdeal.main_v14, ?_, ?_⟩
  · refine (θ_run (Cert.KernelIdeal.defs (F := Ideal)) _ _).mono (fun r h c => ?_) (Cert.KernelIdeal.Run.run m g)
    exact ⟨h.1 c (Proc.devRef .tc Cert.KernelIdeal.main_v9) (Finset.mem_filter.mpr ⟨StableHlo.devRef_mem_tcRefs Cert.KernelIdeal.main_v9, by decide⟩),
      h.1 c (Proc.devRef .tc Cert.KernelIdeal.main_v8) (Finset.mem_filter.mpr ⟨StableHlo.devRef_mem_tcRefs Cert.KernelIdeal.main_v8, by decide⟩),
      h.1 c (Proc.devRef .tc Cert.KernelIdeal.main_v11) (Finset.mem_filter.mpr ⟨StableHlo.devRef_mem_tcRefs Cert.KernelIdeal.main_v11, by decide⟩),
      h.1 c (Proc.devRef .tc Cert.KernelIdeal.main_v14) (Finset.mem_filter.mpr ⟨StableHlo.devRef_mem_tcRefs Cert.KernelIdeal.main_v14, by decide⟩),
      (h.1 c (Proc.devRef .tc Cert.KernelIdeal.main_arg0) (Finset.mem_filter.mpr ⟨StableHlo.devRef_mem_tcRefs Cert.KernelIdeal.main_arg0, by decide⟩)).trans (Cert.KernelIdeal.Gen.V8_main_arg0 m (outs m) c),
      (h.1 c (Proc.devRef .tc Cert.KernelIdeal.main_arg1) (Finset.mem_filter.mpr ⟨StableHlo.devRef_mem_tcRefs Cert.KernelIdeal.main_arg1, by decide⟩)).trans (Cert.KernelIdeal.Gen.V8_main_arg1 m (outs m) c),
      (h.1 c (Proc.devRef .tc Cert.KernelIdeal.main_arg2) (Finset.mem_filter.mpr ⟨StableHlo.devRef_mem_tcRefs Cert.KernelIdeal.main_arg2, by decide⟩)).trans (Cert.KernelIdeal.Gen.V8_main_arg2 m (outs m) c)⟩
  · refine (θ_run (Cert.ReferenceIdeal.defs (F := Ideal)) _ _).mono (fun r h c => ?_) (Cert.ReferenceIdeal.Value.run m' g')
    have e1 : preds m' c = _ := (hagree c).2.1
    have e2 : anchs m' c = _ := (hagree c).2.2
    exact ⟨(h c).1.trans (boxes_same m m' c e1 e2 (hpre c)).symm, (h c).2.1.trans (scores_same m m' c e1 e2 (hpre c)).symm,
      (h c).2.2.1.trans (classes_same m m' c e1 e2 (hpre c)).symm, (h c).2.2.2.1.trans (counts_same m m' c e1 e2 (hpre c)).symm, (h c).2.2.2.2⟩

end Cert.Pair

end
-- ==== Proof.lean ====
module

public import proofs.«01_k».proof.Defs
public import proofs.«01_k».proof.Proof.KRun
public import proofs.«01_k».proof.Proof.Pair
public import proofs.«01_k».proof.Proof.KIRun
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The reference's run keeps the arguments, and it declares no semaphore, so every counter reads zero. -/
theorem frame_reference : Cert.quiescent_ReferenceIdeal (hReferenceIdeal := Cert.ReferenceIdeal.Gen.facts) := fun m g _ =>
  (θ_run (Cert.ReferenceIdeal.defs (F := Ideal)) _ _).mono
    (fun r h => ⟨fun c => (h c).2.2.2.2, sem_eq_zero_of_no_sems rfl r.2⟩)
    (Cert.ReferenceIdeal.Value.run m g)

theorem claim : Cert.Claim := ⟨Cert.Kernel.Gen.facts, Cert.KernelIdeal.Gen.facts, Cert.ReferenceIdeal.Gen.facts, Cert.Pre_settled.facts,
  fun m g _ => Cert.Kernel.Run.quiescent m g,
  fun m g _ => Cert.KernelIdeal.Run.quiescent m g,
  fun m g _ => Cert.KernelIdeal.Run.quiescent m g,
  frame_reference,
  fun m g _ => frame_reference m g trivial,
  IdealRules.named_const.statement _ _ _ _ _ rfl,
  Cert.Pair.same⟩

end Cert.Proof

end
